-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v4) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v29_0)) (v1 : (c : Dev Cert.Kernel10Ideal.nD) → Buf (Elt Ideal) ((c.tc : Thread Cert.Kernel10Ideal.nD Cert.Kernel10Ideal.τ).loc Cert.Kernel10Ideal.main_v30)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v29_0) = v0 c
          ∧ r.2.mem ((c.tc : Thread Cert.Kernel10Ideal.nD Cert.Kernel10Ideal.τ).loc Cert.Kernel10Ideal.main_v30) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v52) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v5) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v38) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v4)) (v4 : (c : Dev Cert.Kernel20Ideal.nD) → Buf (Elt Ideal) ((c.tc : Thread Cert.Kernel20Ideal.nD Cert.Kernel20Ideal.τ).loc Cert.Kernel20Ideal.main_v5)) (v5 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v4) = v3 c
          ∧ r.2.mem ((c.tc : Thread Cert.Kernel20Ideal.nD Cert.Kernel20Ideal.τ).loc Cert.Kernel20Ideal.main_v5) = v4 c
          ∧ r.2.mem ((c.tc : Thread Cert.Kernel20Ideal.nD Cert.Kernel20Ideal.τ).loc Cert.Kernel20Ideal.main_v6) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v102) = v0 c
          ∧ r.2.mem ((c.tc : Thread Cert.Reference20Ideal.nD Cert.Reference20Ideal.τ).loc Cert.Reference20Ideal.main_v103) = v1 c
          ∧ r.2.mem ((c.tc : Thread Cert.Reference20Ideal.nD Cert.Reference20Ideal.τ).loc Cert.Reference20Ideal.main_v81) = v2 c
          ∧ r.2.mem ((c.tc : Thread Cert.Reference20Ideal.nD Cert.Reference20Ideal.τ).loc Cert.Reference20Ideal.main_v88) = v3 c
          ∧ r.2.mem ((c.tc : Thread Cert.Reference20Ideal.nD Cert.Reference20Ideal.τ).loc Cert.Reference20Ideal.main_v65) = v4 c
          ∧ r.2.mem ((c.tc : Thread Cert.Reference20Ideal.nD Cert.Reference20Ideal.τ).loc Cert.Reference20Ideal.main_v104) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v47) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S4096x512 : Shape := ⟨2, ![4096, 512]⟩
abbrev S_ : Shape := ⟨0, ![]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S8x128 : Shape := ⟨2, ![8, 128]⟩
abbrev S2048x128 : Shape := ⟨2, ![2048, 128]⟩
abbrev S2048x256 : Shape := ⟨2, ![2048, 256]⟩
abbrev S256x256 : Shape := ⟨2, ![256, 256]⟩
abbrev S2048x64 : Shape := ⟨2, ![2048, 64]⟩
abbrev S256x64 : Shape := ⟨2, ![256, 64]⟩
abbrev S1792x256 : Shape := ⟨2, ![1792, 256]⟩
abbrev S1792x64 : Shape := ⟨2, ![1792, 64]⟩
abbrev S1792x1 : Shape := ⟨2, ![1792, 1]⟩
abbrev S256x1 : Shape := ⟨2, ![256, 1]⟩
abbrev S1536x256 : Shape := ⟨2, ![1536, 256]⟩
abbrev S1536x64 : Shape := ⟨2, ![1536, 64]⟩
abbrev S1536x1 : Shape := ⟨2, ![1536, 1]⟩
abbrev S512x1 : Shape := ⟨2, ![512, 1]⟩
abbrev S512x64 : Shape := ⟨2, ![512, 64]⟩
abbrev S1280x256 : Shape := ⟨2, ![1280, 256]⟩
abbrev S1280x64 : Shape := ⟨2, ![1280, 64]⟩
abbrev S1280x1 : Shape := ⟨2, ![1280, 1]⟩
abbrev S768x1 : Shape := ⟨2, ![768, 1]⟩
abbrev S768x64 : Shape := ⟨2, ![768, 64]⟩
abbrev S1024x256 : Shape := ⟨2, ![1024, 256]⟩
abbrev S1024x64 : Shape := ⟨2, ![1024, 64]⟩
abbrev S1024x1 : Shape := ⟨2, ![1024, 1]⟩
abbrev S768x256 : Shape := ⟨2, ![768, 256]⟩
abbrev S512x256 : Shape := ⟨2, ![512, 256]⟩

abbrev nBuf : Space → Nat
  | .hbm => 60
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S2x2048x8x64, .f32⟩
  | .hbm, ⟨11, _⟩ => ⟨S2x8x2048x64, .f32⟩
  | .hbm, ⟨12, _⟩ => ⟨S2x2048x8x64, .f32⟩
  | .hbm, ⟨13, _⟩ => ⟨S2x8x2048x64, .f32⟩
  | .hbm, ⟨14, _⟩ => ⟨S2x8x2048x2048, .f32⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .i1⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S_, .f32⟩
  | .hbm, ⟨42, _⟩ => ⟨S2x8x2048x2048, .i1⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S2x8x2048, .f32⟩
  | .hbm, ⟨48, _⟩ => ⟨S2x8x2048x1, .f32⟩
  | .hbm, ⟨49, _⟩ => ⟨S2x8x2048x64, .f32⟩
  | .hbm, ⟨50, _⟩ => ⟨S2x2048x8x64, .f32⟩
  | .hbm, ⟨51, _⟩ => ⟨S4096x512, .f32⟩
  | .hbm, ⟨52, _⟩ => ⟨S_, .f32⟩
  | .hbm, ⟨53, _⟩ => ⟨S8x128, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c2048_i32 : BitVec 32 := 2048#32
  let v16 : BitVec 32 := Scalar.muli c0_i32 c2048_i32
  v16
def k0_off1 : Fin 2 → Nat :=
  let c0_i32 : BitVec 32 := 0#32
  let c2048_i32 : BitVec 32 := 2048#32
  let v16 : BitVec 32 := Scalar.muli c0_i32 c2048_i32
  let v17 : BitVec 32 := v16
  let v18 : Index := Scalar.indexCast v17
  let c0_4 : Index := 0#32
  ![v18.toNat, 0]
def k0_off2 : Fin 2 → Nat :=
  let c0_i32 : BitVec 32 := 0#32
  let c2048_i32 : BitVec 32 := 2048#32
  let v16 : BitVec 32 := Scalar.muli c0_i32 c2048_i32
  let v17 : BitVec 32 := v16
  let v21 : Index := Scalar.indexCast v17
  let c64 : Index := 64#32
  ![v21.toNat, 64]
@[reducible] def k0_t1_loop : Scf.Loop 32 :=
  let c0_i32_11 : BitVec 32 := 0#32
  let c0_i32 : BitVec 32 := 0#32
  let c8_i32 : BitVec 32 := 8#32
  let v40 : BitVec 32 := Scalar.muli c0_i32 c8_i32
  let v41 : BitVec 32 := Scalar.subi v40 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_12 : BitVec 32 := 1#32
  ⟨c0_i32_11, v45, c1_i32_12⟩
def k0_mult2 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c256_i32_324 : BitVec 32 := 256#32
  let v1229 : BitVec 32 := Scalar.muli arg11 c256_i32_324
  v1229
def k0_off3 (k0_t1 : Fin k0_t1_loop.trips) : Fin 2 → Nat :=
  let c0_i32_11 : BitVec 32 := 0#32
  let c1_i32_12 : BitVec 32 := 1#32
  let arg11 : BitVec 32 := Scf.iv c0_i32_11 c1_i32_12 k0_t1
  let c256_i32_324 : BitVec 32 := 256#32
  let v1229 : BitVec 32 := Scalar.muli arg11 c256_i32_324
  let v1230 : BitVec 32 := v1229
  let v1231 : Index := Scalar.indexCast v1230
  let c0_325 : Index := 0#32
  ![v1231.toNat, 0]
def k0_off4 (k0_t1 : Fin k0_t1_loop.trips) : Fin 2 → Nat :=
  let c0_i32_11 : BitVec 32 := 0#32
  let c1_i32_12 : BitVec 32 := 1#32
  let arg11 : BitVec 32 := Scf.iv c0_i32_11 c1_i32_12 k0_t1
  let c256_i32_324 : BitVec 32 := 256#32
  let v1229 : BitVec 32 := Scalar.muli arg11 c256_i32_324
  let v1230 : BitVec 32 := v1229
  let v1287 : Index := Scalar.indexCast v1230
  let c64_341 : Index := 64#32
  ![v1287.toNat, 64]
@[reducible] def k0_t2_loop : Scf.Loop 32 :=
  let c0_i32_11 : BitVec 32 := 0#32
  let c0_i32 : BitVec 32 := 0#32
  let c8_i32 : BitVec 32 := 8#32
  let v40 : BitVec 32 := Scalar.muli c0_i32 c8_i32
  let v41 : BitVec 32 := Scalar.subi v40 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let v42 : BitVec 32 := Scalar.addi c0_i32_11 v41
  let c1_i32_13 : BitVec 32 := 1#32
  ⟨v45, v42, c1_i32_13⟩
def k0_mult3 (k0_t2 : Fin k0_t2_loop.trips) : BitVec 32 :=
  let c0_i32_11 : BitVec 32 := 0#32
  let c0_i32 : BitVec 32 := 0#32
  let c8_i32 : BitVec 32 := 8#32
  let v40 : BitVec 32 := Scalar.muli c0_i32 c8_i32
  let v41 : BitVec 32 := Scalar.subi v40 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let c256_i32_324 : BitVec 32 := 256#32
  let v1229 : BitVec 32 := Scalar.muli arg11 c256_i32_324
  v1229
def k0_off5 (k0_t2 : Fin k0_t2_loop.trips) : Fin 2 → Nat :=
  let c0_i32_11 : BitVec 32 := 0#32
  let c0_i32 : BitVec 32 := 0#32
  let c8_i32 : BitVec 32 := 8#32
  let v40 : BitVec 32 := Scalar.muli c0_i32 c8_i32
  let v41 : BitVec 32 := Scalar.subi v40 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let c256_i32_324 : BitVec 32 := 256#32
  let v1229 : BitVec 32 := Scalar.muli arg11 c256_i32_324
  let v1230 : BitVec 32 := v1229
  let v1231 : Index := Scalar.indexCast v1230
  let c0_325 : Index := 0#32
  ![v1231.toNat, 0]
def k0_off6 (k0_t2 : Fin k0_t2_loop.trips) : Fin 2 → Nat :=
  let c0_i32_11 : BitVec 32 := 0#32
  let c0_i32 : BitVec 32 := 0#32
  let c8_i32 : BitVec 32 := 8#32
  let v40 : BitVec 32 := Scalar.muli c0_i32 c8_i32
  let v41 : BitVec 32 := Scalar.subi v40 c0_i32_11
  let c1_i32 : BitVec 32 := 1#32
  let v43 : BitVec 32 := Scalar.divsi v41 c1_i32
  let v44 : BitVec 32 := Scalar.muli v43 c1_i32
  let v45 : BitVec 32 := Scalar.addi c0_i32_11 v44
  let c1_i32_13 : BitVec 32 := 1#32
  let arg11 : BitVec 32 := Scf.iv v45 c1_i32_13 k0_t2
  let c256_i32_324 : BitVec 32 := 256#32
  let v1229 : BitVec 32 := Scalar.muli arg11 c256_i32_324
  let v1230 : BitVec 32 := v1229
  let v1287 : Index := Scalar.indexCast v1230
  let c64_341 : Index := 64#32
  ![v1287.toNat, 64]
def k0_mult4 : BitVec 32 :=
  let c0_i32 : BitVec 32 := 0#32
  let c2048_i32 : BitVec 32 := 2048#32
  let v16 : BitVec 32 := Scalar.muli c0_i32 c2048_i32
  let v17 : BitVec 32 := v16
  let c0_i32_14 : BitVec 32 := 0#32
  let v48 : BitVec 32 := Scalar.addi v17 c0_i32_14
  v48
def k0_off7 (c0_i32_14 : BitVec 32) : Fin 2 → Nat :=
  let c0_i32 : BitVec 32 := 0#32
  let c2048_i32 : BitVec 32 := 2048#32
  let v16 : BitVec 32 := Scalar.muli c0_i32 c2048_i32
  let v17 : BitVec 32 := v16
  let v48 : BitVec 32 := Scalar.addi v17 c0_i32_14
  let v49 : BitVec 32 := v48
  let v51 : Index := Scalar.indexCast v49
  let c0_15 : Index := 0#32
  ![v51.toNat, 0]
def k0_off8 (c0_i32_14 : BitVec 32) : Fin 2 → Nat :=
  let c0_i32 : BitVec 32 := 0#32
  let c2048_i32 : BitVec 32 := 2048#32
  let v16 : BitVec 32 := Scalar.muli c0_i32 c2048_i32
  let v17 : BitVec 32 := v16
  let v48 : BitVec 32 := Scalar.addi v17 c0_i32_14
  let v49 : BitVec 32 := v48
  let v113 : Index := Scalar.indexCast v49
  let c64_34 : Index := 64#32
  ![v113.toNat, 64]
def k0_mult5 : BitVec 32 :=
  let c0_i32 : BitVec 32 := 0#32
  let c2048_i32 : BitVec 32 := 2048#32
  let v16 : BitVec 32 := Scalar.muli c0_i32 c2048_i32
  let v17 : BitVec 32 := v16
  let c256_i32 : BitVec 32 := 256#32
  let v175 : BitVec 32 := Scalar.addi v17 c256_i32
  v175
def k0_mult6 : BitVec 32 :=
  let c0_i32 : BitVec 32 := 0#32
  let c2048_i32 : BitVec 32 := 2048#32
  let v16 : BitVec 32 := Scalar.muli c0_i32 c2048_i32
  let v17 : BitVec 32 := v16
  let c512_i32 : BitVec 32 := 512#32
  let v329 : BitVec 32 := Scalar.addi v17 c512_i32
  v329
def k0_mult7 : BitVec 32 :=
  let c0_i32 : BitVec 32 := 0#32
  let c2048_i32 : BitVec 32 := 2048#32
  let v16 : BitVec 32 := Scalar.muli c0_i32 c2048_i32
  let v17 : BitVec 32 := v16
  let c768_i32 : BitVec 32 := 768#32
  let v483 : BitVec 32 := Scalar.addi v17 c768_i32
  v483
def k0_mult8 : BitVec 32 :=
  let c0_i32 : BitVec 32 := 0#32
  let c2048_i32 : BitVec 32 := 2048#32
  let v16 : BitVec 32 := Scalar.muli c0_i32 c2048_i32
  let v17 : BitVec 32 := v16
  let c1024_i32 : BitVec 32 := 1024#32
  let v637 : BitVec 32 := Scalar.addi v17 c1024_i32
  v637
def k0_mult9 : BitVec 32 :=
  let c0_i32 : BitVec 32 := 0#32
  let c2048_i32 : BitVec 32 := 2048#32
  let v16 : BitVec 32 := Scalar.muli c0_i32 c2048_i32
  let v17 : BitVec 32 := v16
  let c1280_i32 : BitVec 32 := 1280#32
  let v791 : BitVec 32 := Scalar.addi v17 c1280_i32
  v791
def k0_mult10 : BitVec 32 :=
  let c0_i32 : BitVec 32 := 0#32
  let c2048_i32 : BitVec 32 := 2048#32
  let v16 : BitVec 32 := Scalar.muli c0_i32 c2048_i32
  let v17 : BitVec 32 := v16
  let c1536_i32 : BitVec 32 := 1536#32
  let v945 : BitVec 32 := Scalar.addi v17 c1536_i32
  v945
def k0_mult11 : BitVec 32 :=
  let c0_i32 : BitVec 32 := 0#32
  let c2048_i32 : BitVec 32 := 2048#32
  let v16 : BitVec 32 := Scalar.muli c0_i32 c2048_i32
  let v17 : BitVec 32 := v16
  let c1792_i32 : BitVec 32 := 1792#32
  let v1095 : BitVec 32 := Scalar.addi v17 c1792_i32
  v1095
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩

abbrev nBuf : Space → Nat
  | .hbm => 173
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S2x2048x8x64, .f32⟩
  | 5 => ⟨S2x8x2048x64, .f32⟩
  | 6 => ⟨S2x2048x8x64, .f32⟩
  | 7 => ⟨S2x8x2048x64, .f32⟩
  | 8 => ⟨S2x2048x8x64, .f32⟩
  | 9 => ⟨S2x8x2048x64, .f32⟩
  | 10 => ⟨S2x8x2048x2048, .f32⟩
  | 11 => ⟨S_, .f32⟩
  | 12 => ⟨S2x8x2048x2048, .f32⟩
  | 13 => ⟨S2x8x2048x2048, .f32⟩
  | 14 => ⟨S2048, .i32⟩
  | 15 => ⟨S2048x1, .i32⟩
  | 16 => ⟨S2048, .i32⟩
  | 17 => ⟨S1x2048, .i32⟩
  | 18 => ⟨S2048x2048, .i32⟩
  | 19 => ⟨S2048x2048, .i32⟩
  | 20 => ⟨S2048x2048, .i1⟩
  | 21 => ⟨S_, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .i1⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S_, .f32⟩
  | 36 => ⟨S2x8x2048x2048, .f32⟩
  | 37 => ⟨S2x8x2048x2048, .i1⟩
  | 38 => ⟨S_, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .i1⟩
  | 44 => ⟨S_, .f32⟩
  | 45 => ⟨S2x8x2048x2048, .f32⟩
  | 46 => ⟨S2x8x2048x2048, .f32⟩
  | 47 => ⟨S2x8x2048x2048, .f32⟩
  | 48 => ⟨S2x8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S2x8x2048x2048, .f32⟩
  | 57 => ⟨S2x8x2048x2048, .i1⟩
  | 58 => ⟨S_, .f32⟩
  | 59 => ⟨S2x8x2048x2048, .f32⟩
  | 60 => ⟨S2x8x2048x2048, .f32⟩
  | 61 => ⟨S2x8x2048x2048, .f32⟩
  | 62 => ⟨S2x8x2048x2048, .f32⟩
  | 63 => ⟨S2x8x2048x2048, .f32⟩
  | 64 => ⟨S_, .f32⟩
  | 65 => ⟨S2x8x2048x2048, .f32⟩
  | 66 => ⟨S2x8x2048x2048, .f32⟩
  | 67 => ⟨S2x8x2048x2048, .f32⟩
  | 68 => ⟨S_, .f32⟩
  | 69 => ⟨S_, .f32⟩
  | 70 => ⟨S2x8x2048x2048, .i1⟩
  | 71 => ⟨S2x8x2048x2048, .f32⟩
  | 72 => ⟨S2x8x2048x2048, .f32⟩
  | 73 => ⟨S_, .f32⟩
  | 74 => ⟨S2x8x2048x2048, .f32⟩
  | 75 => ⟨S_, .f32⟩
  | 76 => ⟨S_, .f32⟩
  | 77 => ⟨S2x8x2048x2048, .f32⟩
  | 78 => ⟨S2x8x2048x2048, .f32⟩
  | 79 => ⟨S2x8x2048x2048, .f32⟩
  | 80 => ⟨S_, .f32⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S2x8x2048x2048, .i1⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S_, .f32⟩
  | 95 => ⟨S2x8x2048x2048, .f32⟩
  | 96 => ⟨S2x8x2048x2048, .i1⟩
  | 97 => ⟨S_, .f32⟩
  | 98 => ⟨S2x8x2048x2048, .f32⟩
  | 99 => ⟨S2x8x2048x2048, .f32⟩
  | 100 => ⟨S_, .f32⟩
  | 101 => ⟨S2x8x2048x2048, .f32⟩
  | 102 => ⟨S2x8x2048x2048, .i1⟩
  | 103 => ⟨S_, .f32⟩
  | 104 => ⟨S2x8x2048x2048, .f32⟩
  | 105 => ⟨S2x8x2048x2048, .f32⟩
  | 106 => ⟨S2x8x2048x2048, .f32⟩
  | 107 => ⟨S2x8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S2x8x2048x2048, .f32⟩
  | 116 => ⟨S2x8x2048x2048, .i1⟩
  | 117 => ⟨S_, .f32⟩
  | 118 => ⟨S2x8x2048x2048, .f32⟩
  | 119 => ⟨S2x8x2048x2048, .f32⟩
  | 120 => ⟨S2x8x2048x2048, .f32⟩
  | 121 => ⟨S2x8x2048x2048, .f32⟩
  | 122 => ⟨S2x8x2048x2048, .f32⟩
  | 123 => ⟨S_, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S4096x512, .f32⟩

abbrev hbmTy0_1 (i : Nat) : BufTy := match i % 128 with
  | 0 => ⟨S2x8x2048x2048, .f32⟩
  | 1 => ⟨S_, .f32⟩
  | 2 => ⟨S_, .f32⟩
  | 3 => ⟨S2x8x2048x2048, .i1⟩
  | 4 => ⟨S2x8x2048x2048, .f32⟩
  | 5 => ⟨S2x8x2048x2048, .f32⟩
  | 6 => ⟨S_, .f32⟩
  | 7 => ⟨S2x8x2048x2048, .f32⟩
  | 8 => ⟨S2x8x2048x64, .f32⟩
  | 9 => ⟨S2x2048x8x64, .f32⟩
  | 10 => ⟨S4096x512, .f32⟩
  | 11 => ⟨S2x2048x8x64, .f32⟩
  | 12 => ⟨S2x8x2048x64, .f32⟩
  | 13 => ⟨S2x8x64x2048, .f32⟩
  | 14 => ⟨S2x8x2048x64, .f32⟩
  | 15 => ⟨S2x8x2048x2048, .f32⟩
  | 16 => ⟨S_, .f32⟩
  | 17 => ⟨S2x8x2048x2048, .f32⟩
  | 18 => ⟨S2x8x2048x2048, .f32⟩
  | 19 => ⟨S2x8x2048x2048, .f32⟩
  | 20 => ⟨S2x8x2048x2048, .f32⟩
  | 21 => ⟨S2x8x2048x2048, .f32⟩
  | 22 => ⟨S2x8x2048x2048, .f32⟩
  | 23 => ⟨S2x8x2048x2048, .f32⟩
  | 24 => ⟨S_, .f32⟩
  | 25 => ⟨S_, .f32⟩
  | 26 => ⟨S2x8x2048x2048, .f32⟩
  | 27 => ⟨S2x8x2048x2048, .f32⟩
  | 28 => ⟨S_, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S_, .f32⟩
  | 35 => ⟨S2x8x2048x2048, .f32⟩
  | 36 => ⟨S2x8x2048x2048, .f32⟩
  | 37 => ⟨S2x8x2048x64, .f32⟩
  | 38 => ⟨S2x8x2048x64, .f32⟩
  | 39 => ⟨S2x2048x8x64, .f32⟩
  | 40 => ⟨S4096x512, .f32⟩
  | 41 => ⟨S2x2048x8x64, .f32⟩
  | 42 => ⟨S4096x512, .f32⟩
  | 43 => ⟨S2x2048x8x64, .f32⟩
  | 44 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16_0 : Ref sig .tc := ⟨.hbm, 34, rfl⟩
abbrev main_call0_cst_0 : Ref sig .tc := ⟨.hbm, 35, rfl⟩
abbrev main_call0_v13 : Ref sig .tc := ⟨.hbm, 36, rfl⟩
abbrev main_call0_v14 : Ref sig .tc := ⟨.hbm, 37, rfl⟩
abbrev main_call0_cst_1 : Ref sig .tc := ⟨.hbm, 38, rfl⟩
abbrev main_call0_v15 : Ref sig .tc := ⟨.hbm, 39, rfl⟩
abbrev main_call0_v16 : Ref sig .tc := ⟨.hbm, 40, rfl⟩
abbrev main_call0_cst_2 : Ref sig .tc := ⟨.hbm, 41, rfl⟩
abbrev main_call0_v17 : Ref sig .tc := ⟨.hbm, 42, rfl⟩
abbrev main_call0_v18 : Ref sig .tc := ⟨.hbm, 43, rfl⟩
abbrev main_call0_cst_3 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v16_1 : Ref sig .tc := ⟨.hbm, 48, rfl⟩
abbrev main_call0_cst_4 : Ref sig .tc := ⟨.hbm, 49, rfl⟩
abbrev main_call0_cst_5 : Ref sig .tc := ⟨.hbm, 50, rfl⟩
abbrev main_call0_v23 : Ref sig .tc := ⟨.hbm, 51, rfl⟩
abbrev main_call0_cst_6 : Ref sig .tc := ⟨.hbm, 52, rfl⟩
abbrev main_call0_cst_7 : Ref sig .tc := ⟨.hbm, 53, rfl⟩
abbrev main_call0_v24 : Ref sig .tc := ⟨.hbm, 54, rfl⟩
abbrev main_call0_cst_8 : Ref sig .tc := ⟨.hbm, 55, rfl⟩
abbrev main_call0_v25 : Ref sig .tc := ⟨.hbm, 56, rfl⟩
abbrev main_call0_v26 : Ref sig .tc := ⟨.hbm, 57, rfl⟩
abbrev main_call0_cst_9 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_cst_10 : Ref sig .tc := ⟨.hbm, 64, rfl⟩
abbrev main_call0_v32 : Ref sig .tc := ⟨.hbm, 65, rfl⟩
abbrev main_v16_2 : Ref sig .tc := ⟨.hbm, 66, rfl⟩
abbrev main_v17 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_cst_2 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩

abbrev nD : Nat := 1
abbrev τ : Topo := Topo.v7x

variable {F : FTy → Type} [FloatOps F]
-- ==== Kernel2.lean ====
abbrev S4096x512 : Shape := ⟨2, ![4096, 512]⟩
abbrev S_ : Shape := ⟨0, ![]⟩
abbrev S2048x128 : Shape := ⟨2, ![2048, 128]⟩
abbrev S2048x256 : Shape := ⟨2, ![2048, 256]⟩
abbrev S256x256 : Shape := ⟨2, ![256, 256]⟩
abbrev S2048x64 : Shape := ⟨2, ![2048, 64]⟩
abbrev S2048x1 : Shape := ⟨2, ![2048, 1]⟩
abbrev S256x64 : Shape := ⟨2, ![256, 64]⟩
abbrev S256x1 : Shape := ⟨2, ![256, 1]⟩
abbrev S1792x64 : Shape := ⟨2, ![1792, 64]⟩
abbrev S1792x1 : Shape := ⟨2, ![1792, 1]⟩
abbrev S512x256 : Shape := ⟨2, ![512, 256]⟩
abbrev S512x64 : Shape := ⟨2, ![512, 64]⟩
abbrev S512x1 : Shape := ⟨2, ![512, 1]⟩
abbrev S1536x64 : Shape := ⟨2, ![1536, 64]⟩
abbrev S1536x1 : Shape := ⟨2, ![1536, 1]⟩
abbrev S768x256 : Shape := ⟨2, ![768, 256]⟩
abbrev S768x64 : Shape := ⟨2, ![768, 64]⟩
abbrev S768x1 : Shape := ⟨2, ![768, 1]⟩
abbrev S1280x64 : Shape := ⟨2, ![1280, 64]⟩
abbrev S1280x1 : Shape := ⟨2, ![1280, 1]⟩
abbrev S1024x256 : Shape := ⟨2, ![1024, 256]⟩
abbrev S1024x64 : Shape := ⟨2, ![1024, 64]⟩
abbrev S1024x1 : Shape := ⟨2, ![1024, 1]⟩
abbrev S1280x256 : Shape := ⟨2, ![1280, 256]⟩
abbrev S1536x256 : Shape := ⟨2, ![1536, 256]⟩
abbrev S1792x256 : Shape := ⟨2, ![1792, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .f32⟩
  | .hbm, ⟨10, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c2048_i32 : BitVec 32 := 2048#32
  let v8 : BitVec 32 := Scalar.muli c0_i32 c2048_i32
  v8
def k0_off1 : Fin 2 → Nat :=
  let c0_i32 : BitVec 32 := 0#32
  let c2048_i32 : BitVec 32 := 2048#32
  let v8 : BitVec 32 := Scalar.muli c0_i32 c2048_i32
  let v9 : BitVec 32 := v8
  let v10 : Index := Scalar.indexCast v9
  let c0 : Index := 0#32
  ![v10.toNat, 0]
def k0_off2 : Fin 2 → Nat :=
  let c0_i32 : BitVec 32 := 0#32
  let c2048_i32 : BitVec 32 := 2048#32
  let v8 : BitVec 32 := Scalar.muli c0_i32 c2048_i32
  let v9 : BitVec 32 := v8
  let v13 : Index := Scalar.indexCast v9
  let c64 : Index := 64#32
  ![v13.toNat, 64]
def k0_mult2 : BitVec 32 :=
  let c0_i32 : BitVec 32 := 0#32
  let c2048_i32 : BitVec 32 := 2048#32
  let v8 : BitVec 32 := Scalar.muli c0_i32 c2048_i32
  let v9 : BitVec 32 := v8
  let c1792_i32 : BitVec 32 := 1792#32
  let v18 : BitVec 32 := Scalar.addi v9 c1792_i32
  v18
def k0_off3 (c1792_i32 : BitVec 32) : Fin 2 → Nat :=
  let c0_i32 : BitVec 32 := 0#32
  let c2048_i32 : BitVec 32 := 2048#32
  let v8 : BitVec 32 := Scalar.muli c0_i32 c2048_i32
  let v9 : BitVec 32 := v8
  let v18 : BitVec 32 := Scalar.addi v9 c1792_i32
  let v19 : BitVec 32 := v18
  let v23 : Index := Scalar.indexCast v19
  let c0_1 : Index := 0#32
  ![v23.toNat, 0]
def k0_off4 (c1792_i32 : BitVec 32) : Fin 2 → Nat :=
  let c0_i32 : BitVec 32 := 0#32
  let c2048_i32 : BitVec 32 := 2048#32
  let v8 : BitVec 32 := Scalar.muli c0_i32 c2048_i32
  let v9 : BitVec 32 := v8
  let v18 : BitVec 32 := Scalar.addi v9 c1792_i32
  let v19 : BitVec 32 := v18
  let v63 : Index := Scalar.indexCast v19
  let c64_11 : Index := 64#32
  ![v63.toNat, 64]
def k0_mult3 : BitVec 32 :=
  let c0_i32 : BitVec 32 := 0#32
  let c2048_i32 : BitVec 32 := 2048#32
  let v8 : BitVec 32 := Scalar.muli c0_i32 c2048_i32
  let v9 : BitVec 32 := v8
  let c1536_i32 : BitVec 32 := 1536#32
  let v102 : BitVec 32 := Scalar.addi v9 c1536_i32
  v102
def k0_mult4 : BitVec 32 :=
  let c0_i32 : BitVec 32 := 0#32
  let c2048_i32 : BitVec 32 := 2048#32
  let v8 : BitVec 32 := Scalar.muli c0_i32 c2048_i32
  let v9 : BitVec 32 := v8
  let c1280_i32 : BitVec 32 := 1280#32
  let v186 : BitVec 32 := Scalar.addi v9 c1280_i32
  v186
def k0_mult5 : BitVec 32 :=
  let c0_i32 : BitVec 32 := 0#32
  let c2048_i32 : BitVec 32 := 2048#32
  let v8 : BitVec 32 := Scalar.muli c0_i32 c2048_i32
  let v9 : BitVec 32 := v8
  let c1024_i32 : BitVec 32 := 1024#32
  let v270 : BitVec 32 := Scalar.addi v9 c1024_i32
  v270
def k0_mult6 : BitVec 32 :=
  let c0_i32 : BitVec 32 := 0#32
  let c2048_i32 : BitVec 32 := 2048#32
  let v8 : BitVec 32 := Scalar.muli c0_i32 c2048_i32
  let v9 : BitVec 32 := v8
  let c768_i32 : BitVec 32 := 768#32
  let v354 : BitVec 32 := Scalar.addi v9 c768_i32
  v354
def k0_mult7 : BitVec 32 :=
  let c0_i32 : BitVec 32 := 0#32
  let c2048_i32 : BitVec 32 := 2048#32
  let v8 : BitVec 32 := Scalar.muli c0_i32 c2048_i32
  let v9 : BitVec 32 := v8
  let c512_i32 : BitVec 32 := 512#32
  let v438 : BitVec 32 := Scalar.addi v9 c512_i32
  v438
def k0_mult8 : BitVec 32 :=
  let c0_i32 : BitVec 32 := 0#32
  let c2048_i32 : BitVec 32 := 2048#32
  let v8 : BitVec 32 := Scalar.muli c0_i32 c2048_i32
  let v9 : BitVec 32 := v8
  let c256_i32 : BitVec 32 := 256#32
  let v522 : BitVec 32 := Scalar.addi v9 c256_i32
  v522
def k0_mult9 : BitVec 32 :=
  let c0_i32 : BitVec 32 := 0#32
  let c2048_i32 : BitVec 32 := 2048#32
  let v8 : BitVec 32 := Scalar.muli c0_i32 c2048_i32
  let v9 : BitVec 32 := v8
  let c0_i32_141 : BitVec 32 := 0#32
  let v606 : BitVec 32 := Scalar.addi v9 c0_i32_141
  v606
@[reducible] def k0_t1_loop : Scf.Loop 32 :=
  let c0_i32_162 : BitVec 32 := 0#32
  let c0_i32 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_163 : BitVec 32 := 1#32
  ⟨c0_i32_162, v678, c1_i32_163⟩
def k0_mult10 (k0_t1 : Fin k0_t1_loop.trips) : BitVec 32 :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  v695
def k0_off5 (k0_t1 : Fin k0_t1_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v697 : Index := Scalar.indexCast v696
  let c0_172 : Index := 0#32
  ![v697.toNat, 0]
def k0_off6 (k0_t1 : Fin k0_t1_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v725 : Index := Scalar.indexCast v696
  let c64_180 : Index := 64#32
  ![v725.toNat, 64]
@[reducible] def k0_t2_loop : Scf.Loop 32 :=
  let c0_i32_162 : BitVec 32 := 0#32
  let c0_i32 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let v675 : BitVec 32 := Scalar.addi c0_i32_162 v674
  let c1_i32_164 : BitVec 32 := 1#32
  ⟨v678, v675, c1_i32_164⟩
def k0_mult11 (k0_t2 : Fin k0_t2_loop.trips) : BitVec 32 :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  v695
def k0_off7 (k0_t2 : Fin k0_t2_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v697 : Index := Scalar.indexCast v696
  let c0_172 : Index := 0#32
  ![v697.toNat, 0]
def k0_off8 (k0_t2 : Fin k0_t2_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v725 : Index := Scalar.indexCast v696
  let c64_180 : Index := 64#32
  ![v725.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩

abbrev nBuf : Space → Nat
  | .hbm => 112
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S2x2048x8x64, .f32⟩
  | .hbm, ⟨4, _⟩ => ⟨S2x8x2048x64, .f32⟩
  | .hbm, ⟨5, _⟩ => ⟨S2x2048x8x64, .f32⟩
  | .hbm, ⟨6, _⟩ => ⟨S2x8x2048x64, .f32⟩
  | .hbm, ⟨7, _⟩ => ⟨S2x2048x8x64, .f32⟩
  | .hbm, ⟨8, _⟩ => ⟨S2x8x2048x64, .f32⟩
  | .hbm, ⟨9, _⟩ => ⟨S2x8x2048x2048, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S_, .f32⟩
  | .hbm, ⟨36, _⟩ => ⟨S_, .f32⟩
  | .hbm, ⟨37, _⟩ => ⟨S2x8x2048x2048, .i1⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S_, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .i1⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S2x8x2048x2048, .f32⟩
  | .hbm, ⟨62, _⟩ => ⟨S_, .f32⟩
  | .hbm, ⟨63, _⟩ => ⟨S_, .f32⟩
  | .hbm, ⟨64, _⟩ => ⟨S2x8x2048x2048, .i1⟩
  | .hbm, ⟨65, _⟩ => ⟨S2x8x2048x2048, .f32⟩
  | .hbm, ⟨66, _⟩ => ⟨S2x8x2048x2048, .f32⟩
  | .hbm, ⟨67, _⟩ => ⟨S2x8x2048x64, .f32⟩
  | .hbm, ⟨68, _⟩ => ⟨S2x2048x8x64, .f32⟩
  | .hbm, ⟨69, _⟩ => ⟨S4096x512, .f32⟩
  | .hbm, ⟨70, _⟩ => ⟨S2x2048x8x64, .f32⟩
  | .hbm, ⟨71, _⟩ => ⟨S2x8x2048x64, .f32⟩
  | .hbm, ⟨72, _⟩ => ⟨S2x2048x8x64, .f32⟩
  | .hbm, ⟨73, _⟩ => ⟨S2x8x2048x64, .f32⟩
  | .hbm, ⟨74, _⟩ => ⟨S2x8x2048x2048, .f32⟩
  | .hbm, ⟨75, _⟩ => ⟨S_, .f32⟩
  | .hbm, ⟨76, _⟩ => ⟨S2x8x2048x2048, .f32⟩
  | .hbm, ⟨77, _⟩ => ⟨S2x8x2048x2048, .f32⟩
  | .hbm, ⟨78, _⟩ => ⟨S2048, .i32⟩
  | .hbm, ⟨79, _⟩ => ⟨S2048x1, .i32⟩
  | .hbm, ⟨80, _⟩ => ⟨S2048, .i32⟩
  | .hbm, ⟨81, _⟩ => ⟨S1x2048, .i32⟩
  | .hbm, ⟨82, _⟩ => ⟨S2048x2048, .i32⟩
  | .hbm, ⟨83, _⟩ => ⟨S2048x2048, .i32⟩
  | .hbm, ⟨84, _⟩ => ⟨S2048x2048, .i1⟩
  | .hbm, ⟨85, _⟩ => ⟨S_, .f32⟩
  | .hbm, ⟨86, _⟩ => ⟨S2x8x2048x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S2x8x2048x2048, .i1⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S2x8x2048x2048, .f32⟩
  | .hbm, ⟨99, _⟩ => ⟨S2x8x2048x2048, .f32⟩
  | .hbm, ⟨100, _⟩ => ⟨S_, .f32⟩
  | .hbm, ⟨101, _⟩ => ⟨S_, .f32⟩
  | .hbm, ⟨102, _⟩ => ⟨S2x8x2048x2048, .i1⟩
  | .hbm, ⟨103, _⟩ => ⟨S2x8x2048x2048, .f32⟩
  | .hbm, ⟨104, _⟩ => ⟨S2x8x2048x2048, .f32⟩
  | .hbm, ⟨105, _⟩ => ⟨S_, .f32⟩
  | .hbm, ⟨106, _⟩ => ⟨S2x8x2048, .f32⟩
  | .hbm, ⟨107, _⟩ => ⟨S2x8x2048, .f32⟩
  | .hbm, ⟨108, _⟩ => ⟨S2x8x2048x1, .f32⟩
  | .hbm, ⟨109, _⟩ => ⟨S2x8x2048x64, .f32⟩
  | .hbm, ⟨110, _⟩ => ⟨S2x2048x8x64, .f32⟩
  | .hbm, ⟨111, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call5_cst : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_v5 : Ref sig .tc := ⟨.hbm, 91, rfl⟩
abbrev main_call5_v6 : Ref sig .tc := ⟨.hbm, 92, rfl⟩
abbrev main_call5_v7 : Ref sig .tc := ⟨.hbm, 93, rfl⟩
abbrev main_call5_v8 : Ref sig .tc := ⟨.hbm, 94, rfl⟩
abbrev main_call5_v9 : Ref sig .tc := ⟨.hbm, 95, rfl⟩
abbrev main_call5_v10 : Ref sig .tc := ⟨.hbm, 96, rfl⟩
abbrev main_call5_v11 : Ref sig .tc := ⟨.hbm, 97, rfl⟩
abbrev main_v42 : Ref sig .tc := ⟨.hbm, 98, rfl⟩
abbrev main_v43 : Ref sig .tc := ⟨.hbm, 99, rfl⟩
abbrev main_cst_3 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v44 : Ref sig .tc := ⟨.hbm, 104, rfl⟩
abbrev main_cst_4 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096x512 : Shape := ⟨2, ![4096, 512]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .bf16⟩
  | .hbm, ⟨11, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096x512 : Shape := ⟨2, ![4096, 512]⟩
abbrev S1024x512 : Shape := ⟨2, ![1024, 512]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | .hbm, ⟨25, _⟩ => ⟨S1024x4096, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel7.lean ====
abbrev S4096x1024 : Shape := ⟨2, ![4096, 1024]⟩
abbrev S1024x2048 : Shape := ⟨2, ![1024, 2048]⟩
abbrev S4096x2048 : Shape := ⟨2, ![4096, 2048]⟩
abbrev S4096x512 : Shape := ⟨2, ![4096, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S4096x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1x1024 : Shape := ⟨2, ![1, 1024]⟩
abbrev S64x1024 : Shape := ⟨2, ![64, 1024]⟩
abbrev S512x2048 : Shape := ⟨2, ![512, 2048]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x2048, .bf16⟩
  | .hbm, ⟨6, _⟩ => ⟨S1024x2048, .bf16⟩
  | .hbm, ⟨7, _⟩ => ⟨S1x1024, .f32⟩
  | .hbm, ⟨8, _⟩ => ⟨S4096x1024, .f32⟩
  | .hbm, ⟨9, _⟩ => ⟨S64x1024, .f32⟩
  | .hbm, ⟨10, _⟩ => ⟨S_, .f32⟩
  | .hbm, ⟨11, _⟩ => ⟨S1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S64x1024 : Shape := ⟨2, ![64, 1024]⟩
abbrev S512x4096 : Shape := ⟨2, ![512, 4096]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩

abbrev nBuf : Space → Nat
  | .hbm => 47
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S1024x4096, .bf16⟩
  | .hbm, ⟨42, _⟩ => ⟨S1x1024, .f32⟩
  | .hbm, ⟨43, _⟩ => ⟨S4096x1024, .f32⟩
  | .hbm, ⟨44, _⟩ => ⟨S64x1024, .f32⟩
  | .hbm, ⟨45, _⟩ => ⟨S_, .f32⟩
  | .hbm, ⟨46, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_cst_6 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference10Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel11.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S64x128 : Shape := ⟨2, ![64, 128]⟩
abbrev S512x4096 : Shape := ⟨2, ![512, 4096]⟩
abbrev S512x1024 : Shape := ⟨2, ![512, 1024]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S64x128, .f32⟩
  | .hbm, ⟨14, _⟩ => ⟨S_, .f32⟩
  | .hbm, ⟨15, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | .local _ .vmem, ⟨12, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_cst : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference11Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel12.lean ====
abbrev S1024x512 : Shape := ⟨2, ![1024, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S1024x512 : Shape := ⟨2, ![1024, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel13Ideal.lean ====
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel14Ideal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference14Ideal.lean ====
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S4096x512 : Shape := ⟨2, ![4096, 512]⟩
abbrev S512x512 : Shape := ⟨2, ![512, 512]⟩
abbrev S512 : Shape := ⟨1, ![512]⟩

abbrev nBuf : Space → Nat
  | .hbm => 6
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .bf16⟩
  | .hbm, ⟨5, _⟩ => ⟨S512x512, .f32⟩
  | .local _ .vmem, ⟨0, _⟩ => ⟨S4096x512, .f32⟩
  | .local _ .vmem, ⟨1, _⟩ => ⟨S4096x512, .bf16⟩
  | .local _ .vmem, ⟨2, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S_, .f32⟩
  | .hbm, ⟨41, _⟩ => ⟨S512, .f32⟩
  | .hbm, ⟨42, _⟩ => ⟨S512x512, .f32⟩
  | .hbm, ⟨43, _⟩ => ⟨S512x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel17.lean ====
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512x512, .bf16⟩
  | .hbm, ⟨4, _⟩ => ⟨S1x512, .f32⟩
  | .hbm, ⟨5, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel19.lean ====
abbrev S4096x512 : Shape := ⟨2, ![4096, 512]⟩
abbrev S512x512 : Shape := ⟨2, ![512, 512]⟩
abbrev S512 : Shape := ⟨1, ![512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S4096x512, .bf16⟩
  | .hbm, ⟨6, _⟩ => ⟨S512x512, .bf16⟩
  | .hbm, ⟨7, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference19Ideal.lean ====
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel20.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S1x512 : Shape := ⟨2, ![1, 512]⟩
abbrev S64x512 : Shape := ⟨2, ![64, 512]⟩
abbrev S512x1024 : Shape := ⟨2, ![512, 1024]⟩
abbrev S512x512 : Shape := ⟨2, ![512, 512]⟩
abbrev S8x512 : Shape := ⟨2, ![8, 512]⟩
abbrev S512x1 : Shape := ⟨2, ![512, 1]⟩
abbrev S_ : Shape := ⟨0, ![]⟩

abbrev nBuf : Space → Nat
  | .hbm => 22
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4096x1024, .f32⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S64x512, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== Reference20Ideal.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S512, .f32⟩
  | 4 => ⟨S512, .f32⟩
  | 5 => ⟨S1024x1024, .f32⟩
  | 6 => ⟨S4096x1024, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x512, .f32⟩
  | 73 => ⟨S4096x512, .f32⟩
  | 74 => ⟨S1x512, .f32⟩
  | 75 => ⟨S4096x512, .f32⟩
  | 76 => ⟨S4096x512, .f32⟩
  | 77 => ⟨S4096x1024, .f32⟩
  | 78 => ⟨S4096x1024, .f32⟩
  | 79 => ⟨S4096x1024, .f32⟩
  | 80 => ⟨S4096x512, .f32⟩
  | 81 => ⟨S4096x512, .f32⟩
  | 82 => ⟨S4096x512, .f32⟩
  | 83 => ⟨S_, .f32⟩
  | 84 => ⟨S512, .f32⟩
  | 85 => ⟨S1x512, .f32⟩
  | 86 => ⟨S4096x512, .f32⟩
  | 87 => ⟨S4096x512, .f32⟩
  | 88 => ⟨S_, .f32⟩
  | 89 => ⟨S512, .f32⟩
  | 90 => ⟨S4096x512, .f32⟩
  | 91 => ⟨S_, .f32⟩
  | 92 => ⟨S4096, .f32⟩
  | 93 => ⟨S4096x1, .f32⟩
  | 94 => ⟨S4096x512, .f32⟩
  | 95 => ⟨S4096x512, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S_, .f32⟩
  | 112 => ⟨S512, .f32⟩
  | 113 => ⟨S1x512, .f32⟩
  | 114 => ⟨S4096x512, .f32⟩
  | 115 => ⟨S4096x512, .f32⟩
  | 116 => ⟨S_, .f32⟩
  | 117 => ⟨S512, .f32⟩
  | 118 => ⟨S4096x512, .f32⟩
  | 119 => ⟨S_, .f32⟩
  | 120 => ⟨S4096, .f32⟩
  | 121 => ⟨S4096x1, .f32⟩
  | 122 => ⟨S4096x512, .f32⟩
  | 123 => ⟨S4096x512, .f32⟩
  | 124 => ⟨S4096x1, .f32⟩
  | 125 => ⟨S_, .f32⟩
  | 126 => ⟨S4096x1, .f32⟩
  | 127 => ⟨S4096x1, .f32⟩
  | _ => ⟨S4096x512, .f32⟩

abbrev hbmTy0_1 (i : Nat) : BufTy := match i % 128 with
  | 0 => ⟨S_, .f32⟩
  | 1 => ⟨S4096, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .bf16⟩
  | 8 => ⟨S_, .f32⟩
  | 9 => ⟨S512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_20 : Ref sig .tc := ⟨.hbm, 116, rfl⟩
abbrev main_v88 : Ref sig .tc := ⟨.hbm, 117, rfl⟩
abbrev main_v89 : Ref sig .tc := ⟨.hbm, 118, rfl⟩
abbrev main_cst_21 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel21.lean ====
abbrev S4096x512 : Shape := ⟨2, ![4096, 512]⟩
abbrev S512 : Shape := ⟨1, ![512]⟩
abbrev S1x512 : Shape := ⟨2, ![1, 512]⟩
abbrev S4096x1024 : Shape := ⟨2, ![4096, 1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x1024 : Shape := ⟨2, ![4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x512, .f32⟩
  | .hbm, ⟨59, _⟩ => ⟨S4096x512, .f32⟩
  | .hbm, ⟨60, _⟩ => ⟨S1x512, .f32⟩
  | .hbm, ⟨61, _⟩ => ⟨S4096x512, .f32⟩
  | .hbm, ⟨62, _⟩ => ⟨S4096x512, .f32⟩
  | .hbm, ⟨63, _⟩ => ⟨S4096x1024, .f32⟩
  | .hbm, ⟨64, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel22.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.BwdLoops.lean ====
/- The two counted loops of the attention's backward call make no trip (one block of query rows covers the whole
   sequence, so no key tile lies before it): their invariants say that the carried value is the initial one. -/
module

public import proofs.«01_k».proof.Proof.Gen.KernelIdeal.Loops

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Loop `k0_t1` makes no trip. -/
theorem no_trip_k0_t1 (k : Fin (Scf.trips k0_t1_loop.lb k0_t1_loop.ub k0_t1_loop.st)) : False :=
  Nat.not_lt_zero k.val (k.isLt.trans_eq (show Scf.trips k0_t1_loop.lb k0_t1_loop.ub k0_t1_loop.st = 0 by decide +kernel))

/-- The invariant of loop `k0_t1`: it carries its initial value. -/
@[sl_loop, instance_reducible] def loopInv_k0_t1 {𝒱 : Variants} {bd : Option 𝒱.V} (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .hbm S8x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (v0 : IVec S2048x256 32) (v1 : IVec S2048x256 32) (v7 : FVec F S256x256 .bf16) (v11 : FVec F S256x256 .bf16) (c0_i32 : BitVec 32) (v17 : BitVec 32) (v20 : FVec F S2048x64 .bf16) (v23 : FVec F S2048x64 .bf16) (v26 : FVec F S2048x64 .bf16) (v29 : FVec F S2048x64 .bf16) (v33 : FVec F S2048x1 .f32) (v37 : FVec F S2048x1 .f32) (v38 : FVec F S2048x1 .f32) (v39 : FVec F S2048x64 .f32) (init : FVec F S2048x1 .f32 × FVec F S2048x1 .f32 × FVec F S2048x64 .f32 × FVec F S2048x1 .f32 × FVec F S2048x1 .f32 × FVec F S2048x64 .f32) :
    Cert.KernelIdeal.Gen.LoopInvTy_k0_t1 (F := F) Unit ℕ (UR sig nD τ) ℕ 𝒱 c bd Set.univ i arg2 harg2 arg3 harg3 arg4 harg4 arg5 harg5 arg6 harg6 arg7 harg7 arg8 harg8 arg9 harg9 arg10 harg10 v0 v1 v7 v11 c0_i32 v17 v20 v23 v26 v29 v33 v37 v38 v39 init where
  inv := fun _ acc => iprop(⌜acc = init⌝)
  step := fun k _ => (no_trip_k0_t1 k).elim

/-- Loop `k0_t2` makes no trip. -/
theorem no_trip_k0_t2 (k : Fin (Scf.trips k0_t2_loop.lb k0_t2_loop.ub k0_t2_loop.st)) : False :=
  Nat.not_lt_zero k.val (k.isLt.trans_eq (show Scf.trips k0_t2_loop.lb k0_t2_loop.ub k0_t2_loop.st = 0 by decide +kernel))

/-- The invariant of loop `k0_t2`: it carries its initial value. -/
@[sl_loop, instance_reducible] def loopInv_k0_t2 {𝒱 : Variants} {bd : Option 𝒱.V} (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .hbm S8x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (v0 : IVec S2048x256 32) (v1 : IVec S2048x256 32) (v7 : FVec F S256x256 .bf16) (v11 : FVec F S256x256 .bf16) (c0_i32 : BitVec 32) (v17 : BitVec 32) (v20 : FVec F S2048x64 .bf16) (v23 : FVec F S2048x64 .bf16) (v26 : FVec F S2048x64 .bf16) (v29 : FVec F S2048x64 .bf16) (v33 : FVec F S2048x1 .f32) (v37 : FVec F S2048x1 .f32) (v38 : FVec F S2048x1 .f32) (v39 : FVec F S2048x64 .f32) (v45 : BitVec 32) (init : FVec F S2048x1 .f32 × FVec F S2048x1 .f32 × FVec F S2048x64 .f32 × FVec F S2048x1 .f32 × FVec F S2048x1 .f32 × FVec F S2048x64 .f32) :
    Cert.KernelIdeal.Gen.LoopInvTy_k0_t2 (F := F) Unit ℕ (UR sig nD τ) ℕ 𝒱 c bd Set.univ i arg2 harg2 arg3 harg3 arg4 harg4 arg5 harg5 arg6 harg6 arg7 harg7 arg8 harg8 arg9 harg9 arg10 harg10 v0 v1 v7 v11 c0_i32 v17 v20 v23 v26 v29 v33 v37 v38 v39 v45 init where
  inv := fun _ acc => iprop(⌜acc = init⌝)
  step := fun k _ => (no_trip_k0_t2 k).elim

end Cert.Proof.KernelIdeal

end
-- ==== Proof.BwdRun.lean ====
/- One run of the backward call's body on whole staging buffers: what its stores leave in the buffers of dq, dk, dv. -/
module

public import proofs.«01_k».proof.Proof.Gen.KernelIdeal.Frame
public import proofs.«01_k».proof.Proof.BwdLoops

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.KernelIdeal

set_option maxHeartbeats 4000000 in
/-- The stores that one run of the body makes into dq's, dk's and dv's buffers (the last one first), and the body's
    triple: from the five input buffers at `x0`…`x4` and the three output buffers at anything, the body runs through, leaves
    the inputs as they were and the outputs with those stores written. -/
noncomputable def bodyRun (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .hbm S8x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole)
    (x0 x1 x2 : Vec F S2048x128 .bf16) (x3 x4 : Vec F S2048x128 .f32) :
    Σ' (Ldq : List (View.Piece (Elt F) S2048x128 .f32)) (Ldk : List (View.Piece (Elt F) S2048x128 .f32)), { Ldv : List (View.Piece (Elt F) S2048x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f Ldq) ∗ (∃ f, arg9.view.loc (c : Thread nD τ) ↦[arg9.view.set]{fullShare} arg9.view.writes (Elt F) f Ldk) ∗ (∃ f, arg10.view.loc (c : Thread nD τ) ↦[arg10.view.set]{fullShare} arg10.view.writes (Elt F) f Ldv)) -∗ K ⟨⟩))
          ⊢ wp frame (wpE (defs₀ (F := F)) Variants.none c none) Set.univ (cc0_attn_bwd i arg2 harg2 arg3 harg3 arg4 harg4 arg5 harg5 arg6 harg6 arg7 harg7 arg8 harg8 arg9 harg9 arg10 harg10) K } := by
  refine ⟨?_, ?_, ?_, fun K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Proof.Bwd

end
-- ==== Proof.BwdFrame.lean ====
/- The frame of the backward call: the body at every grid point, the launch, and the arguments left as they were. Stated over
   any float values, so that both frames are this one run. -/
module

public import proofs.«01_k».proof.Proof.BwdRun
public import Idealize.ShloMosaic.Lib.Ring
public import Idealize.ShloMosaic.Lib.Claim

@[expose] public section

set_option maxRecDepth 16384

noncomputable section

namespace Cert.Proof.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in its three output buffers -/

/-- The staging buffers through which the outputs' contents are read. -/
abbrev VDq : View sig .tc .vmem S2048x128 .f32 := (Memref.whole cc0_stg5_0 : Memref sig .tc .vmem S2048x128 .f32).view
abbrev VDk : View sig .tc .vmem S2048x128 .f32 := (Memref.whole cc0_stg6_0 : Memref sig .tc .vmem S2048x128 .f32).view
abbrev VDv : View sig .tc .vmem S2048x128 .f32 := (Memref.whole cc0_stg7_0 : Memref sig .tc .vmem S2048x128 .f32).view

section Outs

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .hbm S8x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole)
    (x0 x1 x2 : Vec F S2048x128 .bf16) (x3 x4 : Vec F S2048x128 .f32)

/-- The two halves of dq's block are both stored. -/
theorem cover_dq (y : S2048x128.Idx) : ∃ pc ∈ (bodyRun c i arg2 harg2 arg3 harg3 arg4 harg4 arg5 harg5 arg6 harg6 arg7 harg7 arg8 harg8 arg9 harg9 arg10 harg10 x0 x1 x2 x3 x4).1, y ∈ pc.1.set :=
  View.cover_of_tiledL (bodyRun c i arg2 harg2 arg3 harg3 arg4 harg4 arg5 harg5 arg6 harg6 arg7 harg7 arg8 harg8 arg9 harg9 arg10 harg10 x0 x1 x2 x3 x4).1 S2048x64.size (by sl_kernel_rfl) y

/-- A list of stores that begins with one into the whole block covers the block. -/
theorem cover_of_whole (L : List (View.Piece (Elt F) S2048x128 .f32))
    (h : ∃ pc ∈ L, pc.1 = Rect.unit ![0, 0] S2048x128.size inb_S2048x128_S2048x128_0_0) (y : S2048x128.Idx) : ∃ pc ∈ L, y ∈ pc.1.set := by
  obtain ⟨pc, hp, he⟩ := h
  refine ⟨pc, hp, ?_⟩
  rw [he]
  exact Rect.mem_set_unit.2 fun a => by fin_cases a <;> exact ⟨Nat.zero_le _, (y _).isLt.trans_eq (Nat.zero_add _).symm⟩

/-- dk's block begins as a block of zeros. -/
theorem cover_dk (y : S2048x128.Idx) : ∃ pc ∈ (bodyRun c i arg2 harg2 arg3 harg3 arg4 harg4 arg5 harg5 arg6 harg6 arg7 harg7 arg8 harg8 arg9 harg9 arg10 harg10 x0 x1 x2 x3 x4).2.1, y ∈ pc.1.set :=
  cover_of_whole _ ⟨_, List.mem_of_getLast? (by rfl), rfl⟩ y

/-- dv's block begins as a block of zeros. -/
theorem cover_dv (y : S2048x128.Idx) : ∃ pc ∈ (bodyRun c i arg2 harg2 arg3 harg3 arg4 harg4 arg5 harg5 arg6 harg6 arg7 harg7 arg8 harg8 arg9 harg9 arg10 harg10 x0 x1 x2 x3 x4).2.2.1, y ∈ pc.1.set :=
  cover_of_whole _ ⟨_, List.mem_of_getLast? (by rfl), rfl⟩ y

/-- What one run of the body leaves in dq's block, -/
def outDq : Vec F S2048x128 .f32 := VDq.read (Elt F) (VDq.writes (Elt F) VDq.junk (bodyRun c i arg2 harg2 arg3 harg3 arg4 harg4 arg5 harg5 arg6 harg6 arg7 harg7 arg8 harg8 arg9 harg9 arg10 harg10 x0 x1 x2 x3 x4).1)
/-- in dk's, -/
def outDk : Vec F S2048x128 .f32 := VDk.read (Elt F) (VDk.writes (Elt F) VDk.junk (bodyRun c i arg2 harg2 arg3 harg3 arg4 harg4 arg5 harg5 arg6 harg6 arg7 harg7 arg8 harg8 arg9 harg9 arg10 harg10 x0 x1 x2 x3 x4).2.1)
/-- and in dv's. -/
def outDv : Vec F S2048x128 .f32 := VDv.read (Elt F) (VDv.writes (Elt F) VDv.junk (bodyRun c i arg2 harg2 arg3 harg3 arg4 harg4 arg5 harg5 arg6 harg6 arg7 harg7 arg8 harg8 arg9 harg9 arg10 harg10 x0 x1 x2 x3 x4).2.2.1)

end Outs

/-! ## The pipeline's data -/

/-- The outputs' blocks after the body at grid point `t`. -/
def dqAt (c : Dev nD) (t : Fin cfg0.N) : Vec F S2048x128 .f32 := outDq c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v28) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t)
def dkAt (c : Dev nD) (t : Fin cfg0.N) : Vec F S2048x128 .f32 := outDk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v28) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t)
def dvAt (c : Dev nD) (t : Fin cfg0.N) : Vec F S2048x128 .f32 := outDv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v28) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t)

/-- The pipeline on core `c`: the arrays as the region finds them; after the body at `t` every input buffer still at its
    block and the output buffers at `dqAt`, `dkAt`, `dvAt`; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t
    | ⟨7, _⟩ => dvAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqAt m c t := by dsimp only [dats]
theorem after_6 (c : Dev nD) (t : Fin cfg0.N) : (dats m 0 c).after 6 t = dkAt m c t := by dsimp only [dats]
theorem after_7 (c : Dev nD) (t : Fin cfg0.N) : (dats m 0 c).after 7 t = dvAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a grid point -/

/-- What the body finds at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it leaves. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

/-- The body at any point, from its run on the point's buffers and blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  unfold dqAt dkAt dvAt outDq outDk outDv
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ (iblk m c 0 t) (iblk m c 1 t) (iblk m c 2 t) (iblk m c 3 t) (iblk m c 4 t)).2.2.2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover_dq c _ _ _ _ _ _ _ _ _ _ _ _ _ _ _ _ _ _ _ _ _ _ _ _)
  isplitl [H6]
  · unfold owns; iexists _; isplitr
    swap; · iexact H6
    ipureintro; exact View.read_writes_of_cover _ _ _ _ _ (cover_dk c _ _ _ _ _ _ _ _ _ _ _ _ _ _ _ _ _ _ _ _ _ _ _ _)
  unfold owns; iexists _; isplitr
  swap; · iexact H7
  ipureintro; exact View.read_writes_of_cover _ _ _ _ _ (cover_dv c _ _ _ _ _ _ _ _ _ _ _ _ _ _ _ _ _ _ _ _ _ _ _ _)

/-- The body table's row at point `t` is the body on that point's buffers. -/
theorem row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, row]
  exact triple_restated (body_sound m c t) rfl .rfl fun _ => .rfl

/-! ## The launch -/

set_option backward.isDefEq.respectTransparency.types false in
/-- Every execution ends; every array of the pipeline then holds what the pipeline computes from `dats`, every other buffer
    what the host lines leave in it, and every semaphore counter is zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without its counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the arguments end as they began, and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Proof.Bwd

end
-- ==== Proof.FrameBits.lean ====
/- The frames of the two calls at the machine's floats, from the ideal programs' runs: the programs' texts are the same. -/
module

public import proofs.«01_k».proof.Defs
public import proofs.«01_k».proof.Proof.Gen.Kernel
public import proofs.«01_k».proof.Proof.Gen.Kernel2
public import proofs.«01_k».proof.Proof.BwdFrame
public import proofs.«01_k».proof.Proof.Gen.Kernel2Ideal.Frame
public import Idealize.ShloMosaic.Adequacy
public import Idealize.ShloMosaic.Init

@[expose] public section

noncomputable section

namespace Cert.Proof

open Idealize.ShloMosaic Idealize.SL.Sem

/-- The forward call's body is the same function in the two programs. -/
theorem fwd_body_eq : @Cert.Kernel2.cc0_attn_fwd Bits _ Cert.Kernel2.Gen.facts = @Cert.Kernel2Ideal.cc0_attn_fwd Bits _ Cert.Kernel2Ideal.Gen.facts := by rfl

/-- So the body tables agree. -/
theorem fwd_defs₀_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  congr 1
  funext a b
  rcases a with ⟨_ | a, h⟩
  · exact congrFun (congrFun (congrFun (congrFun (congrFun (congrFun (congrFun (congrFun (congrFun (congrFun (congrFun fwd_body_eq _) _) _) _) _) _) _) _) _) _) _
  · exact absurd h (Nat.not_lt.2 (Nat.le_add_left _ _))

/-- The forward call's frame at the machine's floats. -/
theorem frame_kernel2 : Cert.quiescent_Kernel2 := fun m ρ _ =>
  Eq.mpr (congrArg (fun d => θ_run (Pipeline.defs Cert.Kernel2.pcfgs d) (onTc (τ := Cert.Kernel2.τ) (Cert.Kernel2.main (F := Bits))) ⟨m, fun _ => 0, ρ⟩ _) fwd_defs₀_eq)
    (Cert.Kernel2Ideal.Gen.frame (F := Bits) m ρ)

/-- The backward call's body is the same function in the two programs. -/
theorem bwd_body_eq : @Cert.Kernel.cc0_attn_bwd Bits _ Cert.Kernel.Gen.facts = @Cert.KernelIdeal.cc0_attn_bwd Bits _ Cert.KernelIdeal.Gen.facts := by rfl

/-- So the body tables agree. -/
theorem bwd_defs₀_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext a b
  rcases a with ⟨_ | a, h⟩
  · exact congrFun (congrFun (congrFun (congrFun (congrFun (congrFun (congrFun (congrFun (congrFun (congrFun (congrFun (congrFun (congrFun (congrFun (congrFun (congrFun (congrFun (congrFun (congrFun bwd_body_eq _) _) _) _) _) _) _) _) _) _) _) _) _) _) _) _) _) _) _
  · exact absurd h (Nat.not_lt.2 (Nat.le_add_left _ _))

set_option maxHeartbeats 4000000 in
/-- The backward call's frame at the machine's floats. -/
theorem frame_kernel : Cert.quiescent_Kernel := fun m ρ _ =>
  Eq.mpr (congrArg (fun d => θ_run (Pipeline.defs Cert.Kernel.pcfgs d) (onTc (τ := Cert.Kernel.τ) (Cert.Kernel.main (F := Bits))) ⟨m, fun _ => 0, ρ⟩ _) bwd_defs₀_eq)
    (Bwd.frame_main (F := Bits) m ρ)

end Cert.Proof

end
-- ==== Proof.Rows.lean ====
/- Two-axis arrays of real numbers, read by natural-number coordinates, and what each vector operation of the attention
   kernels does to one. -/
module

public import Idealize.ShloMosaic.Lib.MatmulPlain
public import Idealize.ShloMosaic.Lib.IdealHost
public import Idealize.ShloMosaic.Lib.Pointwise
public import Idealize.ShloMosaic.Lib.Affine
public import Idealize.ShloMosaic.PureOps.Ideal.Laws

@[expose] public section

noncomputable section

namespace Cert.Proof.Rows

open Idealize.ShloMosaic Idealize.ShloMosaic.ValueIdx
open scoped BigOperators

/-- The array `x` holds the real number `f r c` at row `r`, column `c`. -/
def IsR {n w : ℕ} {φ : FTy} (x : FVec Ideal ⟨2, ![n, w]⟩ φ) (f : ℕ → ℕ → ℝ) : Prop :=
  ∀ (r : Fin n) (c : Fin w), x (ValueIdx.ix2 r c) = ((f r.val c.val : ℝ) : EReal)

/-- A product of a matrix with one that is contracted on axis 0 of both sides: `[K,M]ᵀ × [K,N]`. -/
def tnDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n w m : ℕ} {φ ψ : FTy}

theorem IsR.congr {x : FVec Ideal ⟨2, ![n, w]⟩ φ} {f g : ℕ → ℕ → ℝ} (h : IsR x f)
    (e : ∀ r c, r < n → c < w → f r c = g r c) : IsR x g := fun r c => by
  rw [h r c, e r.val c.val r.isLt c.isLt]

theorem IsR.addf {x y : FVec Ideal ⟨2, ![n, w]⟩ φ} {f g : ℕ → ℕ → ℝ} (h : IsR x f) (k : IsR y g) :
    IsR (addf x y) fun r c => f r c + g r c := fun r c => by
  show x _ + y _ = _
  rw [h, k, EReal.coe_add]

theorem IsR.subf {x y : FVec Ideal ⟨2, ![n, w]⟩ φ} {f g : ℕ → ℕ → ℝ} (h : IsR x f) (k : IsR y g) :
    IsR (subf x y) fun r c => f r c - g r c := fun r c => by
  show x _ - y _ = _
  rw [h, k, EReal.coe_sub]

theorem IsR.mulf {x y : FVec Ideal ⟨2, ![n, w]⟩ φ} {f g : ℕ → ℕ → ℝ} (h : IsR x f) (k : IsR y g) :
    IsR (mulf x y) fun r c => f r c * g r c := fun r c => by
  show x _ * y _ = _
  rw [h, k, EReal.coe_mul]

theorem coe_max (a b : ℝ) : ((max a b : ℝ) : EReal) = max (a : EReal) b := by
  rcases le_total a b with h | h
  · rw [max_eq_right h, max_eq_right (EReal.coe_le_coe_iff.2 h)]
  · rw [max_eq_left h, max_eq_left (EReal.coe_le_coe_iff.2 h)]

theorem IsR.maximumf {x y : FVec Ideal ⟨2, ![n, w]⟩ φ} {f g : ℕ → ℕ → ℝ} (h : IsR x f) (k : IsR y g) :
    IsR (maximumf x y) fun r c => max (f r c) (g r c) := fun r c => by
  show max (x _) (y _) = _
  rw [h, k, coe_max]

theorem IsR.absf {x : FVec Ideal ⟨2, ![n, w]⟩ φ} {f : ℕ → ℕ → ℝ} (h : IsR x f) :
    IsR (absf x) fun r c => |f r c| := fun r c => by
  show max (x _) (-(x _)) = _
  rw [h, ← EReal.coe_neg, ← coe_max]; rfl

theorem IsR.exp {x : FVec Ideal ⟨2, ![n, w]⟩ φ} {f : ℕ → ℕ → ℝ} (h : IsR x f) :
    IsR (exp x) fun r c => Real.exp (f r c) := fun r c => by
  show Ideal.exp (x _) = _
  rw [h, Ideal.exp_coe]

theorem IsR.log {x : FVec Ideal ⟨2, ![n, w]⟩ φ} {f : ℕ → ℕ → ℝ} (h : IsR x f) (pos : ∀ r c, 0 < f r c) :
    IsR (log x) fun r c => Real.log (f r c) := fun r c => by
  show Ideal.log (x _) = _
  rw [h, Ideal.log_coe, if_neg (not_le.2 (pos _ _))]

theorem IsR.truncf {x : FVec Ideal ⟨2, ![n, w]⟩ φ} {f : ℕ → ℕ → ℝ} (h : IsR x f) (hw : ψ.bits < φ.bits) :
    IsR (truncf ψ x hw) f := fun r c => h r c

theorem IsR.extf {x : FVec Ideal ⟨2, ![n, w]⟩ φ} {f : ℕ → ℕ → ℝ} (h : IsR x f) (hw : φ.bits < ψ.bits) :
    IsR (extf ψ x hw) f := fun r c => h r c

theorem IsR.splat {a : Ideal φ} {v : ℝ} (h : a = (v : EReal)) :
    IsR (broadcast ⟨2, ![n, w]⟩ a : FVec Ideal ⟨2, ![n, w]⟩ φ) fun _ _ => v := fun _ _ => h

theorem zero_f32 : (Scalar.ofBits (F := Ideal) .f32 0x00000000#32) = ((0 : ℝ) : EReal) := by
  show Ideal.ofBits .f32 0x00000000#32 = _
  rw [Ideal.ofBits_zero_f32, EReal.coe_zero]

theorem one_f32 : (Scalar.ofBits (F := Ideal) .f32 0x3F800000#32) = ((1 : ℝ) : EReal) := by
  show Ideal.ofBits .f32 0x3F800000#32 = _
  rw [Ideal.ofBits_one_f32, EReal.coe_one]

theorem IsR.zeroC : IsR (constant (F := Ideal) ⟨2, ![n, w]⟩ .f32 0x00000000#32) fun _ _ => 0 := fun _ _ => zero_f32

theorem IsR.dotT {k : ℕ} {x : FVec Ideal ⟨2, ![n, k]⟩ φ} {y : FVec Ideal ⟨2, ![w, k]⟩ ψ} {f g : ℕ → ℕ → ℝ}
    (h : IsR x f) (h' : IsR y g) (prec : Option ContractPrecision) :
    IsR (FloatOps.matmul (DotDims.transposedRhs n k w) prec x y (constant ⟨2, ![n, w]⟩ .f32 0x00000000#32))
      fun r c => ∑ j ∈ Finset.range k, f r j * g c j := fun r c => by
  beta_reduce
  rw [Ideal.matmul_transposedRhs_apply, (IsR.zeroC r c : _), EReal.coe_zero, zero_add, Finset.sum_range, coe_sum]
  exact Finset.sum_congr rfl fun j _ => by rw [h, h', EReal.coe_mul]

theorem IsR.dot {k : ℕ} {x : FVec Ideal ⟨2, ![n, k]⟩ φ} {y : FVec Ideal ⟨2, ![k, w]⟩ ψ} {f g : ℕ → ℕ → ℝ}
    (h : IsR x f) (h' : IsR y g) (prec : Option ContractPrecision) :
    IsR (FloatOps.matmul (DotDims.plain n k w) prec x y (constant ⟨2, ![n, w]⟩ .f32 0x00000000#32))
      fun r c => ∑ j ∈ Finset.range k, f r j * g j c := fun r c => by
  beta_reduce
  rw [Ideal.matmul_plain_apply, (IsR.zeroC r c : _), EReal.coe_zero, zero_add, Finset.sum_range, coe_sum]
  exact Finset.sum_congr rfl fun j _ => by rw [h, h', EReal.coe_mul]

theorem tn_rank (K M N : ℕ) : (tnDims K M N).contr.rank = 1 := rfl
theorem tn_size (K M N : ℕ) : (tnDims K M N).contr.size ⟨0, by rw [tn_rank]; exact Nat.one_pos⟩ = K := rfl

theorem IsR.dotTn {k : ℕ} {x : FVec Ideal ⟨2, ![k, n]⟩ φ} {y : FVec Ideal ⟨2, ![k, w]⟩ ψ} {f g : ℕ → ℕ → ℝ}
    (h : IsR x f) (h' : IsR y g) (prec : Option ContractPrecision) :
    IsR (FloatOps.matmul (tnDims k n w) prec x y (constant ⟨2, ![n, w]⟩ .f32 0x00000000#32))
      fun r c => ∑ j ∈ Finset.range k, f j r * g j c := fun r c => by
  beta_reduce
  rw [Ideal.matmul_apply, (IsR.zeroC r c : _), EReal.coe_zero, zero_add,
    ← Equiv.sum_comp (contrEquiv1 _ k (tn_rank k n w) (tn_size k n w)).symm, Finset.sum_range, coe_sum]
  refine Finset.sum_congr rfl fun j _ => ?_
  have hk := contrEquiv1_symm_val _ k (tn_rank k n w) (tn_size k n w) j
  have el : (tnDims k n w).lhsIdx (ValueIdx.ix2 r c) ((contrEquiv1 _ k (tn_rank k n w) (tn_size k n w)).symm j) = ValueIdx.ix2 j r := by
    funext a; apply Fin.ext
    match a with
    | ⟨0, _⟩ => exact hk
    | ⟨1, _⟩ => rfl
  have er : (tnDims k n w).rhsIdx (ValueIdx.ix2 r c) ((contrEquiv1 _ k (tn_rank k n w) (tn_size k n w)).symm j) = ValueIdx.ix2 j c := by
    funext a; apply Fin.ext
    match a with
    | ⟨0, _⟩ => exact hk
    | ⟨1, _⟩ => rfl
  rw [el, er, h, h', EReal.coe_mul]

theorem IsR.same {x : FVec Ideal ⟨2, ![n, w]⟩ φ} {f : ℕ → ℕ → ℝ} (h : IsR x f)
    (hs : Shape.ShapeCasts ⟨2, ![n, w]⟩ ⟨2, ![n, w]⟩) : IsR (shapeCast ⟨2, ![n, w]⟩ x hs) f := fun r c => by
  show x (Shape.reshapeEquiv hs (ValueIdx.ix2 r c)) = _
  rw [Shape.reshapeEquiv_self]; exact h r c

theorem IsR.slice {N W : ℕ} {x : FVec Ideal ⟨2, ![N, W]⟩ φ} {f : ℕ → ℕ → ℝ} (h : IsR x f) (a b : ℕ)
    (hs : Shape.Slices (s := ⟨2, ![N, W]⟩) ![a, b] ⟨2, ![n, w]⟩) :
    IsR (extractStridedSlice ⟨2, ![n, w]⟩ ![a, b] x hs) fun r c => f (a + r) (b + c) := fun r c => by
  have h0 : a + r.val < N := by
    have h2 := hs.2 0
    have h3 : a + n ≤ N := h2
    have := r.isLt; omega
  have h1 : b + c.val < W := by
    have h2 := hs.2 1
    have h3 : b + w ≤ W := h2
    have := c.isLt; omega
  have := h ⟨a + r.val, h0⟩ ⟨b + c.val, h1⟩
  rw [← this]
  refine congrArg x (funext fun d => Fin.ext ?_)
  match d with
  | ⟨0, _⟩ => rfl
  | ⟨1, _⟩ => rfl

theorem IsR.spread {x : FVec Ideal ⟨2, ![n, 1]⟩ φ} {f : ℕ → ℕ → ℝ} (h : IsR x f)
    (hs : Shape.Broadcasts ⟨2, ![n, 1]⟩ ⟨2, ![n, w]⟩) :
    IsR (broadcastTo ⟨2, ![n, w]⟩ x hs) fun r _ => f r 0 := fun r c => by
  refine Eq.trans ?_ (h r (0 : Fin 1))
  refine congrArg x (funext fun d => Fin.ext ?_)
  match d with
  | ⟨0, _⟩ =>
    show (if h1 : n = 1 then (⟨0, by omega⟩ : Fin n) else ⟨r.val, r.isLt⟩).val = r.val
    split
    · have := r.isLt; show 0 = r.val; omega
    · rfl
  | ⟨1, _⟩ => rfl

theorem IsR.stack {a b : ℕ} {x : FVec Ideal ⟨2, ![a, w]⟩ φ} {y : FVec Ideal ⟨2, ![b, w]⟩ φ} {f g : ℕ → ℕ → ℝ}
    (h : IsR x f) (k : IsR y g)
    (hs : Shape.Concatenates [⟨2, ![a, w]⟩, ⟨2, ![b, w]⟩] ⟨2, ![n, w]⟩ 0) :
    IsR (concatenate ⟨2, ![n, w]⟩ 0 [⟨⟨2, ![a, w]⟩, x⟩, ⟨⟨2, ![b, w]⟩, y⟩] hs : FVec Ideal ⟨2, ![n, w]⟩ φ)
      fun r c => if r < a then f r c else g (r - a) c := fun r c => by
  have hn : a + b = n := hs.size_axis
  rw [concatenate_pair_apply]
  by_cases hr : r.val < a
  · refine (dif_pos hr).trans ?_
    beta_reduce
    rw [if_pos hr, Shape.Idx.norm_def, ← h ⟨r.val, hr⟩ c]
    refine congrArg x (funext fun d => Fin.ext ?_)
    match d with
    | ⟨0, _⟩ => rfl
    | ⟨1, _⟩ => rfl
  · have hb : r.val - a < b := by have := r.isLt; omega
    refine (dif_neg hr).trans ?_
    beta_reduce
    rw [if_neg hr, Shape.Idx.norm_def, ← k ⟨r.val - a, hb⟩ c]
    refine congrArg y (funext fun d => Fin.ext ?_)
    match d with
    | ⟨0, _⟩ => rfl
    | ⟨1, _⟩ => rfl

/-- The mask that keeps the entries strictly under the diagonal. -/
def IsLow (x : IVec ⟨2, ![n, w]⟩ 1) : Prop := ∀ (r : Fin n) (c : Fin w), x (ValueIdx.ix2 r c) = 1#1 ↔ c.val < r.val

theorem IsR.low {msk : IVec ⟨2, ![n, w]⟩ 1} {x y : FVec Ideal ⟨2, ![n, w]⟩ φ} {f g : ℕ → ℕ → ℝ} (hm : IsLow msk)
    (h : IsR x f) (k : IsR y g) : IsR (select msk x y) fun r c => if c < r then f r c else g r c := fun r c => by
  show (if msk _ = 1 then x _ else y _) = _
  beta_reduce
  by_cases hc : c.val < r.val
  · rw [if_pos hc]; exact (if_pos ((hm r c).2 hc)).trans (h r c)
  · rw [if_neg hc]; exact (if_neg (fun e => hc ((hm r c).1 e))).trans (k r c)

end Cert.Proof.Rows
-- ==== Proof.Break.lean ====
/- The stick-breaking attention of one head over real numbers: the scores, the running sums of their soft plus, the weights,
   and the gradients of the queries, keys and values. Positions and features are natural numbers. -/
module

public import Mathlib.Analysis.SpecialFunctions.Log.Basic
public import Mathlib.Algebra.BigOperators.Intervals

@[expose] public section

noncomputable section

namespace Cert.Proof.Break

open scoped BigOperators
open Finset (range)

/-- The soft plus of a score, in the form that never overflows. -/
def sp (z : ℝ) : ℝ := max z 0 + Real.log (1 + Real.exp (-|z|))

/-- One head's queries, keys, values and output gradients. -/
structure Head where
  q : ℕ → ℕ → ℝ
  k : ℕ → ℕ → ℝ
  v : ℕ → ℕ → ℝ
  w : ℕ → ℕ → ℝ

namespace Head
variable (H : Head)

/-- The score of query `t` against key `s`. -/
def z (t s : ℕ) : ℝ := ∑ j ∈ range 64, H.q t j * H.k s j
/-- The soft plus of a score of an earlier key, zero elsewhere. -/
def brk (t s : ℕ) : ℝ := if s < t then sp (H.z t s) else 0
/-- The sum of `brk` over the keys below `n`. -/
def cum (n t : ℕ) : ℝ := ∑ s ∈ range n, H.brk t s
/-- The attention weight. -/
def att (t s : ℕ) : ℝ := if s < t then Real.exp (H.z t s - (H.cum 2048 t - H.cum s t)) else 0
/-- The weight times the gradient of the weight. -/
def gr (t s : ℕ) : ℝ := H.att t s * ∑ j ∈ range 64, H.w t j * H.v s j
/-- The sum of `gr` over the keys below `n`. -/
def gcum (n t : ℕ) : ℝ := ∑ s ∈ range n, H.gr t s
/-- The gradient of a score. -/
def dz (t s : ℕ) : ℝ :=
  if s < t then H.gr t s - Real.exp (H.z t s - sp (H.z t s)) * H.gcum (s + 1) t else 0
/-- The gradient of a query, from the keys below `n`. -/
def dq (n t j : ℕ) : ℝ := ∑ s ∈ range n, H.dz t s * H.k s j
/-- The gradient of a key. -/
def dk (s j : ℕ) : ℝ := ∑ t ∈ range 2048, H.dz t s * H.q t j
/-- The gradient of a value. -/
def dv (s j : ℕ) : ℝ := ∑ t ∈ range 2048, H.att t s * H.w t j
/-- The attention's output, from the keys below `n`. -/
def out (n t j : ℕ) : ℝ := ∑ s ∈ range n, H.att t s * H.v s j

end Head

/-- A sum over a range that starts with terms equal to zero is the sum over the rest. -/
theorem sum_tail (f : ℕ → ℝ) (a n : ℕ) (h : ∀ i, i < a → f i = 0) :
    ∑ i ∈ range n, f (a + i) = ∑ i ∈ range (a + n), f i := by
  rw [Finset.sum_range_add, Finset.sum_eq_zero (s := range a) fun i hi => h i (Finset.mem_range.1 hi), zero_add]

/-- The terms from `c` on of a tile's `m` terms that start at `a`. -/
theorem sum_from (f : ℕ → ℝ) (a m c : ℕ) (hc : c ≤ m) :
    ∑ u ∈ range m, f (a + u) * (if c ≤ u then 1 else 0) = ∑ i ∈ range (a + m), f i - ∑ i ∈ range (a + c), f i := by
  obtain ⟨e, rfl⟩ := Nat.exists_eq_add_of_le hc
  rw [Finset.sum_range_add, ← Nat.add_assoc, Finset.sum_range_add _ (a + c) e]
  rw [Finset.sum_eq_zero (s := range c) fun u hu => by
    rw [if_neg (by have := Finset.mem_range.1 hu; omega), mul_zero]]
  rw [zero_add, add_sub_cancel_left]
  exact Finset.sum_congr rfl fun u _ => by rw [if_pos (by omega), mul_one, Nat.add_assoc]

/-- The terms up to `c` of a tile's `m` terms that start at `a`. -/
theorem sum_upto (f : ℕ → ℝ) (a m c : ℕ) (hc : c < m) :
    ∑ u ∈ range m, f (a + u) * (if u ≤ c then 1 else 0) = ∑ i ∈ range (a + (c + 1)), f i - ∑ i ∈ range a, f i := by
  obtain ⟨e, rfl⟩ := Nat.exists_eq_add_of_le (show c + 1 ≤ m from hc)
  rw [Finset.sum_range_add, Finset.sum_range_add _ a (c + 1), add_sub_cancel_left]
  rw [Finset.sum_eq_zero (s := range e) fun u hu => by rw [if_neg (by omega), mul_zero], add_zero]
  exact Finset.sum_congr rfl fun u hu => by
    rw [if_pos (by have := Finset.mem_range.1 hu; omega), mul_one]

namespace Head
variable (H : Head)

theorem brk_of_le {t s : ℕ} (h : t ≤ s) : H.brk t s = 0 := if_neg (by omega)
theorem att_of_le {t s : ℕ} (h : t ≤ s) : H.att t s = 0 := if_neg (by omega)
theorem gr_of_le {t s : ℕ} (h : t ≤ s) : H.gr t s = 0 := by rw [gr, H.att_of_le h, zero_mul]
theorem dz_of_le {t s : ℕ} (h : t ≤ s) : H.dz t s = 0 := if_neg (by omega)

/-- A later key adds nothing to the running sum of a row. -/
theorem cum_of_le {t a n : ℕ} (h : t ≤ a) : H.cum (a + n) t = H.cum a t := by
  rw [cum, Finset.sum_range_add, Finset.sum_eq_zero (s := range n) fun i _ => H.brk_of_le (by omega), add_zero]; rfl
theorem gcum_of_le {t a n : ℕ} (h : t ≤ a) : H.gcum (a + n) t = H.gcum a t := by
  rw [gcum, Finset.sum_range_add, Finset.sum_eq_zero (s := range n) fun i _ => H.gr_of_le (by omega), add_zero]; rfl
theorem dq_of_le {t a n : ℕ} (j : ℕ) (h : t ≤ a) : H.dq (a + n) t j = H.dq a t j := by
  rw [dq, Finset.sum_range_add, Finset.sum_eq_zero (s := range n) fun i _ => by rw [H.dz_of_le (by omega), zero_mul],
    add_zero]; rfl
theorem cum_last {t n : ℕ} (h : t ≤ n) (hn : n ≤ 2048) : H.cum n t = H.cum 2048 t := by
  obtain ⟨e, he⟩ := Nat.exists_eq_add_of_le hn
  rw [he, H.cum_of_le h]

end Head

end Cert.Proof.Break
-- ==== Proof.Tile.lean ====
/- One tile of the attention's loops over key blocks: 256 keys from `T` on, against the `n` query rows from `T` on. -/
module

public import proofs.«01_k».proof.Proof.Rows
public import proofs.«01_k».proof.Proof.Break

@[expose] public section

noncomputable section

namespace Cert.Proof.Tile

open Idealize.ShloMosaic Cert.Proof.Rows Cert.Proof.Break
open scoped BigOperators
open Finset (range)

variable {n : ℕ}

/-- An `n` by `w` array of floats. -/
abbrev Arr (n w : ℕ) (φ : FTy) : Type := FVec Ideal ⟨2, ![n, w]⟩ φ

theorem bitsLt_bf16_f32 : (FTy.bf16).bits < (FTy.f32).bits := by decide

/-- Zero at every entry. -/
abbrev zer (n w : ℕ) : Arr n w .f32 := broadcast ⟨2, ![n, w]⟩ (Scalar.ofBits .f32 0x00000000#32)

def zT (q : Arr n 64 .bf16) (k : Arr 256 64 .bf16) : Arr n 256 .f32 :=
  FloatOps.matmul (DotDims.transposedRhs n 64 256) none q k (constant ⟨2, ![n, 256]⟩ .f32 0x00000000#32)

def spT (z : Arr n 256 .f32) : Arr n 256 .f32 :=
  addf (maximumf z (zer n 256))
    (log (addf (broadcast ⟨2, ![n, 256]⟩ (Scalar.ofBits .f32 0x3F800000#32)) (exp (subf (zer n 256) (absf z)))))

def sumT (msk : IVec ⟨2, ![n, 256]⟩ 1) (z : Arr n 256 .f32) (tri : Arr 256 256 .bf16) : Arr n 256 .f32 :=
  FloatOps.matmul (DotDims.plain n 256 256) none (truncf .bf16 (select msk (spT z) (zer n 256)) bitsLt_bf16_f32) tri
    (constant ⟨2, ![n, 256]⟩ .f32 0x00000000#32)

def cT (cl : Arr n 1 .f32) (r : Arr n 256 .f32) (h : Shape.Slices (s := ⟨2, ![n, 256]⟩) ![0, 0] ⟨2, ![n, 1]⟩) : Arr n 1 .f32 :=
  addf cl (extractStridedSlice ⟨2, ![n, 1]⟩ ![0, 0] r h)

def aT (msk : IVec ⟨2, ![n, 256]⟩ 1) (z r rem : Arr n 256 .f32) : Arr n 256 .f32 :=
  select msk (exp (subf (subf z r) rem)) (zer n 256)

def remT (call c : Arr n 1 .f32) (h : Shape.Broadcasts ⟨2, ![n, 1]⟩ ⟨2, ![n, 256]⟩) : Arr n 256 .f32 :=
  broadcastTo ⟨2, ![n, 256]⟩ (subf call c) h

def gT (a : Arr n 256 .f32) (w : Arr n 64 .bf16) (v : Arr 256 64 .bf16) : Arr n 256 .f32 :=
  mulf a (FloatOps.matmul (DotDims.transposedRhs n 64 256) none w v (constant ⟨2, ![n, 256]⟩ .f32 0x00000000#32))

def pgT (g : Arr n 256 .f32) (trt : Arr 256 256 .bf16) : Arr n 256 .f32 :=
  FloatOps.matmul (DotDims.plain n 256 256) none (truncf .bf16 g bitsLt_bf16_f32) trt
    (constant ⟨2, ![n, 256]⟩ .f32 0x00000000#32)

def dzT (msk : IVec ⟨2, ![n, 256]⟩ 1) (z g : Arr n 256 .f32) (gl : Arr n 1 .f32) (pg : Arr n 256 .f32)
    (h : Shape.Broadcasts ⟨2, ![n, 1]⟩ ⟨2, ![n, 256]⟩) : Arr n 256 .bf16 :=
  truncf .bf16 (select msk (subf g (mulf (exp (subf z (spT z))) (addf (broadcastTo ⟨2, ![n, 256]⟩ gl h) pg))) (zer n 256))
    bitsLt_bf16_f32

def glT (gl : Arr n 1 .f32) (pg : Arr n 256 .f32) (h : Shape.Slices (s := ⟨2, ![n, 256]⟩) ![0, 255] ⟨2, ![n, 1]⟩) : Arr n 1 .f32 :=
  addf gl (extractStridedSlice ⟨2, ![n, 1]⟩ ![0, 255] pg h)

def dqT (dql : Arr n 64 .f32) (dz : Arr n 256 .bf16) (k : Arr 256 64 .bf16) : Arr n 64 .f32 :=
  addf dql (FloatOps.matmul (DotDims.plain n 256 64) none dz k (constant ⟨2, ![n, 64]⟩ .f32 0x00000000#32))

def dkT (acc : Arr 256 64 .f32) (dz : Arr n 256 .bf16) (q : Arr n 64 .bf16) : Arr 256 64 .f32 :=
  addf acc (FloatOps.matmul (tnDims n 256 64) none dz q (constant ⟨2, ![256, 64]⟩ .f32 0x00000000#32))

section
variable (H : Head) (T : ℕ)

theorem z_is {q : Arr n 64 .bf16} {k : Arr 256 64 .bf16} (hq : IsR q fun r j => H.q (T + r) j)
    (hk : IsR k fun u j => H.k (T + u) j) : IsR (zT q k) fun r u => H.z (T + r) (T + u) := hq.dotT hk none

theorem sp_is {z : Arr n 256 .f32} {f : ℕ → ℕ → ℝ} (hz : IsR z f) : IsR (spT z) fun r u => sp (f r u) := by
  have h0 : IsR (zer n 256) fun _ _ => 0 := IsR.splat zero_f32
  have h := (hz.maximumf h0).addf (((IsR.splat one_f32).addf (h0.subf hz.absf).exp).log fun r c => by positivity)
  exact h.congr fun r c _ _ => by rw [zero_sub]; rfl

theorem sum_is {msk : IVec ⟨2, ![n, 256]⟩ 1} (hm : IsLow msk) {z : Arr n 256 .f32} (hz : IsR z fun r u => H.z (T + r) (T + u))
    {tri : Arr 256 256 .bf16} (htri : IsR tri fun u c => if c ≤ u then 1 else 0) :
    IsR (sumT msk z tri) fun r c => H.cum (T + 256) (T + r) - H.cum (T + c) (T + r) := by
  have h := ((IsR.low hm (sp_is hz) (IsR.splat zero_f32)).truncf (ψ := .bf16) bitsLt_bf16_f32).dot htri none
  refine h.congr fun r c _ hc => ?_
  rw [Head.cum, Head.cum, ← sum_from _ T 256 c (by omega)]
  refine Finset.sum_congr rfl fun u _ => congrArg (· * _) ?_
  rw [Head.brk]
  by_cases hu : u < r
  · rw [if_pos hu, if_pos (by omega)]
  · rw [if_neg hu, if_neg (by omega)]

theorem c_is {cl : Arr n 1 .f32} (hcl : IsR cl fun r _ => H.cum T (T + r)) {r : Arr n 256 .f32}
    (hr : IsR r fun r c => H.cum (T + 256) (T + r) - H.cum (T + c) (T + r))
    (h : Shape.Slices (s := ⟨2, ![n, 256]⟩) ![0, 0] ⟨2, ![n, 1]⟩) : IsR (cT cl r h) fun r _ => H.cum (T + 256) (T + r) := by
  refine (hcl.addf (hr.slice 0 0 h)).congr fun r c _ hc => ?_
  have : c = 0 := by omega
  subst this
  simp only [Nat.zero_add, Nat.add_zero]
  ring

theorem rem_is {call c : Arr n 1 .f32} (hcall : IsR call fun r _ => H.cum 2048 (T + r))
    (hc : IsR c fun r _ => H.cum (T + 256) (T + r)) (h : Shape.Broadcasts ⟨2, ![n, 1]⟩ ⟨2, ![n, 256]⟩) :
    IsR (remT call c h) fun r _ => H.cum 2048 (T + r) - H.cum (T + 256) (T + r) := (hcall.subf hc).spread h

/-- In the last tile nothing remains. -/
theorem rem_last (hT : T + 256 = 2048) : IsR (zer n 256) fun r _ => H.cum 2048 (T + r) - H.cum (T + 256) (T + r) :=
  (IsR.splat zero_f32).congr fun r _ _ _ => by rw [hT, sub_self]

theorem a_is {msk : IVec ⟨2, ![n, 256]⟩ 1} (hm : IsLow msk) {z r rem : Arr n 256 .f32}
    (hz : IsR z fun r u => H.z (T + r) (T + u))
    (hr : IsR r fun r c => H.cum (T + 256) (T + r) - H.cum (T + c) (T + r))
    (hrem : IsR rem fun r _ => H.cum 2048 (T + r) - H.cum (T + 256) (T + r)) :
    IsR (aT msk z r rem) fun r u => H.att (T + r) (T + u) := by
  refine (IsR.low hm ((hz.subf hr).subf hrem).exp (IsR.splat zero_f32)).congr fun r u _ _ => ?_
  rw [Head.att]
  by_cases hu : u < r
  · rw [if_pos hu, if_pos (by omega)]; congr 1; ring
  · rw [if_neg hu, if_neg (by omega)]

theorem g_is {a : Arr n 256 .f32} (ha : IsR a fun r u => H.att (T + r) (T + u))
    {w : Arr n 64 .bf16} {v : Arr 256 64 .bf16} (hw : IsR w fun r j => H.w (T + r) j) (hv : IsR v fun u j => H.v (T + u) j) :
    IsR (gT a w v) fun r u => H.gr (T + r) (T + u) := ha.mulf (hw.dotT hv none)

theorem pg_is {g : Arr n 256 .f32} (hg : IsR g fun r u => H.gr (T + r) (T + u)) {trt : Arr 256 256 .bf16}
    (ht : IsR trt fun u c => if u ≤ c then 1 else 0) :
    IsR (pgT g trt) fun r c => H.gcum (T + (c + 1)) (T + r) - H.gcum T (T + r) := by
  refine ((hg.truncf (ψ := .bf16) bitsLt_bf16_f32).dot ht none).congr fun r c _ hc => ?_
  rw [Head.gcum, Head.gcum, ← sum_upto _ T 256 c hc]

theorem dz_is {msk : IVec ⟨2, ![n, 256]⟩ 1} (hm : IsLow msk) {z g pg : Arr n 256 .f32} {gl : Arr n 1 .f32}
    (hz : IsR z fun r u => H.z (T + r) (T + u)) (hg : IsR g fun r u => H.gr (T + r) (T + u))
    (hgl : IsR gl fun r _ => H.gcum T (T + r))
    (hpg : IsR pg fun r c => H.gcum (T + (c + 1)) (T + r) - H.gcum T (T + r))
    (h : Shape.Broadcasts ⟨2, ![n, 1]⟩ ⟨2, ![n, 256]⟩) :
    IsR (dzT msk z g gl pg h) fun r u => H.dz (T + r) (T + u) := by
  have h1 := hg.subf ((hz.subf (sp_is hz)).exp.mulf ((hgl.spread h).addf hpg))
  refine ((IsR.low hm h1 (IsR.splat zero_f32)).truncf (ψ := .bf16) bitsLt_bf16_f32).congr fun r u _ _ => ?_
  rw [Head.dz]
  by_cases hu : u < r
  · rw [if_pos hu, if_pos (by omega), add_sub_cancel]; rfl
  · rw [if_neg hu, if_neg (by omega)]

theorem gl_is {gl : Arr n 1 .f32} (hgl : IsR gl fun r _ => H.gcum T (T + r)) {pg : Arr n 256 .f32}
    (hpg : IsR pg fun r c => H.gcum (T + (c + 1)) (T + r) - H.gcum T (T + r))
    (h : Shape.Slices (s := ⟨2, ![n, 256]⟩) ![0, 255] ⟨2, ![n, 1]⟩) :
    IsR (glT gl pg h) fun r _ => H.gcum (T + 256) (T + r) := by
  refine (hgl.addf (hpg.slice 0 255 h)).congr fun r c _ hc => ?_
  have : c = 0 := by omega
  subst this
  simp only [Nat.zero_add, Nat.add_zero]
  ring

theorem dq_is {dql : Arr n 64 .f32} (hd : IsR dql fun r j => H.dq T (T + r) j) {dz : Arr n 256 .bf16}
    (hz : IsR dz fun r u => H.dz (T + r) (T + u)) {k : Arr 256 64 .bf16} (hk : IsR k fun u j => H.k (T + u) j) :
    IsR (dqT dql dz k) fun r j => H.dq (T + 256) (T + r) j := by
  refine (hd.addf (hz.dot hk none)).congr fun r j _ _ => ?_
  rw [Head.dq, Head.dq, Finset.sum_range_add]

theorem dk_is (hT : T + n = 2048) {acc : Arr 256 64 .f32} (ha : IsR acc fun _ _ => 0) {dz : Arr n 256 .bf16}
    (hz : IsR dz fun r u => H.dz (T + r) (T + u)) {q : Arr n 64 .bf16} (hq : IsR q fun r j => H.q (T + r) j) :
    IsR (dkT acc dz q) fun u j => H.dk (T + u) j := by
  refine (ha.addf (hz.dotTn hq none)).congr fun u j _ _ => ?_
  rw [zero_add, Head.dk, ← hT, ← sum_tail (fun t => H.dz t (T + u) * H.q t j) T n]
  intro i hi
  rw [H.dz_of_le (by omega), zero_mul]

theorem dv_is (hT : T + n = 2048) {acc : Arr 256 64 .f32} (ha : IsR acc fun _ _ => 0) {a : Arr n 256 .f32}
    (hz : IsR a fun r u => H.att (T + r) (T + u)) {w : Arr n 64 .bf16} (hw : IsR w fun r j => H.w (T + r) j) :
    IsR (dkT acc (truncf .bf16 a bitsLt_bf16_f32) w) fun u j => H.dv (T + u) j := by
  refine (ha.addf ((hz.truncf (ψ := .bf16) bitsLt_bf16_f32).dotTn hw none)).congr fun u j _ _ => ?_
  rw [zero_add, Head.dv, ← hT, ← sum_tail (fun t => H.att t (T + u) * H.w t j) T n]
  intro i hi
  rw [H.att_of_le (by omega), zero_mul]

/-- The rows before the tile keep what they hold, and the tile's rows take the new values. -/
theorem stack_is {w : ℕ} {f : ℕ → ℕ → ℕ → ℝ} (hT : T + n = 2048) {old : Arr 2048 w .f32} (ho : IsR old fun t j => f T t j)
    {new : Arr n w .f32} (hn : IsR new fun r j => f (T + 256) (T + r) j)
    (hf : ∀ t j, t ≤ T → f (T + 256) t j = f T t j)
    (h : Shape.Slices (s := ⟨2, ![2048, w]⟩) ![0, 0] ⟨2, ![T, w]⟩)
    (hc : Shape.Concatenates [⟨2, ![T, w]⟩, ⟨2, ![n, w]⟩] ⟨2, ![2048, w]⟩ 0) :
    IsR (concatenate ⟨2, ![2048, w]⟩ 0 [⟨⟨2, ![T, w]⟩, extractStridedSlice ⟨2, ![T, w]⟩ ![0, 0] old h⟩, ⟨⟨2, ![n, w]⟩, new⟩] hc : Arr 2048 w .f32)
      fun t j => f (T + 256) t j := by
  refine ((ho.slice 0 0 h).stack hn hc).congr fun t j _ _ => ?_
  by_cases ht : t < T
  · rw [if_pos ht, hf t j (by omega), Nat.zero_add, Nat.zero_add]
  · rw [if_neg ht, Nat.add_sub_cancel' (by omega)]

end

end Cert.Proof.Tile
-- ==== Proof.Store.lean ====
/- Loads of a tile from a block, and a block filled tile by tile, for arrays of real numbers. -/
module

public import proofs.«01_k».proof.Proof.Tile
public import Idealize.ShloMosaic.Lib.Pipeline.FrameBody
public import Idealize.ShloMosaic.Lib.Pipeline.ReadBack
public import Idealize.ShloMosaic.Lib.WholeRead

@[expose] public section

noncomputable section

namespace Cert.Proof.Store

open Idealize.ShloMosaic Cert.Proof.Rows Cert.Proof.Break Cert.Proof.Tile

variable {sig : RefSig} {κ : Kind} {sp : Space}

/-- The rectangle of `n` rows and `w` columns at `(a, b)` of an `N` by `W` block, at an index. -/
theorem idx_unit {N W n w a b : ℕ} (inb : ∀ d, (![a, b] : Fin 2 → ℕ) d + (⟨2, ![n, w]⟩ : Shape).size d ≤ (⟨2, ![N, W]⟩ : Shape).size d)
    (r : Fin n) (c : Fin w) (h0 : a + r.val < N) (h1 : b + c.val < W) :
    (Rect.unit (s := ⟨2, ![N, W]⟩) ![a, b] (⟨2, ![n, w]⟩ : Shape).size inb).emb (ValueIdx.ix2 r c) = ValueIdx.ix2 ⟨a + r.val, h0⟩ ⟨b + c.val, h1⟩ := by
  funext d
  apply Fin.ext
  match d with
  | ⟨0, _⟩ => show a + 1 * r.val = a + r.val; rw [Nat.one_mul]
  | ⟨1, _⟩ => show b + 1 * c.val = b + c.val; rw [Nat.one_mul]

theorem mem_unit {N W n w a b : ℕ} {inb : ∀ d, (![a, b] : Fin 2 → ℕ) d + (⟨2, ![n, w]⟩ : Shape).size d ≤ (⟨2, ![N, W]⟩ : Shape).size d}
    {r : Fin N} {c : Fin W} (hm : ValueIdx.ix2 r c ∈ (Rect.unit (s := ⟨2, ![N, W]⟩) ![a, b] (⟨2, ![n, w]⟩ : Shape).size inb).set) :
    (a ≤ r.val ∧ r.val < a + n) ∧ b ≤ c.val ∧ c.val < b + w :=
  ⟨Rect.mem_set_unit.1 hm 0, Rect.mem_set_unit.1 hm 1⟩

/-- A load of a tile of a whole buffer that holds `x`. -/
theorem load_apply {N W n w : ℕ} {e : EltTy} {m : Memref sig κ sp ⟨2, ![N, W]⟩ e} (hm : m.IsWhole)
    (x : (⟨2, ![N, W]⟩ : Shape).Idx → Elt Ideal e) {a b : ℕ}
    (inb : ∀ d, (![a, b] : Fin 2 → ℕ) d + (⟨2, ![n, w]⟩ : Shape).size d ≤ (⟨2, ![N, W]⟩ : Shape).size d)
    (r : Fin n) (c : Fin w) (h0 : a + r.val < N) (h1 : b + c.val < W) :
    View.readAt (Elt Ideal) m.view (Rect.unit (s := ⟨2, ![N, W]⟩) ![a, b] (⟨2, ![n, w]⟩ : Shape).size inb).toLoadRect (hm.unread x) (ValueIdx.ix2 r c)
      = x (ValueIdx.ix2 ⟨a + r.val, h0⟩ ⟨b + c.val, h1⟩) :=
  (hm.readAt_unread x _ _).trans (congrArg x (idx_unit inb r c h0 h1))

theorem inb_row {N W n w a b : ℕ} (inb : ∀ d, (![a, b] : Fin 2 → ℕ) d + (⟨2, ![n, w]⟩ : Shape).size d ≤ (⟨2, ![N, W]⟩ : Shape).size d)
    (r : Fin n) : a + r.val < N := by
  have h2 : a + n ≤ N := inb 0
  have := r.isLt; omega

theorem inb_col {N W n w a b : ℕ} (inb : ∀ d, (![a, b] : Fin 2 → ℕ) d + (⟨2, ![n, w]⟩ : Shape).size d ≤ (⟨2, ![N, W]⟩ : Shape).size d)
    (c : Fin w) : b + c.val < W := by
  have h2 : b + w ≤ W := inb 1
  have := c.isLt; omega

theorem load_bf16 {N W n w : ℕ} {m : Memref sig κ sp ⟨2, ![N, W]⟩ .bf16} (hm : m.IsWhole) {x : FVec Ideal ⟨2, ![N, W]⟩ .bf16}
    {f : ℕ → ℕ → ℝ} (hx : IsR x f) (a b : ℕ)
    (inb : ∀ d, (![a, b] : Fin 2 → ℕ) d + (⟨2, ![n, w]⟩ : Shape).size d ≤ (⟨2, ![N, W]⟩ : Shape).size d) :
    IsR (n := n) (w := w) (φ := .bf16) (View.readAt (Elt Ideal) m.view (Rect.unit (s := ⟨2, ![N, W]⟩) ![a, b] (⟨2, ![n, w]⟩ : Shape).size inb).toLoadRect (hm.unread x))
      fun r c => f (a + r) (b + c) := fun r c =>
  (load_apply hm x inb r c (inb_row inb r) (inb_col inb c)).trans (hx _ _)

theorem load_f32 {N W n w : ℕ} {m : Memref sig κ sp ⟨2, ![N, W]⟩ .f32} (hm : m.IsWhole) {x : FVec Ideal ⟨2, ![N, W]⟩ .f32}
    {f : ℕ → ℕ → ℝ} (hx : IsR x f) (a b : ℕ)
    (inb : ∀ d, (![a, b] : Fin 2 → ℕ) d + (⟨2, ![n, w]⟩ : Shape).size d ≤ (⟨2, ![N, W]⟩ : Shape).size d) :
    IsR (n := n) (w := w) (φ := .f32) (View.readAt (Elt Ideal) m.view (Rect.unit (s := ⟨2, ![N, W]⟩) ![a, b] (⟨2, ![n, w]⟩ : Shape).size inb).toLoadRect (hm.unread x))
      fun r c => f (a + r) (b + c) := fun r c =>
  (load_apply hm x inb r c (inb_row inb r) (inb_col inb c)).trans (hx _ _)

/-- The first `k` of a block's sixteen tiles hold what `f` says, in the order in which the tiles are stored; the others hold
    zeros. -/
def Grid (k : ℕ) (L : List (View.Piece (Elt Ideal) ⟨2, ![2048, 128]⟩ .f32)) (f : ℕ → ℕ → ℝ) : Prop :=
  IsR (φ := .f32) (View.canon L) fun t j => if 2 * (t / 256) + j / 64 < k then f t j else 0

/-- Filled with zeros. -/
theorem grid_zero (f : ℕ → ℕ → ℝ) (inb) {Z : FVec Ideal ⟨2, ![2048, 128]⟩ .f32} (hZ : IsR Z fun _ _ => 0) :
    Grid 0 [⟨Rect.unit (s := ⟨2, ![2048, 128]⟩) ![0, 0] (⟨2, ![2048, 128]⟩ : Shape).size inb, Z⟩] f := fun (r : Fin 2048) (c : Fin 128) => by
  have e := idx_unit (a := 0) (b := 0) inb r c (by have := r.isLt; omega) (by have := c.isLt; omega)
  have e' : (Rect.unit (s := ⟨2, ![2048, 128]⟩) ![0, 0] (⟨2, ![2048, 128]⟩ : Shape).size inb).emb (ValueIdx.ix2 r c) = ValueIdx.ix2 r c := by
    rw [e]; congr 1 <;> exact Fin.ext (Nat.zero_add _)
  beta_reduce
  rw [if_neg (Nat.not_lt_zero _)]
  conv_lhs => rw [← e']
  exact (View.canon_cons_emb _ _ _ _).trans (hZ r c)

/-- One more tile stored. -/
theorem grid_succ {k : ℕ} {L : List (View.Piece (Elt Ideal) ⟨2, ![2048, 128]⟩ .f32)} {f : ℕ → ℕ → ℝ} (h : Grid k L f)
    (a b : ℕ) (ha : a < 8) (hb : b < 2) (hk : 2 * a + b = k) (inb) {p : FVec Ideal ⟨2, ![256, 64]⟩ .f32}
    (hp : IsR p fun u j => f (256 * a + u) (64 * b + j)) :
    Grid (k + 1) (⟨Rect.unit (s := ⟨2, ![2048, 128]⟩) ![256 * a, 64 * b] (⟨2, ![256, 64]⟩ : Shape).size inb, p⟩ :: L) f := fun (r : Fin 2048) (c : Fin 128) => by
  beta_reduce
  by_cases hin : r.val / 256 = a ∧ c.val / 64 = b
  · obtain ⟨h1, h2⟩ := hin
    have hr : r.val - 256 * a < 256 := by omega
    have hc : c.val - 64 * b < 64 := by omega
    have e := idx_unit inb ⟨r.val - 256 * a, hr⟩ ⟨c.val - 64 * b, hc⟩ (by show 256 * a + (r.val - 256 * a) < 2048; omega)
      (by show 64 * b + (c.val - 64 * b) < 128; omega)
    have e' : (Rect.unit (s := ⟨2, ![2048, 128]⟩) ![256 * a, 64 * b] (⟨2, ![256, 64]⟩ : Shape).size inb).emb
        (ValueIdx.ix2 ⟨r.val - 256 * a, hr⟩ ⟨c.val - 64 * b, hc⟩) = ValueIdx.ix2 r c := by
      rw [e]; congr 1 <;> apply Fin.ext
      · show 256 * a + (r.val - 256 * a) = r.val; omega
      · show 64 * b + (c.val - 64 * b) = c.val; omega
    rw [if_pos (by omega)]
    conv_lhs => rw [← e']
    refine (View.canon_cons_emb _ _ _ _).trans ((hp _ _).trans ?_)
    show ((f (256 * a + (r.val - 256 * a)) (64 * b + (c.val - 64 * b)) : ℝ) : EReal) = _
    rw [Nat.add_sub_cancel' (by omega), Nat.add_sub_cancel' (by omega)]
  · have hn : ValueIdx.ix2 r c ∉ (Rect.unit (s := ⟨2, ![2048, 128]⟩) ![256 * a, 64 * b] (⟨2, ![256, 64]⟩ : Shape).size inb).set := fun hm => by
      obtain ⟨h1, h2⟩ := mem_unit hm
      exact hin ⟨by omega, by omega⟩
    have e := View.canon_cons_of_not_mem (Val := Elt Ideal) (⟨Rect.unit (s := ⟨2, ![2048, 128]⟩) ![256 * a, 64 * b] (⟨2, ![256, 64]⟩ : Shape).size inb, p⟩ :
      View.Piece (Elt Ideal) ⟨2, ![2048, 128]⟩ .f32) L hn
    refine e.trans ((h r c).trans ?_)
    beta_reduce
    have : (2 * (r.val / 256) + c.val / 64 < k) = (2 * (r.val / 256) + c.val / 64 < k + 1) := by
      have := r.isLt; have := c.isLt
      apply propext; constructor
      · omega
      · intro _; by_contra hh; apply hin; constructor <;> omega
    simp only [this]

/-- A tile not yet stored loads zeros. -/
theorem grid_load {k : ℕ} {L : List (View.Piece (Elt Ideal) ⟨2, ![2048, 128]⟩ .f32)} {f : ℕ → ℕ → ℝ} (h : Grid k L f)
    (v : View sig κ sp ⟨2, ![2048, 128]⟩ .f32) (a b : ℕ) (ha : a < 8) (hb : b < 2) (hk : k ≤ 2 * a + b) (inb) :
    IsR (n := 256) (w := 64) (φ := .f32)
      (v.readCov L (Rect.unit (s := ⟨2, ![2048, 128]⟩) ![256 * a, 64 * b] (⟨2, ![256, 64]⟩ : Shape).size inb).toLoadRect) fun _ _ => 0 := fun r c => by
  have h0 : 256 * a + r.val < 2048 := by have := r.isLt; omega
  have h1 : 64 * b + c.val < 128 := by have := c.isLt; omega
  refine (congrFun (View.readCov_eq_canon' v L _) _).trans ?_
  refine (congrArg (View.canon L) (idx_unit inb r c h0 h1)).trans ((h _ _).trans ?_)
  have := r.isLt; have := c.isLt
  refine congrArg (fun x : ℝ => (x : EReal)) (if_neg ?_)
  show ¬ (2 * ((256 * a + r.val) / 256) + (64 * b + c.val) / 64 < k)
  omega

/-- All tiles stored. -/
theorem grid_full {L : List (View.Piece (Elt Ideal) ⟨2, ![2048, 128]⟩ .f32)} {f : ℕ → ℕ → ℝ} (h : Grid 16 L f) :
    IsR (φ := .f32) (View.canon L) f := h.congr fun r c _ _ => if_pos (by omega)

/-- Two halves of 64 columns each. -/
theorem halves {f : ℕ → ℕ → ℕ → ℝ} {p q : FVec Ideal ⟨2, ![2048, 64]⟩ .f32} (hp : IsR p (f 0)) (hq : IsR q (f 1)) (i0 i1) :
    IsR (n := 2048) (w := 128) (φ := .f32) (View.canon ([⟨Rect.unit (s := ⟨2, ![2048, 128]⟩) ![0, 64] (⟨2, ![2048, 64]⟩ : Shape).size i1, q⟩,
      ⟨Rect.unit (s := ⟨2, ![2048, 128]⟩) ![0, 0] (⟨2, ![2048, 64]⟩ : Shape).size i0, p⟩] : List (View.Piece (Elt Ideal) ⟨2, ![2048, 128]⟩ .f32)))
      fun t l => f (l / 64) t (l % 64) := fun (r : Fin 2048) (c : Fin 128) => by
  beta_reduce
  by_cases hc : c.val < 64
  · have hn : ValueIdx.ix2 r c ∉ (Rect.unit (s := ⟨2, ![2048, 128]⟩) ![0, 64] (⟨2, ![2048, 64]⟩ : Shape).size i1).set := fun hm => by
      obtain ⟨h1, h2⟩ := mem_unit hm
      omega
    have e := View.canon_cons_of_not_mem (Val := Elt Ideal) (⟨Rect.unit (s := ⟨2, ![2048, 128]⟩) ![0, 64] (⟨2, ![2048, 64]⟩ : Shape).size i1, q⟩ :
      View.Piece (Elt Ideal) ⟨2, ![2048, 128]⟩ .f32) [⟨Rect.unit (s := ⟨2, ![2048, 128]⟩) ![0, 0] (⟨2, ![2048, 64]⟩ : Shape).size i0, p⟩] hn
    refine e.trans ?_
    have e := idx_unit i0 r ⟨c.val, hc⟩ (by have := r.isLt; omega) (by show 0 + c.val < 128; omega)
    have e' : (Rect.unit (s := ⟨2, ![2048, 128]⟩) ![0, 0] (⟨2, ![2048, 64]⟩ : Shape).size i0).emb (ValueIdx.ix2 r ⟨c.val, hc⟩) = ValueIdx.ix2 r c := by
      exact e.trans (congrArg₂ ValueIdx.ix2 (Fin.ext (Nat.zero_add r.val)) (Fin.ext (Nat.zero_add c.val)))
    conv_lhs => rw [← e']
    refine (View.canon_cons_emb _ _ _ _).trans ((hp _ _).trans ?_)
    show ((f 0 r.val c.val : ℝ) : EReal) = _
    rw [Nat.div_eq_of_lt hc, Nat.mod_eq_of_lt hc]
  · have hc' : c.val - 64 < 64 := by have := c.isLt; omega
    have e := idx_unit i1 r ⟨c.val - 64, hc'⟩ (by have := r.isLt; omega) (by show 64 + (c.val - 64) < 128; omega)
    have e' : (Rect.unit (s := ⟨2, ![2048, 128]⟩) ![0, 64] (⟨2, ![2048, 64]⟩ : Shape).size i1).emb (ValueIdx.ix2 r ⟨c.val - 64, hc'⟩) = ValueIdx.ix2 r c := by
      exact e.trans (congrArg₂ ValueIdx.ix2 (Fin.ext (Nat.zero_add r.val)) (Fin.ext (Nat.add_sub_cancel' (Nat.le_of_not_lt hc))))
    conv_lhs => rw [← e']
    refine (View.canon_cons_emb _ _ _ _).trans ((hq _ _).trans ?_)
    show ((f 1 r.val (c.val - 64) : ℝ) : EReal) = _
    have e1 : c.val / 64 = 1 := by omega
    have e2 : c.val % 64 = c.val - 64 := by omega
    rw [e1, e2]

theorem word_nat {k : ℕ} (h : k < 2 ^ 31) : (BitVec.ofNat 32 k).toInt = k := by
  rw [BitVec.toInt_ofNat', Int.bmod_def]
  split <;> omega

/-- The mask of the entries under the diagonal, as the kernels write it. -/
theorem low_iota {n w : ℕ} (hn : n < 2 ^ 31) (hw : w < 2 ^ 31) (h0 : Shape.Iotas ⟨2, ![n, w]⟩ .tc 32 [0]) (h1 : Shape.Iotas ⟨2, ![n, w]⟩ .tc 32 [1]) :
    IsLow (cmpi .slt (iota .tc ⟨2, ![n, w]⟩ 32 [1] h1) (iota .tc ⟨2, ![n, w]⟩ 32 [0] h0)) := fun r c => by
  show IntOp.cmpi .slt (BitVec.ofNat 32 (0 * w + c.val)) (BitVec.ofNat 32 (0 * n + r.val)) = 1#1 ↔ _
  have hr := r.isLt
  have hc := c.isLt
  rw [IntOp.cmpi_slt, Nat.zero_mul, Nat.zero_mul, Nat.zero_add, Nat.zero_add, word_nat (by omega), word_nat (by omega)]
  omega

theorem low_slice {N n w : ℕ} {x : IVec ⟨2, ![N, w]⟩ 1} (hx : IsLow x) (hs : Shape.Slices (s := ⟨2, ![N, w]⟩) ![0, 0] ⟨2, ![n, w]⟩) :
    IsLow (extractStridedSlice ⟨2, ![n, w]⟩ ![0, 0] x hs) := fun r c => by
  have h0 : r.val < N := by
    have h2 := hs.2 0
    have h3 : 0 + n ≤ N := h2
    have := r.isLt; omega
  rw [← hx ⟨r.val, h0⟩ c]
  have : extractStridedSlice ⟨2, ![n, w]⟩ ![0, 0] x hs (ValueIdx.ix2 r c) = x (ValueIdx.ix2 ⟨r.val, h0⟩ c) := by
    refine congrArg x (funext fun d => Fin.ext ?_)
    match d with
    | ⟨0, _⟩ => exact Nat.zero_add _
    | ⟨1, _⟩ => exact Nat.zero_add _
  rw [this]

end Cert.Proof.Store
-- ==== Proof.TileAll.lean ====
/- A tile as a whole: the running sums, the query gradient and the key block's gradients after it, from those before it. The
   first tile takes all rows, a later one the rows from its first key on, and the last one has no later keys to count. -/
module

public import proofs.«01_k».proof.Proof.Store

@[expose] public section

noncomputable section

namespace Cert.Proof.Tile

open Idealize.ShloMosaic Cert.Proof.Rows Cert.Proof.Break

/-- One head's blocks as a grid point loads them. -/
structure In (H : Head) (q w : Arr 2048 64 .bf16) (call : Arr 2048 1 .f32) : Prop where
  q : IsR q H.q
  w : IsR w H.w
  call : IsR call fun t _ => H.cum 2048 t

/-- The running values after the keys below `T`. -/
structure St (H : Head) (T : ℕ) (c g : Arr 2048 1 .f32) (dq : Arr 2048 64 .f32) : Prop where
  c : IsR c fun t _ => H.cum T t
  g : IsR g fun t _ => H.gcum T t
  dq : IsR dq fun t j => H.dq T t j

/-- One tile of keys and values. -/
structure Key (H : Head) (T : ℕ) (k v : Arr 256 64 .bf16) : Prop where
  k : IsR k fun u j => H.k (T + u) j
  v : IsR v fun u j => H.v (T + u) j

/-- The two triangles of ones. -/
structure Tri (tri trt : Arr 256 256 .bf16) : Prop where
  tri : IsR tri fun u c => if c ≤ u then 1 else 0
  trt : IsR trt fun u c => if u ≤ c then 1 else 0

section
variable {n : ℕ} (msk : IVec ⟨2, ![n, 256]⟩ 1) (q w : Arr n 64 .bf16) (k v : Arr 256 64 .bf16) (tri trt : Arr 256 256 .bf16)
  (rem : Arr n 256 .f32) (cl gl call : Arr n 1 .f32)
  (h0 : Shape.Slices (s := ⟨2, ![n, 256]⟩) ![0, 0] ⟨2, ![n, 1]⟩) (hb : Shape.Broadcasts ⟨2, ![n, 1]⟩ ⟨2, ![n, 256]⟩)

abbrev rTile : Arr n 256 .f32 := sumT msk (zT q k) tri
abbrev cTile : Arr n 1 .f32 := cT cl (rTile msk q k tri) h0
abbrev remTile : Arr n 256 .f32 := remT call (cTile msk q k tri cl h0) hb
abbrev aTile : Arr n 256 .f32 := aT msk (zT q k) (rTile msk q k tri) rem
abbrev gTile : Arr n 256 .f32 := gT (aTile msk q k tri rem) w v
abbrev pgTile : Arr n 256 .f32 := pgT (gTile msk q w k v tri rem) trt
abbrev dzTile : Arr n 256 .bf16 := dzT msk (zT q k) (gTile msk q w k v tri rem) gl (pgTile msk q w k v tri trt rem) hb

end

section
variable {n : ℕ} {msk : IVec ⟨2, ![n, 256]⟩ 1} {q w : Arr n 64 .bf16} {k v : Arr 256 64 .bf16} {tri trt : Arr 256 256 .bf16}
  {rem : Arr n 256 .f32} {cl gl call : Arr n 1 .f32} {H : Head} {T : ℕ}

theorem cTile_is (hm : IsLow msk) (hq : IsR q fun r j => H.q (T + r) j) (hkv : Key H T k v) (ht : Tri tri trt)
    (hcl : IsR cl fun r _ => H.cum T (T + r)) (h0) :
    IsR (cTile msk q k tri cl h0) fun r _ => H.cum (T + 256) (T + r) :=
  c_is H T hcl (sum_is H T hm (z_is H T hq hkv.k) ht.tri) h0

theorem remTile_is (hm : IsLow msk) (hq : IsR q fun r j => H.q (T + r) j) (hkv : Key H T k v) (ht : Tri tri trt)
    (hcl : IsR cl fun r _ => H.cum T (T + r)) (hcall : IsR call fun r _ => H.cum 2048 (T + r)) (h0) (hb) :
    IsR (remTile msk q k tri cl call h0 hb) fun r _ => H.cum 2048 (T + r) - H.cum (T + 256) (T + r) :=
  rem_is H T hcall (cTile_is hm hq hkv ht hcl h0) hb

theorem aTile_is (hm : IsLow msk) (hq : IsR q fun r j => H.q (T + r) j) (hkv : Key H T k v) (ht : Tri tri trt)
    (hrem : IsR rem fun r _ => H.cum 2048 (T + r) - H.cum (T + 256) (T + r)) :
    IsR (aTile msk q k tri rem) fun r u => H.att (T + r) (T + u) :=
  a_is H T hm (z_is H T hq hkv.k) (sum_is H T hm (z_is H T hq hkv.k) ht.tri) hrem

theorem gTile_is (hm : IsLow msk) (hq : IsR q fun r j => H.q (T + r) j) (hw : IsR w fun r j => H.w (T + r) j) (hkv : Key H T k v)
    (ht : Tri tri trt) (hrem : IsR rem fun r _ => H.cum 2048 (T + r) - H.cum (T + 256) (T + r)) :
    IsR (gTile msk q w k v tri rem) fun r u => H.gr (T + r) (T + u) :=
  g_is H T (aTile_is hm hq hkv ht hrem) hw hkv.v

theorem pgTile_is (hm : IsLow msk) (hq : IsR q fun r j => H.q (T + r) j) (hw : IsR w fun r j => H.w (T + r) j) (hkv : Key H T k v)
    (ht : Tri tri trt) (hrem : IsR rem fun r _ => H.cum 2048 (T + r) - H.cum (T + 256) (T + r)) :
    IsR (pgTile msk q w k v tri trt rem) fun r c => H.gcum (T + (c + 1)) (T + r) - H.gcum T (T + r) :=
  pg_is H T (gTile_is hm hq hw hkv ht hrem) ht.trt

theorem dzTile_is (hm : IsLow msk) (hq : IsR q fun r j => H.q (T + r) j) (hw : IsR w fun r j => H.w (T + r) j) (hkv : Key H T k v)
    (ht : Tri tri trt) (hrem : IsR rem fun r _ => H.cum 2048 (T + r) - H.cum (T + 256) (T + r))
    (hgl : IsR gl fun r _ => H.gcum T (T + r)) (hb) :
    IsR (dzTile msk q w k v tri trt rem gl hb) fun r u => H.dz (T + r) (T + u) :=
  dz_is H T hm (z_is H T hq hkv.k) (gTile_is hm hq hw hkv ht hrem) hgl (pgTile_is hm hq hw hkv ht hrem) hb

end

theorem rows {N n w : ℕ} {φ : FTy} {x : Arr N w φ} {f : ℕ → ℕ → ℝ} (h : IsR x f) (a : ℕ)
    (hs : Shape.Slices (s := ⟨2, ![N, w]⟩) ![a, 0] ⟨2, ![n, w]⟩) :
    IsR (extractStridedSlice ⟨2, ![n, w]⟩ ![a, 0] x hs) fun r c => f (a + r) c :=
  (h.slice a 0 hs).congr fun r c _ _ => by rw [Nat.zero_add]

theorem from0 {n w : ℕ} {φ : FTy} {x : Arr n w φ} {f : ℕ → ℕ → ℝ} (h : IsR x f) : IsR x fun r c => f (0 + r) c :=
  h.congr fun r c _ _ => by rw [Nat.zero_add]

section
variable (H : Head) {q w : Arr 2048 64 .bf16} {call c g : Arr 2048 1 .f32} {dq : Arr 2048 64 .f32} {k v : Arr 256 64 .bf16}
  {tri trt : Arr 256 256 .bf16} {acc : Arr 256 64 .f32}

/-! ### The first tile -/

section
variable {msk : IVec ⟨2, ![2048, 256]⟩ 1} (hm : IsLow msk) (hi : In H q w call) (hs : St H 0 c g dq) (hkv : Key H 0 k v) (ht : Tri tri trt)
include hm hi hs hkv ht

theorem first_rem (h0 hb) : IsR (remTile msk q k tri c call h0 hb) fun r _ => H.cum 2048 (0 + r) - H.cum (0 + 256) (0 + r) :=
  remTile_is hm (from0 hi.q) hkv ht (from0 hs.c) (from0 hi.call) h0 hb

theorem first_st (h0 hb h255) :
    St H 256 (cTile msk q k tri c h0) (glT g (pgTile msk q w k v tri trt (remTile msk q k tri c call h0 hb)) h255)
      (dqT dq (dzTile msk q w k v tri trt (remTile msk q k tri c call h0 hb) g hb) k) := by
  have hr := first_rem H hm hi hs hkv ht h0 hb
  refine ⟨?_, ?_, ?_⟩
  · exact (cTile_is hm (from0 hi.q) hkv ht (from0 hs.c) h0).congr fun r c _ _ => by rw [Nat.zero_add, Nat.zero_add]
  · exact (gl_is H 0 (from0 hs.g) (pgTile_is hm (from0 hi.q) (from0 hi.w) hkv ht hr) h255).congr fun r c _ _ => by
      rw [Nat.zero_add, Nat.zero_add]
  · exact (dq_is H 0 (from0 hs.dq) (dzTile_is hm (from0 hi.q) (from0 hi.w) hkv ht hr (from0 hs.g) hb) hkv.k).congr fun r c _ _ => by
      rw [Nat.zero_add, Nat.zero_add]

theorem first_dk (h0 hb) (ha : IsR acc fun _ _ => 0) :
    IsR (dkT acc (dzTile msk q w k v tri trt (remTile msk q k tri c call h0 hb) g hb) q) fun u j => H.dk (0 + u) j :=
  dk_is H 0 rfl ha (dzTile_is hm (from0 hi.q) (from0 hi.w) hkv ht (first_rem H hm hi hs hkv ht h0 hb) (from0 hs.g) hb) (from0 hi.q)

theorem first_dv (h0 hb) (ha : IsR acc fun _ _ => 0) :
    IsR (dkT acc (truncf .bf16 (aTile msk q k tri (remTile msk q k tri c call h0 hb)) bitsLt_bf16_f32) w) fun u j => H.dv (0 + u) j :=
  dv_is H 0 rfl ha (aTile_is hm (from0 hi.q) hkv ht (first_rem H hm hi hs hkv ht h0 hb)) (from0 hi.w)

end

/-! ### A later tile -/

section
variable {n : ℕ} (T : ℕ) (hT : T + n = 2048) {msk : IVec ⟨2, ![n, 256]⟩ 1} (hm : IsLow msk) (hi : In H q w call) (hs : St H T c g dq)
  (hkv : Key H T k v) (ht : Tri tri trt)

/-- The rows from `T` on. -/
abbrev tl {w' : ℕ} {φ : FTy} (n T : ℕ) (x : Arr 2048 w' φ) (h : Shape.Slices (s := ⟨2, ![2048, w']⟩) ![T, 0] ⟨2, ![n, w']⟩) : Arr n w' φ :=
  extractStridedSlice ⟨2, ![n, w']⟩ ![T, 0] x h
/-- The rows before `T`, and new ones from `T` on. -/
abbrev join {w' n T : ℕ} (x : Arr 2048 w' .f32) (y : Arr n w' .f32) (h : Shape.Slices (s := ⟨2, ![2048, w']⟩) ![0, 0] ⟨2, ![T, w']⟩)
    (hc : Shape.Concatenates [⟨2, ![T, w']⟩, ⟨2, ![n, w']⟩] ⟨2, ![2048, w']⟩ 0) : Arr 2048 w' .f32 :=
  concatenate ⟨2, ![2048, w']⟩ 0 [⟨⟨2, ![T, w']⟩, extractStridedSlice ⟨2, ![T, w']⟩ ![0, 0] x h⟩, ⟨⟨2, ![n, w']⟩, y⟩] hc

include hm hi hs hkv ht

theorem mid_rem (s1 s64 h0 hb) :
    IsR (remTile msk (tl n T q s64) k tri (tl n T c s1) (tl n T call s1) h0 hb) fun r _ => H.cum 2048 (T + r) - H.cum (T + 256) (T + r) :=
  remTile_is hm (rows hi.q T s64) hkv ht (rows hs.c T s1) (rows hi.call T s1) h0 hb

include hT

theorem mid_c (s1 s64 h0 p1 c1) :
    IsR (join (T := T) c (cTile msk (tl n T q s64) k tri (tl n T c s1) h0) p1 c1) fun t _ => H.cum (T + 256) t :=
  stack_is (f := fun T t _ => H.cum T t) T hT hs.c (cTile_is hm (rows hi.q T s64) hkv ht (rows hs.c T s1) h0)
    (fun _ _ h => H.cum_of_le h) p1 c1

theorem mid_g {rem : Arr n 256 .f32} (hr : IsR rem fun r _ => H.cum 2048 (T + r) - H.cum (T + 256) (T + r)) (s1 s64 h255 p1 c1) :
    IsR (join (T := T) g (glT (tl n T g s1) (pgTile msk (tl n T q s64) (tl n T w s64) k v tri trt rem) h255) p1 c1) fun t _ => H.gcum (T + 256) t :=
  stack_is (f := fun T t _ => H.gcum T t) T hT hs.g
    (gl_is H T (rows hs.g T s1) (pgTile_is hm (rows hi.q T s64) (rows hi.w T s64) hkv ht hr) h255)
    (fun _ _ h => H.gcum_of_le h) p1 c1

theorem mid_dq {rem : Arr n 256 .f32} (hr : IsR rem fun r _ => H.cum 2048 (T + r) - H.cum (T + 256) (T + r)) (s1 s64 hb p64 c64) :
    IsR (join (T := T) dq (dqT (tl n T dq s64) (dzTile msk (tl n T q s64) (tl n T w s64) k v tri trt rem (tl n T g s1) hb) k) p64 c64)
      fun t j => H.dq (T + 256) t j :=
  stack_is (f := fun T t j => H.dq T t j) T hT hs.dq
    (dq_is H T (rows hs.dq T s64) (dzTile_is hm (rows hi.q T s64) (rows hi.w T s64) hkv ht hr (rows hs.g T s1) hb) hkv.k)
    (fun _ j h => H.dq_of_le j h) p64 c64

theorem mid_dk {rem : Arr n 256 .f32} (hr : IsR rem fun r _ => H.cum 2048 (T + r) - H.cum (T + 256) (T + r)) (s1 s64 hb)
    (ha : IsR acc fun _ _ => 0) :
    IsR (dkT acc (dzTile msk (tl n T q s64) (tl n T w s64) k v tri trt rem (tl n T g s1) hb) (tl n T q s64)) fun u j => H.dk (T + u) j :=
  dk_is H T hT ha (dzTile_is hm (rows hi.q T s64) (rows hi.w T s64) hkv ht hr (rows hs.g T s1) hb) (rows hi.q T s64)

theorem mid_dv {rem : Arr n 256 .f32} (hr : IsR rem fun r _ => H.cum 2048 (T + r) - H.cum (T + 256) (T + r)) (s64)
    (ha : IsR acc fun _ _ => 0) :
    IsR (dkT acc (truncf .bf16 (aTile msk (tl n T q s64) k tri rem) bitsLt_bf16_f32) (tl n T w s64)) fun u j => H.dv (T + u) j :=
  dv_is H T hT ha (aTile_is hm (rows hi.q T s64) hkv ht hr) (rows hi.w T s64)

theorem mid_st (s1 s64 h0 hb h255 p1 c1 p64 c64) :
    St H (T + 256) (join (T := T) c (cTile msk (tl n T q s64) k tri (tl n T c s1) h0) p1 c1)
      (join (T := T) g (glT (tl n T g s1) (pgTile msk (tl n T q s64) (tl n T w s64) k v tri trt
        (remTile msk (tl n T q s64) k tri (tl n T c s1) (tl n T call s1) h0 hb)) h255) p1 c1)
      (join (T := T) dq (dqT (tl n T dq s64) (dzTile msk (tl n T q s64) (tl n T w s64) k v tri trt
        (remTile msk (tl n T q s64) k tri (tl n T c s1) (tl n T call s1) h0 hb) (tl n T g s1) hb) k) p64 c64) :=
  have hr := mid_rem H T hm hi hs hkv ht s1 s64 h0 hb
  ⟨mid_c H T hT hm hi hs hkv ht s1 s64 h0 p1 c1, mid_g H T hT hm hi hs hkv ht hr s1 s64 h255 p1 c1,
    mid_dq H T hT hm hi hs hkv ht hr s1 s64 hb p64 c64⟩

end

end

/-- The running values before any key. -/
theorem st_zero (H : Head) {c g : Arr 2048 1 .f32} {dq : Arr 2048 64 .f32} (hc : IsR c fun _ _ => 0) (hg : IsR g fun _ _ => 0)
    (hd : IsR dq fun _ _ => 0) : St H 0 c g dq :=
  ⟨hc.congr fun _ _ _ _ => rfl, hg.congr fun _ _ _ _ => rfl, hd.congr fun _ _ _ _ => rfl⟩

/-- The two triangles, as the kernels write them. -/
theorem tri_iota (h0 : Shape.Iotas ⟨2, ![256, 256]⟩ .tc 32 [0]) (h1 : Shape.Iotas ⟨2, ![256, 256]⟩ .tc 32 [1]) (he : 1 < 32) :
    Tri (truncf .bf16 (sitofp .f32 (extui 32 (cmpi .sge (iota .tc ⟨2, ![256, 256]⟩ 32 [0] h0) (iota .tc ⟨2, ![256, 256]⟩ 32 [1] h1)) he)) bitsLt_bf16_f32)
      (truncf .bf16 (sitofp .f32 (extui 32 (cmpi .sle (iota .tc ⟨2, ![256, 256]⟩ 32 [0] h0) (iota .tc ⟨2, ![256, 256]⟩ 32 [1] h1)) he)) bitsLt_bf16_f32) := by
  have bit (b : BitVec 1) : (((b.setWidth 32).toInt : ℝ)) = if b = 1#1 then 1 else 0 := by
    have : b = 0#1 ∨ b = 1#1 := by revert b; decide
    rcases this with rfl | rfl <;> simp
  refine ⟨fun r c => ?_, fun r c => ?_⟩
  · show ((((IntOp.cmpi .sge (BitVec.ofNat 32 (0 * 256 + r.val)) (BitVec.ofNat 32 (0 * 256 + c.val))).setWidth 32).toInt : ℝ) : EReal) = _
    rw [bit]
    refine congrArg (fun x : ℝ => (x : EReal)) (if_congr ?_ rfl rfl)
    rw [IntOp.cmpi_sge, Nat.zero_mul, Nat.zero_add, Nat.zero_add, Store.word_nat (by omega), Store.word_nat (by omega)]
    omega
  · show ((((IntOp.cmpi .sle (BitVec.ofNat 32 (0 * 256 + r.val)) (BitVec.ofNat 32 (0 * 256 + c.val))).setWidth 32).toInt : ℝ) : EReal) = _
    rw [bit]
    refine congrArg (fun x : ℝ => (x : EReal)) (if_congr ?_ rfl rfl)
    rw [IntOp.cmpi_sle, Nat.zero_mul, Nat.zero_add, Nat.zero_add, Store.word_nat (by omega), Store.word_nat (by omega)]
    omega

end Cert.Proof.Tile
-- ==== Proof.BwdTiles.lean ====
/- What one run of the backward call's body stores, as real numbers: each of the sixteen tiles is an instance of the tile's
   lemmas, and the two gradients of keys and values are filled tile by tile. -/
module

public import proofs.«01_k».proof.Proof.BwdRun
public import proofs.«01_k».proof.Proof.TileAll

@[expose] public section

set_option maxRecDepth 16384

noncomputable section

namespace Cert.Proof.Bwd

open Cert.KernelIdeal Cert.KernelIdeal.Gen
open Idealize.ShloMosaic Cert.Proof.Rows Cert.Proof.Break Cert.Proof.Tile Cert.Proof.Store

/-- Head `h` of a block of two heads of 64 columns each. -/
abbrev hd (X0 X1 X2 X4 : ℕ → ℕ → ℝ) (h : ℕ) : Head where
  q t j := X0 t (64 * h + j)
  k t j := X1 t (64 * h + j)
  v t j := X2 t (64 * h + j)
  w t j := X4 t (64 * h + j)

/-- The blocks of the queries, keys, values, of the calls' totals and of the output's gradient, as real numbers. -/
structure Blk (x0 x1 x2 : Vec Ideal S2048x128 .bf16) (x3 x4 : Vec Ideal S2048x128 .f32) (X0 X1 X2 X3 X4 : ℕ → ℕ → ℝ) : Prop where
  q : IsR (φ := .bf16) x0 X0
  k : IsR (φ := .bf16) x1 X1
  v : IsR (φ := .bf16) x2 X2
  call : IsR (φ := .f32) x3 X3
  w : IsR (φ := .f32) x4 X4
  total : ∀ h t, h < 2 → t < 2048 → X3 t (64 * h) = (hd X0 X1 X2 X4 h).cum 2048 t

variable (c : Dev nD) {arg2 : Memref sig .tc .vmem S2048x128 .bf16} (harg2 : arg2.IsWhole) {arg3 : Memref sig .tc .vmem S2048x128 .bf16} (harg3 : arg3.IsWhole)
  {arg4 : Memref sig .tc .vmem S2048x128 .bf16} (harg4 : arg4.IsWhole) {arg5 : Memref sig .tc .vmem S2048x128 .f32} (harg5 : arg5.IsWhole)
  {arg6 : Memref sig .tc .vmem S2048x128 .f32} (harg6 : arg6.IsWhole) (arg9 arg10 : Memref sig .tc .vmem S2048x128 .f32)
  {x0 x1 x2 : Vec Ideal S2048x128 .bf16} {x3 x4 : Vec Ideal S2048x128 .f32} {X0 X1 X2 X3 X4 : ℕ → ℕ → ℝ}
  (B : Blk x0 x1 x2 x3 x4 X0 X1 X2 X3 X4)

theorem tri : Tri (k0_pay48 (F := Ideal)) (k0_pay49 (F := Ideal)) := tri_iota _ _ _

theorem low0 : IsLow (k0_pay70 bodyRun.sl.v0 bodyRun.sl.v1) :=
  low_iota (by norm_num) (by norm_num) iota_S2048x256_d0_w32 iota_S2048x256_d1_w32
theorem low1 : IsLow (k0_pay100 bodyRun.sl.v0 bodyRun.sl.v1) := low_slice low0 slices_S2048x256_o0_0_S1792x256
theorem low2 : IsLow (k0_pay139 bodyRun.sl.v0 bodyRun.sl.v1) := low_slice low0 slices_S2048x256_o0_0_S1536x256
theorem low3 : IsLow (k0_pay178 bodyRun.sl.v0 bodyRun.sl.v1) := low_slice low0 slices_S2048x256_o0_0_S1280x256
theorem low4 : IsLow (k0_pay217 bodyRun.sl.v0 bodyRun.sl.v1) := low_slice low0 slices_S2048x256_o0_0_S1024x256
theorem low5 : IsLow (k0_pay254 bodyRun.sl.v0 bodyRun.sl.v1) := low_slice low0 slices_S2048x256_o0_0_S768x256
theorem low6 : IsLow (k0_pay288 bodyRun.sl.v0 bodyRun.sl.v1) := low_slice low0 slices_S2048x256_o0_0_S512x256
theorem low7 : IsLow (k0_pay321 bodyRun.sl.v0 bodyRun.sl.v1) := low_slice low0 slices_S2048x256_o0_0_S256x256

include B

theorem in0 : In (hd X0 X1 X2 X4 0) (bodyRun.sl.r c arg2 harg2 x0) (bodyRun.sl.r_2 c arg6 harg6 x4) (bodyRun.sl.r_4 c arg5 harg5 x3) where
  q := ((load_bf16 (n := 2048) (w := 64) harg2 B.q 0 0 k0_off1_inb).same shapeCasts_S2048x64_S2048x64).congr
    (g := (hd X0 X1 X2 X4 0).q) fun r c _ _ => by simp only [Nat.zero_add, Nat.mul_zero, Nat.mul_one]
  w := ((load_f32 (n := 2048) (w := 64) harg6 B.w 0 0 k0_off1_inb).truncf Tile.bitsLt_bf16_f32).congr
    (g := (hd X0 X1 X2 X4 0).w) fun r c _ _ => by simp only [Nat.zero_add, Nat.mul_zero, Nat.mul_one]
  call := (((load_f32 (n := 2048) (w := 64) harg5 B.call 0 0 k0_off1_inb).same shapeCasts_S2048x64_S2048x64).slice 0 0
      slices_S2048x64_o0_0_S2048x1).congr (g := fun t _ => (hd X0 X1 X2 X4 0).cum 2048 t) fun r c hr hc => by
    obtain rfl : c = 0 := by omega
    simp only [Nat.zero_add, Nat.add_zero]; exact B.total 0 r (by norm_num) hr

theorem in1 : In (hd X0 X1 X2 X4 1) (bodyRun.sl.r_1 c arg2 harg2 x0) (bodyRun.sl.r_3 c arg6 harg6 x4) (bodyRun.sl.r_5 c arg5 harg5 x3) where
  q := ((load_bf16 (n := 2048) (w := 64) harg2 B.q 0 64 k0_off2_inb).same shapeCasts_S2048x64_S2048x64).congr
    (g := (hd X0 X1 X2 X4 1).q) fun r c _ _ => by simp only [Nat.zero_add, Nat.mul_zero, Nat.mul_one]
  w := ((load_f32 (n := 2048) (w := 64) harg6 B.w 0 64 k0_off2_inb).truncf Tile.bitsLt_bf16_f32).congr
    (g := (hd X0 X1 X2 X4 1).w) fun r c _ _ => by simp only [Nat.zero_add, Nat.mul_zero, Nat.mul_one]
  call := (((load_f32 (n := 2048) (w := 64) harg5 B.call 0 64 k0_off2_inb).same shapeCasts_S2048x64_S2048x64).slice 0 0
      slices_S2048x64_o0_0_S2048x1).congr (g := fun t _ => (hd X0 X1 X2 X4 1).cum 2048 t) fun r c hr hc => by
    obtain rfl : c = 0 := by omega
    simp only [Nat.zero_add, Nat.add_zero]; exact B.total 1 r (by norm_num) hr

/-- The keys and values of a tile, as the body loads them. -/
theorem key (T h : ℕ) (i : ∀ d, (![T, 64 * h] : Fin 2 → ℕ) d + S256x64.size d ≤ S2048x128.size d) :
    Key (hd X0 X1 X2 X4 h) T
      (shapeCast S256x64 (View.readAt (Elt Ideal) arg3.view (Rect.unit (s := S2048x128) ![T, 64 * h] S256x64.size i).toLoadRect (harg3.unread x1)) shapeCasts_S256x64_S256x64)
      (shapeCast S256x64 (View.readAt (Elt Ideal) arg4.view (Rect.unit (s := S2048x128) ![T, 64 * h] S256x64.size i).toLoadRect (harg4.unread x2)) shapeCasts_S256x64_S256x64) :=
  ⟨(load_bf16 harg3 B.k T (64 * h) i).same _, (load_bf16 harg4 B.v T (64 * h) i).same _⟩

omit B in
theorem st0 (H : Head) : St H 0 (k0_pay58 (F := Ideal)) (k0_pay58 (F := Ideal)) (k0_pay59 (F := Ideal)) :=
  st_zero H IsR.zeroC IsR.zeroC IsR.zeroC

/-- The gradients of keys and values, one head after the other. -/
abbrev dkF (X0 X1 X2 X4 : ℕ → ℕ → ℝ) (t l : ℕ) : ℝ := (hd X0 X1 X2 X4 (l / 64)).dk t (l % 64)
abbrev dvF (X0 X1 X2 X4 : ℕ → ℕ → ℝ) (t l : ℕ) : ℝ := (hd X0 X1 X2 X4 (l / 64)).dv t (l % 64)
abbrev dqF (X0 X1 X2 X4 : ℕ → ℕ → ℝ) (t l : ℕ) : ℝ := (hd X0 X1 X2 X4 (l / 64)).dq 2048 t (l % 64)

omit B in
theorem next {f : ℕ → ℕ → ℕ → ℝ} {k : ℕ} {L : List (View.Piece (Elt Ideal) S2048x128 .f32)} (h : Grid k L fun t l => f (l / 64) t (l % 64))
    (a b : ℕ) (ha : a < 8) (hb : b < 2) (hk : 2 * a + b = k) (inb) {p : FVec Ideal S256x64 .f32}
    (hp : IsR p fun u j => f b (256 * a + u) j) :
    Grid (k + 1) (⟨Rect.unit (s := S2048x128) ![256 * a, 64 * b] S256x64.size inb, p⟩ :: L) fun t l => f (l / 64) t (l % 64) :=
  grid_succ h a b ha hb hk inb (hp.congr fun u j _ hj => by
    have e1 : (64 * b + j) / 64 = b := by omega
    have e2 : (64 * b + j) % 64 = j := by omega
    show f b (256 * a + u) j = f ((64 * b + j) / 64) (256 * a + u) ((64 * b + j) % 64)
    rw [e1, e2])

set_option maxHeartbeats 200000

theorem s00 : St (hd X0 X1 X2 X4 0) 256 (bodyRun.sl.r_8 c arg2 harg2 arg3 harg3 x0 x1) (bodyRun.sl.r_11 c arg2 harg2 arg3 harg3 arg4 harg4 arg5 harg5 arg6 harg6 x0 x1 x2 x3 x4) (bodyRun.sl.r_12 c arg2 harg2 arg3 harg3 arg4 harg4 arg5 harg5 arg6 harg6 x0 x1 x2 x3 x4) := by
  have H := first_st _ low0 (in0 c harg2 harg5 harg6 B) (st0 _) (key harg3 harg4 B 0 0 (by decide)) tri slices_S2048x256_o0_0_S2048x1 broadcasts_S2048x1_S2048x256 slices_S2048x256_o0_255_S2048x1
  exact H

theorem s01 : St (hd X0 X1 X2 X4 1) 256 (bodyRun.sl.r_17 c arg2 harg2 arg3 harg3 x0 x1) (bodyRun.sl.r_19 c arg2 harg2 arg3 harg3 arg4 harg4 arg5 harg5 arg6 harg6 x0 x1 x2 x3 x4) (bodyRun.sl.r_20 c arg2 harg2 arg3 harg3 arg4 harg4 arg5 harg5 arg6 harg6 x0 x1 x2 x3 x4) := by
  have H := first_st _ low0 (in1 c harg2 harg5 harg6 B) (st0 _) (key harg3 harg4 B 0 1 (by decide)) tri slices_S2048x256_o0_0_S2048x1 broadcasts_S2048x1_S2048x256 slices_S2048x256_o0_255_S2048x1
  exact H

theorem s10 : St (hd X0 X1 X2 X4 0) 512 (bodyRun.sl.r_30 c arg2 harg2 arg3 harg3 x0 x1) (bodyRun.sl.r_31 c arg2 harg2 arg3 harg3 arg4 harg4 arg5 harg5 arg6 harg6 x0 x1 x2 x3 x4) (bodyRun.sl.r_32 c arg2 harg2 arg3 harg3 arg4 harg4 arg5 harg5 arg6 harg6 x0 x1 x2 x3 x4) := by
  have H := mid_st _ 256 rfl low1 (in0 c harg2 harg5 harg6 B) (s00 c harg2 harg3 harg4 harg5 harg6 B) (key harg3 harg4 B 256 0 (by decide)) tri slices_S2048x1_o256_0_S1792x1 slices_S2048x64_o256_0_S1792x64 slices_S1792x256_o0_0_S1792x1 broadcasts_S1792x1_S1792x256 slices_S1792x256_o0_255_S1792x1 slices_S2048x1_o0_0_S256x1 concatenates_S256x1_S1792x1_S2048x1_d0 slices_S2048x64_o0_0_S256x64 concatenates_S256x64_S1792x64_S2048x64_d0
  exact H

theorem s11 : St (hd X0 X1 X2 X4 1) 512 (bodyRun.sl.r_44 c arg2 harg2 arg3 harg3 x0 x1) (bodyRun.sl.r_45 c arg2 harg2 arg3 harg3 arg4 harg4 arg5 harg5 arg6 harg6 x0 x1 x2 x3 x4) (bodyRun.sl.r_46 c arg2 harg2 arg3 harg3 arg4 harg4 arg5 harg5 arg6 harg6 x0 x1 x2 x3 x4) := by
  have H := mid_st _ 256 rfl low1 (in1 c harg2 harg5 harg6 B) (s01 c harg2 harg3 harg4 harg5 harg6 B) (key harg3 harg4 B 256 1 (by decide)) tri slices_S2048x1_o256_0_S1792x1 slices_S2048x64_o256_0_S1792x64 slices_S1792x256_o0_0_S1792x1 broadcasts_S1792x1_S1792x256 slices_S1792x256_o0_255_S1792x1 slices_S2048x1_o0_0_S256x1 concatenates_S256x1_S1792x1_S2048x1_d0 slices_S2048x64_o0_0_S256x64 concatenates_S256x64_S1792x64_S2048x64_d0
  exact H

theorem s20 : St (hd X0 X1 X2 X4 0) 768 (bodyRun.sl.r_55 c arg2 harg2 arg3 harg3 x0 x1) (bodyRun.sl.r_56 c arg2 harg2 arg3 harg3 arg4 harg4 arg5 harg5 arg6 harg6 x0 x1 x2 x3 x4) (bodyRun.sl.r_58 c arg2 harg2 arg3 harg3 arg4 harg4 arg5 harg5 arg6 harg6 x0 x1 x2 x3 x4) := by
  have H := mid_st _ 512 rfl low2 (in0 c harg2 harg5 harg6 B) (s10 c harg2 harg3 harg4 harg5 harg6 B) (key harg3 harg4 B 512 0 (by decide)) tri slices_S2048x1_o512_0_S1536x1 slices_S2048x64_o512_0_S1536x64 slices_S1536x256_o0_0_S1536x1 broadcasts_S1536x1_S1536x256 slices_S1536x256_o0_255_S1536x1 slices_S2048x1_o0_0_S512x1 concatenates_S512x1_S1536x1_S2048x1_d0 slices_S2048x64_o0_0_S512x64 concatenates_S512x64_S1536x64_S2048x64_d0
  exact H

theorem s21 : St (hd X0 X1 X2 X4 1) 768 (bodyRun.sl.r_66 c arg2 harg2 arg3 harg3 x0 x1) (bodyRun.sl.r_67 c arg2 harg2 arg3 harg3 arg4 harg4 arg5 harg5 arg6 harg6 x0 x1 x2 x3 x4) (bodyRun.sl.r_68 c arg2 harg2 arg3 harg3 arg4 harg4 arg5 harg5 arg6 harg6 x0 x1 x2 x3 x4) := by
  have H := mid_st _ 512 rfl low2 (in1 c harg2 harg5 harg6 B) (s11 c harg2 harg3 harg4 harg5 harg6 B) (key harg3 harg4 B 512 1 (by decide)) tri slices_S2048x1_o512_0_S1536x1 slices_S2048x64_o512_0_S1536x64 slices_S1536x256_o0_0_S1536x1 broadcasts_S1536x1_S1536x256 slices_S1536x256_o0_255_S1536x1 slices_S2048x1_o0_0_S512x1 concatenates_S512x1_S1536x1_S2048x1_d0 slices_S2048x64_o0_0_S512x64 concatenates_S512x64_S1536x64_S2048x64_d0
  exact H

theorem s30 : St (hd X0 X1 X2 X4 0) 1024 (bodyRun.sl.r_80 c arg2 harg2 arg3 harg3 x0 x1) (bodyRun.sl.r_81 c arg2 harg2 arg3 harg3 arg4 harg4 arg5 harg5 arg6 harg6 x0 x1 x2 x3 x4) (bodyRun.sl.r_82 c arg2 harg2 arg3 harg3 arg4 harg4 arg5 harg5 arg6 harg6 x0 x1 x2 x3 x4) := by
  have H := mid_st _ 768 rfl low3 (in0 c harg2 harg5 harg6 B) (s20 c harg2 harg3 harg4 harg5 harg6 B) (key harg3 harg4 B 768 0 (by decide)) tri slices_S2048x1_o768_0_S1280x1 slices_S2048x64_o768_0_S1280x64 slices_S1280x256_o0_0_S1280x1 broadcasts_S1280x1_S1280x256 slices_S1280x256_o0_255_S1280x1 slices_S2048x1_o0_0_S768x1 concatenates_S768x1_S1280x1_S2048x1_d0 slices_S2048x64_o0_0_S768x64 concatenates_S768x64_S1280x64_S2048x64_d0
  exact H

theorem s31 : St (hd X0 X1 X2 X4 1) 1024 (bodyRun.sl.r_89 c arg2 harg2 arg3 harg3 x0 x1) (bodyRun.sl.r_90 c arg2 harg2 arg3 harg3 arg4 harg4 arg5 harg5 arg6 harg6 x0 x1 x2 x3 x4) (bodyRun.sl.r_91 c arg2 harg2 arg3 harg3 arg4 harg4 arg5 harg5 arg6 harg6 x0 x1 x2 x3 x4) := by
  have H := mid_st _ 768 rfl low3 (in1 c harg2 harg5 harg6 B) (s21 c harg2 harg3 harg4 harg5 harg6 B) (key harg3 harg4 B 768 1 (by decide)) tri slices_S2048x1_o768_0_S1280x1 slices_S2048x64_o768_0_S1280x64 slices_S1280x256_o0_0_S1280x1 broadcasts_S1280x1_S1280x256 slices_S1280x256_o0_255_S1280x1 slices_S2048x1_o0_0_S768x1 concatenates_S768x1_S1280x1_S2048x1_d0 slices_S2048x64_o0_0_S768x64 concatenates_S768x64_S1280x64_S2048x64_d0
  exact H

theorem s40 : St (hd X0 X1 X2 X4 0) 1280 (bodyRun.sl.r_99 c arg2 harg2 arg3 harg3 x0 x1) (bodyRun.sl.r_100 c arg2 harg2 arg3 harg3 arg4 harg4 arg5 harg5 arg6 harg6 x0 x1 x2 x3 x4) (bodyRun.sl.r_101 c arg2 harg2 arg3 harg3 arg4 harg4 arg5 harg5 arg6 harg6 x0 x1 x2 x3 x4) := by
  have H := mid_st _ 1024 rfl low4 (in0 c harg2 harg5 harg6 B) (s30 c harg2 harg3 harg4 harg5 harg6 B) (key harg3 harg4 B 1024 0 (by decide)) tri slices_S2048x1_o1024_0_S1024x1 slices_S2048x64_o1024_0_S1024x64 slices_S1024x256_o0_0_S1024x1 broadcasts_S1024x1_S1024x256 slices_S1024x256_o0_255_S1024x1 slices_S2048x1_o0_0_S1024x1 concatenates_S1024x1_S1024x1_S2048x1_d0 slices_S2048x64_o0_0_S1024x64 concatenates_S1024x64_S1024x64_S2048x64_d0
  exact H

theorem s41 : St (hd X0 X1 X2 X4 1) 1280 (bodyRun.sl.r_112 c arg2 harg2 arg3 harg3 x0 x1) (bodyRun.sl.r_113 c arg2 harg2 arg3 harg3 arg4 harg4 arg5 harg5 arg6 harg6 x0 x1 x2 x3 x4) (bodyRun.sl.r_114 c arg2 harg2 arg3 harg3 arg4 harg4 arg5 harg5 arg6 harg6 x0 x1 x2 x3 x4) := by
  have H := mid_st _ 1024 rfl low4 (in1 c harg2 harg5 harg6 B) (s31 c harg2 harg3 harg4 harg5 harg6 B) (key harg3 harg4 B 1024 1 (by decide)) tri slices_S2048x1_o1024_0_S1024x1 slices_S2048x64_o1024_0_S1024x64 slices_S1024x256_o0_0_S1024x1 broadcasts_S1024x1_S1024x256 slices_S1024x256_o0_255_S1024x1 slices_S2048x1_o0_0_S1024x1 concatenates_S1024x1_S1024x1_S2048x1_d0 slices_S2048x64_o0_0_S1024x64 concatenates_S1024x64_S1024x64_S2048x64_d0
  exact H

theorem s50 : St (hd X0 X1 X2 X4 0) 1536 (bodyRun.sl.r_122 c arg2 harg2 arg3 harg3 x0 x1) (bodyRun.sl.r_123 c arg2 harg2 arg3 harg3 arg4 harg4 arg5 harg5 arg6 harg6 x0 x1 x2 x3 x4) (bodyRun.sl.r_124 c arg2 harg2 arg3 harg3 arg4 harg4 arg5 harg5 arg6 harg6 x0 x1 x2 x3 x4) := by
  have H := mid_st _ 1280 rfl low5 (in0 c harg2 harg5 harg6 B) (s40 c harg2 harg3 harg4 harg5 harg6 B) (key harg3 harg4 B 1280 0 (by decide)) tri slices_S2048x1_o1280_0_S768x1 slices_S2048x64_o1280_0_S768x64 slices_S768x256_o0_0_S768x1 broadcasts_S768x1_S768x256 slices_S768x256_o0_255_S768x1 slices_S2048x1_o0_0_S1280x1 concatenates_S1280x1_S768x1_S2048x1_d0 slices_S2048x64_o0_0_S1280x64 concatenates_S1280x64_S768x64_S2048x64_d0
  exact H

theorem s51 : St (hd X0 X1 X2 X4 1) 1536 (bodyRun.sl.r_134 c arg2 harg2 arg3 harg3 x0 x1) (bodyRun.sl.r_135 c arg2 harg2 arg3 harg3 arg4 harg4 arg5 harg5 arg6 harg6 x0 x1 x2 x3 x4) (bodyRun.sl.r_136 c arg2 harg2 arg3 harg3 arg4 harg4 arg5 harg5 arg6 harg6 x0 x1 x2 x3 x4) := by
  have H := mid_st _ 1280 rfl low5 (in1 c harg2 harg5 harg6 B) (s41 c harg2 harg3 harg4 harg5 harg6 B) (key harg3 harg4 B 1280 1 (by decide)) tri slices_S2048x1_o1280_0_S768x1 slices_S2048x64_o1280_0_S768x64 slices_S768x256_o0_0_S768x1 broadcasts_S768x1_S768x256 slices_S768x256_o0_255_S768x1 slices_S2048x1_o0_0_S1280x1 concatenates_S1280x1_S768x1_S2048x1_d0 slices_S2048x64_o0_0_S1280x64 concatenates_S1280x64_S768x64_S2048x64_d0
  exact H

theorem s60 : ∃ cc, St (hd X0 X1 X2 X4 0) 1792 cc (bodyRun.sl.r_146 c arg2 harg2 arg3 harg3 arg4 harg4 arg5 harg5 arg6 harg6 x0 x1 x2 x3 x4) (bodyRun.sl.r_147 c arg2 harg2 arg3 harg3 arg4 harg4 arg5 harg5 arg6 harg6 x0 x1 x2 x3 x4) := by
  have H := mid_st _ 1536 rfl low6 (in0 c harg2 harg5 harg6 B) (s50 c harg2 harg3 harg4 harg5 harg6 B) (key harg3 harg4 B 1536 0 (by decide)) tri slices_S2048x1_o1536_0_S512x1 slices_S2048x64_o1536_0_S512x64 slices_S512x256_o0_0_S512x1 broadcasts_S512x1_S512x256 slices_S512x256_o0_255_S512x1 slices_S2048x1_o0_0_S1536x1 concatenates_S1536x1_S512x1_S2048x1_d0 slices_S2048x64_o0_0_S1536x64 concatenates_S1536x64_S512x64_S2048x64_d0
  exact ⟨_, H⟩

theorem s61 : ∃ cc, St (hd X0 X1 X2 X4 1) 1792 cc (bodyRun.sl.r_156 c arg2 harg2 arg3 harg3 arg4 harg4 arg5 harg5 arg6 harg6 x0 x1 x2 x3 x4) (bodyRun.sl.r_157 c arg2 harg2 arg3 harg3 arg4 harg4 arg5 harg5 arg6 harg6 x0 x1 x2 x3 x4) := by
  have H := mid_st _ 1536 rfl low6 (in1 c harg2 harg5 harg6 B) (s51 c harg2 harg3 harg4 harg5 harg6 B) (key harg3 harg4 B 1536 1 (by decide)) tri slices_S2048x1_o1536_0_S512x1 slices_S2048x64_o1536_0_S512x64 slices_S512x256_o0_0_S512x1 broadcasts_S512x1_S512x256 slices_S512x256_o0_255_S512x1 slices_S2048x1_o0_0_S1536x1 concatenates_S1536x1_S512x1_S2048x1_d0 slices_S2048x64_o0_0_S1536x64 concatenates_S1536x64_S512x64_S2048x64_d0
  exact ⟨_, H⟩

theorem q70 : IsR (bodyRun.sl.r_166 c arg2 harg2 arg3 harg3 arg4 harg4 arg5 harg5 arg6 harg6 x0 x1 x2 x3 x4) fun t j => (hd X0 X1 X2 X4 0).dq 2048 t j := by
  obtain ⟨_, hs⟩ := (s60 c harg2 harg3 harg4 harg5 harg6 B)
  have H := mid_dq _ 1792 rfl low7 (in0 c harg2 harg5 harg6 B) hs (key harg3 harg4 B 1792 0 (by decide)) tri (rem_last (n := 256) _ 1792 rfl) slices_S2048x1_o1792_0_S256x1 slices_S2048x64_o1792_0_S256x64 broadcasts_S256x1_S256x256 slices_S2048x64_o0_0_S1792x64 concatenates_S1792x64_S256x64_S2048x64_d0
  exact H

theorem q71 : IsR (k0_pay1 (bodyRun.sl.r_157 c arg2 harg2 arg3 harg3 arg4 harg4 arg5 harg5 arg6 harg6 x0 x1 x2 x3 x4) (bodyRun.sl.r_175 c arg2 harg2 arg3 harg3 arg4 harg4 arg5 harg5 arg6 harg6 x0 x1 x2 x3 x4)) fun t j => (hd X0 X1 X2 X4 1).dq 2048 t j := by
  obtain ⟨_, hs⟩ := (s61 c harg2 harg3 harg4 harg5 harg6 B)
  have H := mid_dq _ 1792 rfl low7 (in1 c harg2 harg5 harg6 B) hs (key harg3 harg4 B 1792 1 (by decide)) tri (rem_last (n := 256) _ 1792 rfl) slices_S2048x1_o1792_0_S256x1 slices_S2048x64_o1792_0_S256x64 broadcasts_S256x1_S256x256 slices_S2048x64_o0_0_S1792x64 concatenates_S1792x64_S256x64_S2048x64_d0
  exact H

end Cert.Proof.Bwd
-- ==== Proof.BwdGrid.lean ====
/- The gradients of keys and values that one run of the backward call's body stores, filled tile by tile, as real numbers. -/
module

public import proofs.«01_k».proof.Proof.BwdTiles

@[expose] public section

set_option maxRecDepth 16384

noncomputable section

namespace Cert.Proof.Bwd

open Cert.KernelIdeal Cert.KernelIdeal.Gen
open Idealize.ShloMosaic Cert.Proof.Rows Cert.Proof.Break Cert.Proof.Tile Cert.Proof.Store

variable (c : Dev nD) {arg2 : Memref sig .tc .vmem S2048x128 .bf16} (harg2 : arg2.IsWhole) {arg3 : Memref sig .tc .vmem S2048x128 .bf16} (harg3 : arg3.IsWhole)
  {arg4 : Memref sig .tc .vmem S2048x128 .bf16} (harg4 : arg4.IsWhole) {arg5 : Memref sig .tc .vmem S2048x128 .f32} (harg5 : arg5.IsWhole)
  {arg6 : Memref sig .tc .vmem S2048x128 .f32} (harg6 : arg6.IsWhole) (arg9 arg10 : Memref sig .tc .vmem S2048x128 .f32)
  {x0 x1 x2 : Vec Ideal S2048x128 .bf16} {x3 x4 : Vec Ideal S2048x128 .f32} {X0 X1 X2 X3 X4 : ℕ → ℕ → ℝ}
  (B : Blk x0 x1 x2 x3 x4 X0 X1 X2 X3 X4)

include harg4 B

set_option maxHeartbeats 200000

omit harg4 B in
theorem k1 : Grid 0 (bodyRun.sl.H6_1) (dkF X0 X1 X2 X4) := grid_zero _ _ IsR.zeroC

theorem k2 : Grid 1 (bodyRun.sl.H6_2 c arg2 harg2 arg3 harg3 arg4 harg4 arg5 harg5 arg6 harg6 arg9 x0 x1 x2 x3 x4) (dkF X0 X1 X2 X4) := by
  have Z := (grid_load (k1 (X0 := X0) (X1 := X1) (X2 := X2) (X4 := X4)) arg9.view 0 0 (by norm_num) (by norm_num) (by norm_num) (by decide)).same shapeCasts_S256x64_S256x64
  have H := first_dk _ low0 (in0 c harg2 harg5 harg6 B) (st0 _) (key harg3 harg4 B 0 0 (by decide)) tri slices_S2048x256_o0_0_S2048x1 broadcasts_S2048x1_S2048x256 Z
  have G := next (f := fun h => (hd X0 X1 X2 X4 h).dk) (k1 (X0 := X0) (X1 := X1) (X2 := X2) (X4 := X4)) 0 0 (by norm_num) (by norm_num) rfl (by decide)
    H
  exact G

theorem k3 : Grid 2 (bodyRun.sl.H6_3 c arg2 harg2 arg3 harg3 arg4 harg4 arg5 harg5 arg6 harg6 arg9 x0 x1 x2 x3 x4) (dkF X0 X1 X2 X4) := by
  have Z := (grid_load (k2 c harg2 harg3 harg4 harg5 harg6 arg9 B) arg9.view 0 1 (by norm_num) (by norm_num) (by norm_num) (by decide)).same shapeCasts_S256x64_S256x64
  have H := first_dk _ low0 (in1 c harg2 harg5 harg6 B) (st0 _) (key harg3 harg4 B 0 1 (by decide)) tri slices_S2048x256_o0_0_S2048x1 broadcasts_S2048x1_S2048x256 Z
  have G := next (f := fun h => (hd X0 X1 X2 X4 h).dk) (k2 c harg2 harg3 harg4 harg5 harg6 arg9 B) 0 1 (by norm_num) (by norm_num) rfl (by decide)
    H
  exact G

theorem k4 : Grid 3 (bodyRun.sl.H6_4 c arg2 harg2 arg3 harg3 arg4 harg4 arg5 harg5 arg6 harg6 arg9 x0 x1 x2 x3 x4) (dkF X0 X1 X2 X4) := by
  have Z := (grid_load (k3 c harg2 harg3 harg4 harg5 harg6 arg9 B) arg9.view 1 0 (by norm_num) (by norm_num) (by norm_num) (by decide)).same shapeCasts_S256x64_S256x64
  have H := mid_dk _ 256 rfl low1 (in0 c harg2 harg5 harg6 B) (s00 c harg2 harg3 harg4 harg5 harg6 B) (key harg3 harg4 B 256 0 (by decide)) tri (mid_rem _ 256 low1 (in0 c harg2 harg5 harg6 B) (s00 c harg2 harg3 harg4 harg5 harg6 B) (key harg3 harg4 B 256 0 (by decide)) tri slices_S2048x1_o256_0_S1792x1 slices_S2048x64_o256_0_S1792x64 slices_S1792x256_o0_0_S1792x1 broadcasts_S1792x1_S1792x256) slices_S2048x1_o256_0_S1792x1 slices_S2048x64_o256_0_S1792x64 broadcasts_S1792x1_S1792x256 Z
  have G := next (f := fun h => (hd X0 X1 X2 X4 h).dk) (k3 c harg2 harg3 harg4 harg5 harg6 arg9 B) 1 0 (by norm_num) (by norm_num) rfl (by decide)
    H
  exact G

theorem k5 : Grid 4 (bodyRun.sl.H6_5 c arg2 harg2 arg3 harg3 arg4 harg4 arg5 harg5 arg6 harg6 arg9 x0 x1 x2 x3 x4) (dkF X0 X1 X2 X4) := by
  have Z := (grid_load (k4 c harg2 harg3 harg4 harg5 harg6 arg9 B) arg9.view 1 1 (by norm_num) (by norm_num) (by norm_num) (by decide)).same shapeCasts_S256x64_S256x64
  have H := mid_dk _ 256 rfl low1 (in1 c harg2 harg5 harg6 B) (s01 c harg2 harg3 harg4 harg5 harg6 B) (key harg3 harg4 B 256 1 (by decide)) tri (mid_rem _ 256 low1 (in1 c harg2 harg5 harg6 B) (s01 c harg2 harg3 harg4 harg5 harg6 B) (key harg3 harg4 B 256 1 (by decide)) tri slices_S2048x1_o256_0_S1792x1 slices_S2048x64_o256_0_S1792x64 slices_S1792x256_o0_0_S1792x1 broadcasts_S1792x1_S1792x256) slices_S2048x1_o256_0_S1792x1 slices_S2048x64_o256_0_S1792x64 broadcasts_S1792x1_S1792x256 Z
  have G := next (f := fun h => (hd X0 X1 X2 X4 h).dk) (k4 c harg2 harg3 harg4 harg5 harg6 arg9 B) 1 1 (by norm_num) (by norm_num) rfl (by decide)
    H
  exact G

theorem k6 : Grid 5 (bodyRun.sl.H6_6 c arg2 harg2 arg3 harg3 arg4 harg4 arg5 harg5 arg6 harg6 arg9 x0 x1 x2 x3 x4) (dkF X0 X1 X2 X4) := by
  have Z := (grid_load (k5 c harg2 harg3 harg4 harg5 harg6 arg9 B) arg9.view 2 0 (by norm_num) (by norm_num) (by norm_num) (by decide)).same shapeCasts_S256x64_S256x64
  have H := mid_dk _ 512 rfl low2 (in0 c harg2 harg5 harg6 B) (s10 c harg2 harg3 harg4 harg5 harg6 B) (key harg3 harg4 B 512 0 (by decide)) tri (mid_rem _ 512 low2 (in0 c harg2 harg5 harg6 B) (s10 c harg2 harg3 harg4 harg5 harg6 B) (key harg3 harg4 B 512 0 (by decide)) tri slices_S2048x1_o512_0_S1536x1 slices_S2048x64_o512_0_S1536x64 slices_S1536x256_o0_0_S1536x1 broadcasts_S1536x1_S1536x256) slices_S2048x1_o512_0_S1536x1 slices_S2048x64_o512_0_S1536x64 broadcasts_S1536x1_S1536x256 Z
  have G := next (f := fun h => (hd X0 X1 X2 X4 h).dk) (k5 c harg2 harg3 harg4 harg5 harg6 arg9 B) 2 0 (by norm_num) (by norm_num) rfl (by decide)
    H
  exact G

theorem k7 : Grid 6 (bodyRun.sl.H6_7 c arg2 harg2 arg3 harg3 arg4 harg4 arg5 harg5 arg6 harg6 arg9 x0 x1 x2 x3 x4) (dkF X0 X1 X2 X4) := by
  have Z := (grid_load (k6 c harg2 harg3 harg4 harg5 harg6 arg9 B) arg9.view 2 1 (by norm_num) (by norm_num) (by norm_num) (by decide)).same shapeCasts_S256x64_S256x64
  have H := mid_dk _ 512 rfl low2 (in1 c harg2 harg5 harg6 B) (s11 c harg2 harg3 harg4 harg5 harg6 B) (key harg3 harg4 B 512 1 (by decide)) tri (mid_rem _ 512 low2 (in1 c harg2 harg5 harg6 B) (s11 c harg2 harg3 harg4 harg5 harg6 B) (key harg3 harg4 B 512 1 (by decide)) tri slices_S2048x1_o512_0_S1536x1 slices_S2048x64_o512_0_S1536x64 slices_S1536x256_o0_0_S1536x1 broadcasts_S1536x1_S1536x256) slices_S2048x1_o512_0_S1536x1 slices_S2048x64_o512_0_S1536x64 broadcasts_S1536x1_S1536x256 Z
  have G := next (f := fun h => (hd X0 X1 X2 X4 h).dk) (k6 c harg2 harg3 harg4 harg5 harg6 arg9 B) 2 1 (by norm_num) (by norm_num) rfl (by decide)
    H
  exact G

theorem k8 : Grid 7 (bodyRun.sl.H6_8 c arg2 harg2 arg3 harg3 arg4 harg4 arg5 harg5 arg6 harg6 arg9 x0 x1 x2 x3 x4) (dkF X0 X1 X2 X4) := by
  have Z := (grid_load (k7 c harg2 harg3 harg4 harg5 harg6 arg9 B) arg9.view 3 0 (by norm_num) (by norm_num) (by norm_num) (by decide)).same shapeCasts_S256x64_S256x64
  have H := mid_dk _ 768 rfl low3 (in0 c harg2 harg5 harg6 B) (s20 c harg2 harg3 harg4 harg5 harg6 B) (key harg3 harg4 B 768 0 (by decide)) tri (mid_rem _ 768 low3 (in0 c harg2 harg5 harg6 B) (s20 c harg2 harg3 harg4 harg5 harg6 B) (key harg3 harg4 B 768 0 (by decide)) tri slices_S2048x1_o768_0_S1280x1 slices_S2048x64_o768_0_S1280x64 slices_S1280x256_o0_0_S1280x1 broadcasts_S1280x1_S1280x256) slices_S2048x1_o768_0_S1280x1 slices_S2048x64_o768_0_S1280x64 broadcasts_S1280x1_S1280x256 Z
  have G := next (f := fun h => (hd X0 X1 X2 X4 h).dk) (k7 c harg2 harg3 harg4 harg5 harg6 arg9 B) 3 0 (by norm_num) (by norm_num) rfl (by decide)
    H
  exact G

theorem k9 : Grid 8 (bodyRun.sl.H6_9 c arg2 harg2 arg3 harg3 arg4 harg4 arg5 harg5 arg6 harg6 arg9 x0 x1 x2 x3 x4) (dkF X0 X1 X2 X4) := by
  have Z := (grid_load (k8 c harg2 harg3 harg4 harg5 harg6 arg9 B) arg9.view 3 1 (by norm_num) (by norm_num) (by norm_num) (by decide)).same shapeCasts_S256x64_S256x64
  have H := mid_dk _ 768 rfl low3 (in1 c harg2 harg5 harg6 B) (s21 c harg2 harg3 harg4 harg5 harg6 B) (key harg3 harg4 B 768 1 (by decide)) tri (mid_rem _ 768 low3 (in1 c harg2 harg5 harg6 B) (s21 c harg2 harg3 harg4 harg5 harg6 B) (key harg3 harg4 B 768 1 (by decide)) tri slices_S2048x1_o768_0_S1280x1 slices_S2048x64_o768_0_S1280x64 slices_S1280x256_o0_0_S1280x1 broadcasts_S1280x1_S1280x256) slices_S2048x1_o768_0_S1280x1 slices_S2048x64_o768_0_S1280x64 broadcasts_S1280x1_S1280x256 Z
  have G := next (f := fun h => (hd X0 X1 X2 X4 h).dk) (k8 c harg2 harg3 harg4 harg5 harg6 arg9 B) 3 1 (by norm_num) (by norm_num) rfl (by decide)
    H
  exact G

theorem k10 : Grid 9 (bodyRun.sl.H6_10 c arg2 harg2 arg3 harg3 arg4 harg4 arg5 harg5 arg6 harg6 arg9 x0 x1 x2 x3 x4) (dkF X0 X1 X2 X4) := by
  have Z := (grid_load (k9 c harg2 harg3 harg4 harg5 harg6 arg9 B) arg9.view 4 0 (by norm_num) (by norm_num) (by norm_num) (by decide)).same shapeCasts_S256x64_S256x64
  have H := mid_dk _ 1024 rfl low4 (in0 c harg2 harg5 harg6 B) (s30 c harg2 harg3 harg4 harg5 harg6 B) (key harg3 harg4 B 1024 0 (by decide)) tri (mid_rem _ 1024 low4 (in0 c harg2 harg5 harg6 B) (s30 c harg2 harg3 harg4 harg5 harg6 B) (key harg3 harg4 B 1024 0 (by decide)) tri slices_S2048x1_o1024_0_S1024x1 slices_S2048x64_o1024_0_S1024x64 slices_S1024x256_o0_0_S1024x1 broadcasts_S1024x1_S1024x256) slices_S2048x1_o1024_0_S1024x1 slices_S2048x64_o1024_0_S1024x64 broadcasts_S1024x1_S1024x256 Z
  have G := next (f := fun h => (hd X0 X1 X2 X4 h).dk) (k9 c harg2 harg3 harg4 harg5 harg6 arg9 B) 4 0 (by norm_num) (by norm_num) rfl (by decide)
    H
  exact G

theorem k11 : Grid 10 (bodyRun.sl.H6_11 c arg2 harg2 arg3 harg3 arg4 harg4 arg5 harg5 arg6 harg6 arg9 x0 x1 x2 x3 x4) (dkF X0 X1 X2 X4) := by
  have Z := (grid_load (k10 c harg2 harg3 harg4 harg5 harg6 arg9 B) arg9.view 4 1 (by norm_num) (by norm_num) (by norm_num) (by decide)).same shapeCasts_S256x64_S256x64
  have H := mid_dk _ 1024 rfl low4 (in1 c harg2 harg5 harg6 B) (s31 c harg2 harg3 harg4 harg5 harg6 B) (key harg3 harg4 B 1024 1 (by decide)) tri (mid_rem _ 1024 low4 (in1 c harg2 harg5 harg6 B) (s31 c harg2 harg3 harg4 harg5 harg6 B) (key harg3 harg4 B 1024 1 (by decide)) tri slices_S2048x1_o1024_0_S1024x1 slices_S2048x64_o1024_0_S1024x64 slices_S1024x256_o0_0_S1024x1 broadcasts_S1024x1_S1024x256) slices_S2048x1_o1024_0_S1024x1 slices_S2048x64_o1024_0_S1024x64 broadcasts_S1024x1_S1024x256 Z
  have G := next (f := fun h => (hd X0 X1 X2 X4 h).dk) (k10 c harg2 harg3 harg4 harg5 harg6 arg9 B) 4 1 (by norm_num) (by norm_num) rfl (by decide)
    H
  exact G

theorem k12 : Grid 11 (bodyRun.sl.H6_12 c arg2 harg2 arg3 harg3 arg4 harg4 arg5 harg5 arg6 harg6 arg9 x0 x1 x2 x3 x4) (dkF X0 X1 X2 X4) := by
  have Z := (grid_load (k11 c harg2 harg3 harg4 harg5 harg6 arg9 B) arg9.view 5 0 (by norm_num) (by norm_num) (by norm_num) (by decide)).same shapeCasts_S256x64_S256x64
  have H := mid_dk _ 1280 rfl low5 (in0 c harg2 harg5 harg6 B) (s40 c harg2 harg3 harg4 harg5 harg6 B) (key harg3 harg4 B 1280 0 (by decide)) tri (mid_rem _ 1280 low5 (in0 c harg2 harg5 harg6 B) (s40 c harg2 harg3 harg4 harg5 harg6 B) (key harg3 harg4 B 1280 0 (by decide)) tri slices_S2048x1_o1280_0_S768x1 slices_S2048x64_o1280_0_S768x64 slices_S768x256_o0_0_S768x1 broadcasts_S768x1_S768x256) slices_S2048x1_o1280_0_S768x1 slices_S2048x64_o1280_0_S768x64 broadcasts_S768x1_S768x256 Z
  have G := next (f := fun h => (hd X0 X1 X2 X4 h).dk) (k11 c harg2 harg3 harg4 harg5 harg6 arg9 B) 5 0 (by norm_num) (by norm_num) rfl (by decide)
    H
  exact G

theorem k13 : Grid 12 (bodyRun.sl.H6_13 c arg2 harg2 arg3 harg3 arg4 harg4 arg5 harg5 arg6 harg6 arg9 x0 x1 x2 x3 x4) (dkF X0 X1 X2 X4) := by
  have Z := (grid_load (k12 c harg2 harg3 harg4 harg5 harg6 arg9 B) arg9.view 5 1 (by norm_num) (by norm_num) (by norm_num) (by decide)).same shapeCasts_S256x64_S256x64
  have H := mid_dk _ 1280 rfl low5 (in1 c harg2 harg5 harg6 B) (s41 c harg2 harg3 harg4 harg5 harg6 B) (key harg3 harg4 B 1280 1 (by decide)) tri (mid_rem _ 1280 low5 (in1 c harg2 harg5 harg6 B) (s41 c harg2 harg3 harg4 harg5 harg6 B) (key harg3 harg4 B 1280 1 (by decide)) tri slices_S2048x1_o1280_0_S768x1 slices_S2048x64_o1280_0_S768x64 slices_S768x256_o0_0_S768x1 broadcasts_S768x1_S768x256) slices_S2048x1_o1280_0_S768x1 slices_S2048x64_o1280_0_S768x64 broadcasts_S768x1_S768x256 Z
  have G := next (f := fun h => (hd X0 X1 X2 X4 h).dk) (k12 c harg2 harg3 harg4 harg5 harg6 arg9 B) 5 1 (by norm_num) (by norm_num) rfl (by decide)
    H
  exact G

theorem k14 : Grid 13 (bodyRun.sl.H6_14 c arg2 harg2 arg3 harg3 arg4 harg4 arg5 harg5 arg6 harg6 arg9 x0 x1 x2 x3 x4) (dkF X0 X1 X2 X4) := by
  have Z := (grid_load (k13 c harg2 harg3 harg4 harg5 harg6 arg9 B) arg9.view 6 0 (by norm_num) (by norm_num) (by norm_num) (by decide)).same shapeCasts_S256x64_S256x64
  have H := mid_dk _ 1536 rfl low6 (in0 c harg2 harg5 harg6 B) (s50 c harg2 harg3 harg4 harg5 harg6 B) (key harg3 harg4 B 1536 0 (by decide)) tri (mid_rem _ 1536 low6 (in0 c harg2 harg5 harg6 B) (s50 c harg2 harg3 harg4 harg5 harg6 B) (key harg3 harg4 B 1536 0 (by decide)) tri slices_S2048x1_o1536_0_S512x1 slices_S2048x64_o1536_0_S512x64 slices_S512x256_o0_0_S512x1 broadcasts_S512x1_S512x256) slices_S2048x1_o1536_0_S512x1 slices_S2048x64_o1536_0_S512x64 broadcasts_S512x1_S512x256 Z
  have G := next (f := fun h => (hd X0 X1 X2 X4 h).dk) (k13 c harg2 harg3 harg4 harg5 harg6 arg9 B) 6 0 (by norm_num) (by norm_num) rfl (by decide)
    H
  exact G

theorem k15 : Grid 14 (bodyRun.sl.H6_15 c arg2 harg2 arg3 harg3 arg4 harg4 arg5 harg5 arg6 harg6 arg9 x0 x1 x2 x3 x4) (dkF X0 X1 X2 X4) := by
  have Z := (grid_load (k14 c harg2 harg3 harg4 harg5 harg6 arg9 B) arg9.view 6 1 (by norm_num) (by norm_num) (by norm_num) (by decide)).same shapeCasts_S256x64_S256x64
  have H := mid_dk _ 1536 rfl low6 (in1 c harg2 harg5 harg6 B) (s51 c harg2 harg3 harg4 harg5 harg6 B) (key harg3 harg4 B 1536 1 (by decide)) tri (mid_rem _ 1536 low6 (in1 c harg2 harg5 harg6 B) (s51 c harg2 harg3 harg4 harg5 harg6 B) (key harg3 harg4 B 1536 1 (by decide)) tri slices_S2048x1_o1536_0_S512x1 slices_S2048x64_o1536_0_S512x64 slices_S512x256_o0_0_S512x1 broadcasts_S512x1_S512x256) slices_S2048x1_o1536_0_S512x1 slices_S2048x64_o1536_0_S512x64 broadcasts_S512x1_S512x256 Z
  have G := next (f := fun h => (hd X0 X1 X2 X4 h).dk) (k14 c harg2 harg3 harg4 harg5 harg6 arg9 B) 6 1 (by norm_num) (by norm_num) rfl (by decide)
    H
  exact G

theorem k16 : Grid 15 (bodyRun.sl.H6_16 c arg2 harg2 arg3 harg3 arg4 harg4 arg5 harg5 arg6 harg6 arg9 x0 x1 x2 x3 x4) (dkF X0 X1 X2 X4) := by
  have Z := (grid_load (k15 c harg2 harg3 harg4 harg5 harg6 arg9 B) arg9.view 7 0 (by norm_num) (by norm_num) (by norm_num) (by decide)).same shapeCasts_S256x64_S256x64
  obtain ⟨_, hs⟩ := (s60 c harg2 harg3 harg4 harg5 harg6 B)
  have H := mid_dk _ 1792 rfl low7 (in0 c harg2 harg5 harg6 B) hs (key harg3 harg4 B 1792 0 (by decide)) tri (rem_last (n := 256) _ 1792 rfl) slices_S2048x1_o1792_0_S256x1 slices_S2048x64_o1792_0_S256x64 broadcasts_S256x1_S256x256 Z
  have G := next (f := fun h => (hd X0 X1 X2 X4 h).dk) (k15 c harg2 harg3 harg4 harg5 harg6 arg9 B) 7 0 (by norm_num) (by norm_num) rfl (by decide)
    H
  exact G

omit harg4 B in
theorem v1 : Grid 0 (bodyRun.sl.H7_1) (dvF X0 X1 X2 X4) := grid_zero _ _ IsR.zeroC

theorem v2 : Grid 1 (bodyRun.sl.H7_2 c arg2 harg2 arg3 harg3 arg5 harg5 arg6 harg6 arg10 x0 x1 x3 x4) (dvF X0 X1 X2 X4) := by
  have Z := (grid_load (v1 (X0 := X0) (X1 := X1) (X2 := X2) (X4 := X4)) arg10.view 0 0 (by norm_num) (by norm_num) (by norm_num) (by decide)).same shapeCasts_S256x64_S256x64
  have H := first_dv _ low0 (in0 c harg2 harg5 harg6 B) (st0 _) (key harg3 harg4 B 0 0 (by decide)) tri slices_S2048x256_o0_0_S2048x1 broadcasts_S2048x1_S2048x256 Z
  have G := next (f := fun h => (hd X0 X1 X2 X4 h).dv) (v1 (X0 := X0) (X1 := X1) (X2 := X2) (X4 := X4)) 0 0 (by norm_num) (by norm_num) rfl (by decide)
    H
  exact G

theorem v3 : Grid 2 (bodyRun.sl.H7_3 c arg2 harg2 arg3 harg3 arg5 harg5 arg6 harg6 arg10 x0 x1 x3 x4) (dvF X0 X1 X2 X4) := by
  have Z := (grid_load (v2 c harg2 harg3 harg4 harg5 harg6 arg10 B) arg10.view 0 1 (by norm_num) (by norm_num) (by norm_num) (by decide)).same shapeCasts_S256x64_S256x64
  have H := first_dv _ low0 (in1 c harg2 harg5 harg6 B) (st0 _) (key harg3 harg4 B 0 1 (by decide)) tri slices_S2048x256_o0_0_S2048x1 broadcasts_S2048x1_S2048x256 Z
  have G := next (f := fun h => (hd X0 X1 X2 X4 h).dv) (v2 c harg2 harg3 harg4 harg5 harg6 arg10 B) 0 1 (by norm_num) (by norm_num) rfl (by decide)
    H
  exact G

theorem v4 : Grid 3 (bodyRun.sl.H7_4 c arg2 harg2 arg3 harg3 arg5 harg5 arg6 harg6 arg10 x0 x1 x3 x4) (dvF X0 X1 X2 X4) := by
  have Z := (grid_load (v3 c harg2 harg3 harg4 harg5 harg6 arg10 B) arg10.view 1 0 (by norm_num) (by norm_num) (by norm_num) (by decide)).same shapeCasts_S256x64_S256x64
  have H := mid_dv _ 256 rfl low1 (in0 c harg2 harg5 harg6 B) (s00 c harg2 harg3 harg4 harg5 harg6 B) (key harg3 harg4 B 256 0 (by decide)) tri (mid_rem _ 256 low1 (in0 c harg2 harg5 harg6 B) (s00 c harg2 harg3 harg4 harg5 harg6 B) (key harg3 harg4 B 256 0 (by decide)) tri slices_S2048x1_o256_0_S1792x1 slices_S2048x64_o256_0_S1792x64 slices_S1792x256_o0_0_S1792x1 broadcasts_S1792x1_S1792x256) slices_S2048x64_o256_0_S1792x64 Z
  have G := next (f := fun h => (hd X0 X1 X2 X4 h).dv) (v3 c harg2 harg3 harg4 harg5 harg6 arg10 B) 1 0 (by norm_num) (by norm_num) rfl (by decide)
    H
  exact G

theorem v5 : Grid 4 (bodyRun.sl.H7_5 c arg2 harg2 arg3 harg3 arg5 harg5 arg6 harg6 arg10 x0 x1 x3 x4) (dvF X0 X1 X2 X4) := by
  have Z := (grid_load (v4 c harg2 harg3 harg4 harg5 harg6 arg10 B) arg10.view 1 1 (by norm_num) (by norm_num) (by norm_num) (by decide)).same shapeCasts_S256x64_S256x64
  have H := mid_dv _ 256 rfl low1 (in1 c harg2 harg5 harg6 B) (s01 c harg2 harg3 harg4 harg5 harg6 B) (key harg3 harg4 B 256 1 (by decide)) tri (mid_rem _ 256 low1 (in1 c harg2 harg5 harg6 B) (s01 c harg2 harg3 harg4 harg5 harg6 B) (key harg3 harg4 B 256 1 (by decide)) tri slices_S2048x1_o256_0_S1792x1 slices_S2048x64_o256_0_S1792x64 slices_S1792x256_o0_0_S1792x1 broadcasts_S1792x1_S1792x256) slices_S2048x64_o256_0_S1792x64 Z
  have G := next (f := fun h => (hd X0 X1 X2 X4 h).dv) (v4 c harg2 harg3 harg4 harg5 harg6 arg10 B) 1 1 (by norm_num) (by norm_num) rfl (by decide)
    H
  exact G

theorem v6 : Grid 5 (bodyRun.sl.H7_6 c arg2 harg2 arg3 harg3 arg5 harg5 arg6 harg6 arg10 x0 x1 x3 x4) (dvF X0 X1 X2 X4) := by
  have Z := (grid_load (v5 c harg2 harg3 harg4 harg5 harg6 arg10 B) arg10.view 2 0 (by norm_num) (by norm_num) (by norm_num) (by decide)).same shapeCasts_S256x64_S256x64
  have H := mid_dv _ 512 rfl low2 (in0 c harg2 harg5 harg6 B) (s10 c harg2 harg3 harg4 harg5 harg6 B) (key harg3 harg4 B 512 0 (by decide)) tri (mid_rem _ 512 low2 (in0 c harg2 harg5 harg6 B) (s10 c harg2 harg3 harg4 harg5 harg6 B) (key harg3 harg4 B 512 0 (by decide)) tri slices_S2048x1_o512_0_S1536x1 slices_S2048x64_o512_0_S1536x64 slices_S1536x256_o0_0_S1536x1 broadcasts_S1536x1_S1536x256) slices_S2048x64_o512_0_S1536x64 Z
  have G := next (f := fun h => (hd X0 X1 X2 X4 h).dv) (v5 c harg2 harg3 harg4 harg5 harg6 arg10 B) 2 0 (by norm_num) (by norm_num) rfl (by decide)
    H
  exact G

theorem v7 : Grid 6 (bodyRun.sl.H7_7 c arg2 harg2 arg3 harg3 arg5 harg5 arg6 harg6 arg10 x0 x1 x3 x4) (dvF X0 X1 X2 X4) := by
  have Z := (grid_load (v6 c harg2 harg3 harg4 harg5 harg6 arg10 B) arg10.view 2 1 (by norm_num) (by norm_num) (by norm_num) (by decide)).same shapeCasts_S256x64_S256x64
  have H := mid_dv _ 512 rfl low2 (in1 c harg2 harg5 harg6 B) (s11 c harg2 harg3 harg4 harg5 harg6 B) (key harg3 harg4 B 512 1 (by decide)) tri (mid_rem _ 512 low2 (in1 c harg2 harg5 harg6 B) (s11 c harg2 harg3 harg4 harg5 harg6 B) (key harg3 harg4 B 512 1 (by decide)) tri slices_S2048x1_o512_0_S1536x1 slices_S2048x64_o512_0_S1536x64 slices_S1536x256_o0_0_S1536x1 broadcasts_S1536x1_S1536x256) slices_S2048x64_o512_0_S1536x64 Z
  have G := next (f := fun h => (hd X0 X1 X2 X4 h).dv) (v6 c harg2 harg3 harg4 harg5 harg6 arg10 B) 2 1 (by norm_num) (by norm_num) rfl (by decide)
    H
  exact G

theorem v8 : Grid 7 (bodyRun.sl.H7_8 c arg2 harg2 arg3 harg3 arg5 harg5 arg6 harg6 arg10 x0 x1 x3 x4) (dvF X0 X1 X2 X4) := by
  have Z := (grid_load (v7 c harg2 harg3 harg4 harg5 harg6 arg10 B) arg10.view 3 0 (by norm_num) (by norm_num) (by norm_num) (by decide)).same shapeCasts_S256x64_S256x64
  have H := mid_dv _ 768 rfl low3 (in0 c harg2 harg5 harg6 B) (s20 c harg2 harg3 harg4 harg5 harg6 B) (key harg3 harg4 B 768 0 (by decide)) tri (mid_rem _ 768 low3 (in0 c harg2 harg5 harg6 B) (s20 c harg2 harg3 harg4 harg5 harg6 B) (key harg3 harg4 B 768 0 (by decide)) tri slices_S2048x1_o768_0_S1280x1 slices_S2048x64_o768_0_S1280x64 slices_S1280x256_o0_0_S1280x1 broadcasts_S1280x1_S1280x256) slices_S2048x64_o768_0_S1280x64 Z
  have G := next (f := fun h => (hd X0 X1 X2 X4 h).dv) (v7 c harg2 harg3 harg4 harg5 harg6 arg10 B) 3 0 (by norm_num) (by norm_num) rfl (by decide)
    H
  exact G

theorem v9 : Grid 8 (bodyRun.sl.H7_9 c arg2 harg2 arg3 harg3 arg5 harg5 arg6 harg6 arg10 x0 x1 x3 x4) (dvF X0 X1 X2 X4) := by
  have Z := (grid_load (v8 c harg2 harg3 harg4 harg5 harg6 arg10 B) arg10.view 3 1 (by norm_num) (by norm_num) (by norm_num) (by decide)).same shapeCasts_S256x64_S256x64
  have H := mid_dv _ 768 rfl low3 (in1 c harg2 harg5 harg6 B) (s21 c harg2 harg3 harg4 harg5 harg6 B) (key harg3 harg4 B 768 1 (by decide)) tri (mid_rem _ 768 low3 (in1 c harg2 harg5 harg6 B) (s21 c harg2 harg3 harg4 harg5 harg6 B) (key harg3 harg4 B 768 1 (by decide)) tri slices_S2048x1_o768_0_S1280x1 slices_S2048x64_o768_0_S1280x64 slices_S1280x256_o0_0_S1280x1 broadcasts_S1280x1_S1280x256) slices_S2048x64_o768_0_S1280x64 Z
  have G := next (f := fun h => (hd X0 X1 X2 X4 h).dv) (v8 c harg2 harg3 harg4 harg5 harg6 arg10 B) 3 1 (by norm_num) (by norm_num) rfl (by decide)
    H
  exact G

theorem v10 : Grid 9 (bodyRun.sl.H7_10 c arg2 harg2 arg3 harg3 arg5 harg5 arg6 harg6 arg10 x0 x1 x3 x4) (dvF X0 X1 X2 X4) := by
  have Z := (grid_load (v9 c harg2 harg3 harg4 harg5 harg6 arg10 B) arg10.view 4 0 (by norm_num) (by norm_num) (by norm_num) (by decide)).same shapeCasts_S256x64_S256x64
  have H := mid_dv _ 1024 rfl low4 (in0 c harg2 harg5 harg6 B) (s30 c harg2 harg3 harg4 harg5 harg6 B) (key harg3 harg4 B 1024 0 (by decide)) tri (mid_rem _ 1024 low4 (in0 c harg2 harg5 harg6 B) (s30 c harg2 harg3 harg4 harg5 harg6 B) (key harg3 harg4 B 1024 0 (by decide)) tri slices_S2048x1_o1024_0_S1024x1 slices_S2048x64_o1024_0_S1024x64 slices_S1024x256_o0_0_S1024x1 broadcasts_S1024x1_S1024x256) slices_S2048x64_o1024_0_S1024x64 Z
  have G := next (f := fun h => (hd X0 X1 X2 X4 h).dv) (v9 c harg2 harg3 harg4 harg5 harg6 arg10 B) 4 0 (by norm_num) (by norm_num) rfl (by decide)
    H
  exact G

theorem v11 : Grid 10 (bodyRun.sl.H7_11 c arg2 harg2 arg3 harg3 arg5 harg5 arg6 harg6 arg10 x0 x1 x3 x4) (dvF X0 X1 X2 X4) := by
  have Z := (grid_load (v10 c harg2 harg3 harg4 harg5 harg6 arg10 B) arg10.view 4 1 (by norm_num) (by norm_num) (by norm_num) (by decide)).same shapeCasts_S256x64_S256x64
  have H := mid_dv _ 1024 rfl low4 (in1 c harg2 harg5 harg6 B) (s31 c harg2 harg3 harg4 harg5 harg6 B) (key harg3 harg4 B 1024 1 (by decide)) tri (mid_rem _ 1024 low4 (in1 c harg2 harg5 harg6 B) (s31 c harg2 harg3 harg4 harg5 harg6 B) (key harg3 harg4 B 1024 1 (by decide)) tri slices_S2048x1_o1024_0_S1024x1 slices_S2048x64_o1024_0_S1024x64 slices_S1024x256_o0_0_S1024x1 broadcasts_S1024x1_S1024x256) slices_S2048x64_o1024_0_S1024x64 Z
  have G := next (f := fun h => (hd X0 X1 X2 X4 h).dv) (v10 c harg2 harg3 harg4 harg5 harg6 arg10 B) 4 1 (by norm_num) (by norm_num) rfl (by decide)
    H
  exact G

theorem v12 : Grid 11 (bodyRun.sl.H7_12 c arg2 harg2 arg3 harg3 arg5 harg5 arg6 harg6 arg10 x0 x1 x3 x4) (dvF X0 X1 X2 X4) := by
  have Z := (grid_load (v11 c harg2 harg3 harg4 harg5 harg6 arg10 B) arg10.view 5 0 (by norm_num) (by norm_num) (by norm_num) (by decide)).same shapeCasts_S256x64_S256x64
  have H := mid_dv _ 1280 rfl low5 (in0 c harg2 harg5 harg6 B) (s40 c harg2 harg3 harg4 harg5 harg6 B) (key harg3 harg4 B 1280 0 (by decide)) tri (mid_rem _ 1280 low5 (in0 c harg2 harg5 harg6 B) (s40 c harg2 harg3 harg4 harg5 harg6 B) (key harg3 harg4 B 1280 0 (by decide)) tri slices_S2048x1_o1280_0_S768x1 slices_S2048x64_o1280_0_S768x64 slices_S768x256_o0_0_S768x1 broadcasts_S768x1_S768x256) slices_S2048x64_o1280_0_S768x64 Z
  have G := next (f := fun h => (hd X0 X1 X2 X4 h).dv) (v11 c harg2 harg3 harg4 harg5 harg6 arg10 B) 5 0 (by norm_num) (by norm_num) rfl (by decide)
    H
  exact G

theorem v13 : Grid 12 (bodyRun.sl.H7_13 c arg2 harg2 arg3 harg3 arg5 harg5 arg6 harg6 arg10 x0 x1 x3 x4) (dvF X0 X1 X2 X4) := by
  have Z := (grid_load (v12 c harg2 harg3 harg4 harg5 harg6 arg10 B) arg10.view 5 1 (by norm_num) (by norm_num) (by norm_num) (by decide)).same shapeCasts_S256x64_S256x64
  have H := mid_dv _ 1280 rfl low5 (in1 c harg2 harg5 harg6 B) (s41 c harg2 harg3 harg4 harg5 harg6 B) (key harg3 harg4 B 1280 1 (by decide)) tri (mid_rem _ 1280 low5 (in1 c harg2 harg5 harg6 B) (s41 c harg2 harg3 harg4 harg5 harg6 B) (key harg3 harg4 B 1280 1 (by decide)) tri slices_S2048x1_o1280_0_S768x1 slices_S2048x64_o1280_0_S768x64 slices_S768x256_o0_0_S768x1 broadcasts_S768x1_S768x256) slices_S2048x64_o1280_0_S768x64 Z
  have G := next (f := fun h => (hd X0 X1 X2 X4 h).dv) (v12 c harg2 harg3 harg4 harg5 harg6 arg10 B) 5 1 (by norm_num) (by norm_num) rfl (by decide)
    H
  exact G

theorem v14 : Grid 13 (bodyRun.sl.H7_14 c arg2 harg2 arg3 harg3 arg5 harg5 arg6 harg6 arg10 x0 x1 x3 x4) (dvF X0 X1 X2 X4) := by
  have Z := (grid_load (v13 c harg2 harg3 harg4 harg5 harg6 arg10 B) arg10.view 6 0 (by norm_num) (by norm_num) (by norm_num) (by decide)).same shapeCasts_S256x64_S256x64
  have H := mid_dv _ 1536 rfl low6 (in0 c harg2 harg5 harg6 B) (s50 c harg2 harg3 harg4 harg5 harg6 B) (key harg3 harg4 B 1536 0 (by decide)) tri (mid_rem _ 1536 low6 (in0 c harg2 harg5 harg6 B) (s50 c harg2 harg3 harg4 harg5 harg6 B) (key harg3 harg4 B 1536 0 (by decide)) tri slices_S2048x1_o1536_0_S512x1 slices_S2048x64_o1536_0_S512x64 slices_S512x256_o0_0_S512x1 broadcasts_S512x1_S512x256) slices_S2048x64_o1536_0_S512x64 Z
  have G := next (f := fun h => (hd X0 X1 X2 X4 h).dv) (v13 c harg2 harg3 harg4 harg5 harg6 arg10 B) 6 0 (by norm_num) (by norm_num) rfl (by decide)
    H
  exact G

theorem v15 : Grid 14 (bodyRun.sl.H7_15 c arg2 harg2 arg3 harg3 arg5 harg5 arg6 harg6 arg10 x0 x1 x3 x4) (dvF X0 X1 X2 X4) := by
  have Z := (grid_load (v14 c harg2 harg3 harg4 harg5 harg6 arg10 B) arg10.view 6 1 (by norm_num) (by norm_num) (by norm_num) (by decide)).same shapeCasts_S256x64_S256x64
  have H := mid_dv _ 1536 rfl low6 (in1 c harg2 harg5 harg6 B) (s51 c harg2 harg3 harg4 harg5 harg6 B) (key harg3 harg4 B 1536 1 (by decide)) tri (mid_rem _ 1536 low6 (in1 c harg2 harg5 harg6 B) (s51 c harg2 harg3 harg4 harg5 harg6 B) (key harg3 harg4 B 1536 1 (by decide)) tri slices_S2048x1_o1536_0_S512x1 slices_S2048x64_o1536_0_S512x64 slices_S512x256_o0_0_S512x1 broadcasts_S512x1_S512x256) slices_S2048x64_o1536_0_S512x64 Z
  have G := next (f := fun h => (hd X0 X1 X2 X4 h).dv) (v14 c harg2 harg3 harg4 harg5 harg6 arg10 B) 6 1 (by norm_num) (by norm_num) rfl (by decide)
    H
  exact G

theorem v16 : Grid 15 (bodyRun.sl.H7_16 c arg2 harg2 arg3 harg3 arg5 harg5 arg6 harg6 arg10 x0 x1 x3 x4) (dvF X0 X1 X2 X4) := by
  have Z := (grid_load (v15 c harg2 harg3 harg4 harg5 harg6 arg10 B) arg10.view 7 0 (by norm_num) (by norm_num) (by norm_num) (by decide)).same shapeCasts_S256x64_S256x64
  obtain ⟨_, hs⟩ := (s60 c harg2 harg3 harg4 harg5 harg6 B)
  have H := mid_dv _ 1792 rfl low7 (in0 c harg2 harg5 harg6 B) hs (key harg3 harg4 B 1792 0 (by decide)) tri (rem_last (n := 256) _ 1792 rfl) slices_S2048x64_o1792_0_S256x64 Z
  have G := next (f := fun h => (hd X0 X1 X2 X4 h).dv) (v15 c harg2 harg3 harg4 harg5 harg6 arg10 B) 7 0 (by norm_num) (by norm_num) rfl (by decide)
    H
  exact G

end Cert.Proof.Bwd
-- ==== Proof.BwdOut.lean ====
/- The three blocks that one run of the backward call's body leaves, as real numbers. -/
module

public import proofs.«01_k».proof.Proof.BwdGrid
public import proofs.«01_k».proof.Proof.BwdFrame

@[expose] public section

set_option maxRecDepth 16384

noncomputable section

namespace Cert.Proof.Bwd

open Cert.KernelIdeal Cert.KernelIdeal.Gen
open Idealize.ShloMosaic Cert.Proof.Rows Cert.Proof.Break Cert.Proof.Tile Cert.Proof.Store

variable (c : Dev nD) {arg2 : Memref sig .tc .vmem S2048x128 .bf16} (harg2 : arg2.IsWhole) {arg3 : Memref sig .tc .vmem S2048x128 .bf16} (harg3 : arg3.IsWhole)
  {arg4 : Memref sig .tc .vmem S2048x128 .bf16} (harg4 : arg4.IsWhole) {arg5 : Memref sig .tc .vmem S2048x128 .f32} (harg5 : arg5.IsWhole)
  {arg6 : Memref sig .tc .vmem S2048x128 .f32} (harg6 : arg6.IsWhole) (arg9 arg10 : Memref sig .tc .vmem S2048x128 .f32)
  {x0 x1 x2 : Vec Ideal S2048x128 .bf16} {x3 x4 : Vec Ideal S2048x128 .f32} {X0 X1 X2 X3 X4 : ℕ → ℕ → ℝ}
  (B : Blk x0 x1 x2 x3 x4 X0 X1 X2 X3 X4)

set_option maxHeartbeats 200000

section
variable (i : grid0.Coords) (arg7 : Memref sig .tc .hbm S8x128 .f32) (harg7 : arg7.IsWhole) (arg8 : Memref sig .tc .vmem S2048x128 .f32) (harg8 : arg8.IsWhole)
  (harg9 : arg9.IsWhole) (harg10 : arg10.IsWhole)
include B

theorem listDq : IsR (n := 2048) (w := 128) (φ := .f32) (View.canon (bodyRun c i arg2 harg2 arg3 harg3 arg4 harg4 arg5 harg5 arg6 harg6 arg7 harg7 arg8 harg8 arg9 harg9 arg10 harg10 x0 x1 x2 x3 x4).1) (dqF X0 X1 X2 X4) := by
  have H := halves (f := fun h => (hd X0 X1 X2 X4 h).dq 2048) (q70 c harg2 harg3 harg4 harg5 harg6 B) (q71 c harg2 harg3 harg4 harg5 harg6 B) k0_off1_inb k0_off2_inb
  exact H

theorem listDk : IsR (n := 2048) (w := 128) (φ := .f32) (View.canon (bodyRun c i arg2 harg2 arg3 harg3 arg4 harg4 arg5 harg5 arg6 harg6 arg7 harg7 arg8 harg8 arg9 harg9 arg10 harg10 x0 x1 x2 x3 x4).2.1) (dkF X0 X1 X2 X4) := by
  have Z := (grid_load (k16 c harg2 harg3 harg4 harg5 harg6 arg9 B) arg9.view 7 1 (by norm_num) (by norm_num) (by norm_num) (by decide)).same shapeCasts_S256x64_S256x64
  obtain ⟨_, hs⟩ := (s61 c harg2 harg3 harg4 harg5 harg6 B)
  have H := mid_dk _ 1792 rfl low7 (in1 c harg2 harg5 harg6 B) hs (key harg3 harg4 B 1792 1 (by decide)) tri (rem_last (n := 256) _ 1792 rfl) slices_S2048x1_o1792_0_S256x1 slices_S2048x64_o1792_0_S256x64 broadcasts_S256x1_S256x256 Z
  have G := next (f := fun h => (hd X0 X1 X2 X4 h).dk) (k16 c harg2 harg3 harg4 harg5 harg6 arg9 B) 7 1 (by norm_num) (by norm_num) rfl (by decide) H
  exact grid_full G

theorem listDv : IsR (n := 2048) (w := 128) (φ := .f32) (View.canon (bodyRun c i arg2 harg2 arg3 harg3 arg4 harg4 arg5 harg5 arg6 harg6 arg7 harg7 arg8 harg8 arg9 harg9 arg10 harg10 x0 x1 x2 x3 x4).2.2.1) (dvF X0 X1 X2 X4) := by
  have Z := (grid_load (v16 c harg2 harg3 harg4 harg5 harg6 arg10 B) arg10.view 7 1 (by norm_num) (by norm_num) (by norm_num) (by decide)).same shapeCasts_S256x64_S256x64
  obtain ⟨_, hs⟩ := (s61 c harg2 harg3 harg4 harg5 harg6 B)
  have H := mid_dv _ 1792 rfl low7 (in1 c harg2 harg5 harg6 B) hs (key harg3 harg4 B 1792 1 (by decide)) tri (rem_last (n := 256) _ 1792 rfl) slices_S2048x64_o1792_0_S256x64 Z
  have G := next (f := fun h => (hd X0 X1 X2 X4 h).dv) (v16 c harg2 harg3 harg4 harg5 harg6 arg10 B) 7 1 (by norm_num) (by norm_num) rfl (by decide) H
  exact grid_full G

end

end Cert.Proof.Bwd
-- ==== Proof.Four.lean ====
/- Arrays over a batch, a head and two positions (or a position and a feature), of real numbers read by natural-number
   coordinates, and what each host operation of the attention does to one. -/
module

public import proofs.«01_k».proof.Proof.Rows
public import proofs.«01_k».proof.Proof.Break
public import proofs.«01_k».proof.Proof.Gen.ReferenceIdeal.Run

@[expose] public section

set_option maxRecDepth 16384

noncomputable section

namespace Cert.Proof.Four

open Cert.ReferenceIdeal Cert.ReferenceIdeal.Gen
open Idealize.ShloMosaic Cert.Proof.Rows Cert.Proof.Break
open scoped BigOperators
open Finset (range)

/-- The array `x` holds the real number `f b h t s` at batch `b`, head `h`, and the last two coordinates `t`, `s`. -/
def Is4 {n p : ℕ} (x : FVec Ideal ⟨4, ![2, 8, n, p]⟩ .f32) (f : ℕ → ℕ → ℕ → ℕ → ℝ) : Prop :=
  ∀ i, x i = ((f (i 0).val (i 1).val (i 2).val (i 3).val : ℝ) : EReal)

variable {n p : ℕ} {x y : FVec Ideal ⟨4, ![2, 8, n, p]⟩ .f32} {f g : ℕ → ℕ → ℕ → ℕ → ℝ}

theorem Is4.congr (h : Is4 x f) (e : ∀ b a t s, t < n → s < p → f b a t s = g b a t s) : Is4 x g := fun i => by
  rw [h i, e _ _ _ _ (i 2).isLt (i 3).isLt]

theorem Is4.addf (h : Is4 x f) (k : Is4 y g) : Is4 (addf x y) fun b a t s => f b a t s + g b a t s := fun i => by
  show x _ + y _ = _
  rw [h, k, EReal.coe_add]

theorem Is4.subf (h : Is4 x f) (k : Is4 y g) : Is4 (subf x y) fun b a t s => f b a t s - g b a t s := fun i => by
  show x _ - y _ = _
  rw [h, k, EReal.coe_sub]

theorem Is4.mulf (h : Is4 x f) (k : Is4 y g) : Is4 (mulf x y) fun b a t s => f b a t s * g b a t s := fun i => by
  show x _ * y _ = _
  rw [h, k, EReal.coe_mul]

theorem Is4.maximumf (h : Is4 x f) (k : Is4 y g) : Is4 (maximumf x y) fun b a t s => max (f b a t s) (g b a t s) := fun i => by
  show max (x _) (y _) = _
  rw [h, k, coe_max]

theorem Is4.negf (h : Is4 x f) : Is4 (Host.negf x) fun b a t s => -f b a t s := fun i => by
  show -(x _) = _
  rw [h, EReal.coe_neg]

theorem Is4.absf (h : Is4 x f) : Is4 (Host.absf x) fun b a t s => |f b a t s| := fun i => by
  show max (x _) (-(x _)) = _
  rw [h, ← EReal.coe_neg, ← coe_max]; rfl

theorem Is4.exp (h : Is4 x f) : Is4 (Host.exp x) fun b a t s => Real.exp (f b a t s) := fun i => by
  show Ideal.exp (x _) = _
  rw [h, Ideal.exp_coe]

theorem Is4.log1p (h : Is4 x f) (pos : ∀ b a t s, 0 < 1 + f b a t s) :
    Is4 (Host.log1p x) fun b a t s => Real.log (1 + f b a t s) := fun i => by
  show Ideal.log (1 + x _) = _
  rw [h, ← EReal.coe_one, ← EReal.coe_add, Ideal.log_coe, if_neg (not_le.2 (pos _ _ _ _))]

theorem eighth_f32 : Ideal.ofBits .f32 0x3E000000#32 = ((1 / 8 : ℝ) : EReal) := by
  simp [Ideal.ofBits, Ideal.ieee, -EReal.coe_mul]; norm_num

theorem top_f32 : Ideal.ofBits .f32 0x7F800000#32 = ⊤ := by
  simp [Ideal.ofBits, Ideal.ieee]

/-- The same real number everywhere. -/
theorem is4_const {w : BitVec 32} {v : ℝ} (h : Ideal.ofBits .f32 w = (v : EReal)) :
    Is4 (broadcastInDim S2x8x2048x2048 ![] bcast_S_S2x8x2048x2048 (constant (F := Ideal) S_ .f32 w)) fun _ _ _ _ => v := fun i => by
  pointwise
  exact h

theorem is4_zero : Is4 (broadcastInDim S2x8x2048x2048 ![] bcast_S_S2x8x2048x2048 (constant (F := Ideal) S_ .f32 0x00000000#32)) fun _ _ _ _ => 0 :=
  is4_const (by rw [Ideal.ofBits_zero_f32, EReal.coe_zero])

/-! ## Layouts -/

/-- A token array seen by batch, head, position and feature. -/
def heads (x : FVec Ideal S4096x512 .f32) : FVec Ideal S2x8x2048x64 .f32 :=
  transpose S2x8x2048x64 [0, 2, 1, 3] (shapeCast S2x2048x8x64 x shapeCasts_S4096x512_S2x2048x8x64) transposes_S2x2048x8x64_S2x8x2048x64_0_2_1_3

/-- And back. -/
def merge (x : FVec Ideal S2x8x2048x64 .f32) : FVec Ideal S4096x512 .f32 :=
  shapeCast S4096x512 (transpose S2x2048x8x64 [0, 2, 1, 3] x transposes_S2x8x2048x64_S2x2048x8x64_0_2_1_3) shapeCasts_S2x2048x8x64_S4096x512

theorem is4_heads {x : FVec Ideal S4096x512 .f32} {f : ℕ → ℕ → ℝ} (h : IsR x f) :
    Is4 (heads x) fun b a t j => f (b * 2048 + t) (a * 64 + j) := fun i => by
  unfold heads
  pointwise
  exact h _ _

theorem isR_merge {x : FVec Ideal S2x8x2048x64 .f32} {f : ℕ → ℕ → ℕ → ℕ → ℝ} (h : Is4 x f) :
    IsR (merge x) fun r c => f (r / 2048) (c / 64) (r % 2048) (c % 64) := fun r c => by
  unfold merge
  pointwise
  exact h _

/-! ## Products -/

section Dots
variable {q k : FVec Ideal S2x8x2048x64 .f32} {a : FVec Ideal S2x8x2048x2048 .f32} {Q K A : ℕ → ℕ → ℕ → ℕ → ℝ}

/-- Rows by rows, over the features. -/
theorem is4_rows (h : Is4 q Q) (h' : Is4 k K) :
    Is4 (Host.dotGeneral (φ₁ := .f32) (φ₂ := .f32) dot_S2x8x2048x64_S2x8x2048x64_S2x8x2048x2048_3_3_2_2_01_01 none q k)
      fun b d t s => ∑ j ∈ range 64, Q b d t j * K b d s j := fun i => by
  pointwise
  beta_reduce
  rw [Finset.sum_range, coe_sum]
  exact Finset.sum_congr rfl fun j _ => by rw [h, h', EReal.coe_mul]; rfl

/-- Weights by rows, over the second position. -/
theorem is4_apply (h : Is4 a A) (h' : Is4 k K) :
    Is4 (Host.dotGeneral (φ₁ := .f32) (φ₂ := .f32) dot_S2x8x2048x2048_S2x8x2048x64_S2x8x2048x64_3_2_2_3_01_01 none a k)
      fun b d t j => ∑ s ∈ range 2048, A b d t s * K b d s j := fun i => by
  pointwise
  beta_reduce
  rw [Finset.sum_range, coe_sum]
  exact Finset.sum_congr rfl fun j _ => by rw [h, h', EReal.coe_mul]; rfl

/-- Weights by rows, over the first position. -/
theorem is4_back (h : Is4 a A) (h' : Is4 q Q) :
    Is4 (Host.dotGeneral (φ₁ := .f32) (φ₂ := .f32) dot_S2x8x2048x2048_S2x8x2048x64_S2x8x2048x64_2_2_3_3_01_01 none a q)
      fun b d s j => ∑ t ∈ range 2048, A b d t s * Q b d t j := fun i => by
  pointwise
  beta_reduce
  rw [Finset.sum_range, coe_sum]
  exact Finset.sum_congr rfl fun j _ => by rw [h, h', EReal.coe_mul]; rfl

/-- The same, its operands and its result turned around. -/
theorem is4_back' (h : Is4 q Q) (h' : Is4 a A) :
    Is4 (transpose S2x8x2048x64 [0, 1, 3, 2] (Host.dotGeneral (φ₁ := .f32) (φ₂ := .f32) dot_S2x8x2048x64_S2x8x2048x2048_S2x8x64x2048_2_2_3_3_01_01 none q a)
        transposes_S2x8x64x2048_S2x8x2048x64_0_1_3_2)
      fun b d s j => ∑ t ∈ range 2048, Q b d t j * A b d t s := fun i => by
  pointwise
  beta_reduce
  rw [Finset.sum_range, coe_sum]
  exact Finset.sum_congr rfl fun j _ => by rw [h, h', EReal.coe_mul]; rfl

end Dots

/-! ## The mask -/

/-- The key's position is before the query's. -/
def low : IVec S2x8x2048x2048 1 :=
  broadcastInDim S2x8x2048x2048 ![2, 3] bcast_S2048x2048_S2x8x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

theorem low_iff (i : S2x8x2048x2048.Idx) : low i = 1#1 ↔ (i 3).val < (i 2).val := by
  have h3 : (i 3).val < 2048 := (i 3).isLt
  have h2 : (i 2).val < 2048 := (i 2).isLt
  have e : low i = IntOp.cmpi CmpIPredicate.slt (BitVec.ofNat 32 (i 3).val) (BitVec.ofNat 32 (i 2).val) := by
    unfold low
    pointwise
  rw [e]
  show BitVec.ofBool ((BitVec.ofNat 32 (i 3).val).slt (BitVec.ofNat 32 (i 2).val)) = 1#1 ↔ _
  rw [BitVec.slt_eq_decide, BitVec.toInt_ofNat', BitVec.toInt_ofNat', Int.bmod_eq_of_le (by omega) (by omega), Int.bmod_eq_of_le (by omega) (by omega)]
  by_cases h : (i 3).val < (i 2).val
  · simp [h]
  · simp [h]

theorem is4_low {x y : FVec Ideal S2x8x2048x2048 .f32} (h : Is4 x f) (k : Is4 y g) :
    Is4 (select low x y) fun b a t s => if s < t then f b a t s else g b a t s := fun i => by
  show (if low i = 1#1 then x i else y i) = _
  beta_reduce
  by_cases hc : (i 3).val < (i 2).val
  · rw [if_pos hc, if_pos ((low_iff i).2 hc), h]
  · rw [if_neg hc, if_neg (fun e => hc ((low_iff i).1 e)), k]

/-! ## Soft plus and the logistic function -/

/-- The soft plus, as it is computed. -/
def soft (z : FVec Ideal S2x8x2048x2048 .f32) : FVec Ideal S2x8x2048x2048 .f32 :=
  let o := broadcastInDim S2x8x2048x2048 ![] bcast_S_S2x8x2048x2048 (constant (F := Ideal) S_ .f32 0x00000000#32)
  select (cmpf .une (subf z o) (subf z o)) (addf z o) (addf (maximumf z o) (Host.log1p (Host.exp (Host.negf (Host.absf (subf z o))))))

theorem select_false {c : IVec S2x8x2048x2048 1} {x y : FVec Ideal S2x8x2048x2048 .f32} (h : ∀ i, c i ≠ 1#1) : select c x y = y :=
  funext fun i => by
    show (if c i = 1#1 then x i else y i) = _
    exact if_neg (h i)

theorem is4_soft {z : FVec Ideal S2x8x2048x2048 .f32} (h : Is4 z f) : Is4 (soft z) fun b a t s => sp (f b a t s) := by
  unfold soft
  dsimp only
  rw [select_false fun i => ?_]
  · refine ((h.maximumf is4_zero).addf (((h.subf is4_zero).absf.negf.exp).log1p fun b a t s => by positivity)).congr fun b a t s _ _ => ?_
    rw [sub_zero]; rfl
  · show BitVec.ofBool (decide _) ≠ 1#1
    simp

/-- The derivative of the soft plus, as it is computed from the soft plus. -/
def slope (z y : FVec Ideal S2x8x2048x2048 .f32) : FVec Ideal S2x8x2048x2048 .f32 :=
  Host.exp (subf
    (select (cmpf .oeq z (broadcastInDim S2x8x2048x2048 ![] bcast_S_S2x8x2048x2048 (constant (F := Ideal) S_ .f32 0x7F800000#32)))
      (broadcastInDim S2x8x2048x2048 ![] bcast_S_S2x8x2048x2048 (constant (F := Ideal) S_ .f32 0x00000000#32)) z)
    (select (cmpf .oeq y (broadcastInDim S2x8x2048x2048 ![] bcast_S_S2x8x2048x2048 (constant (F := Ideal) S_ .f32 0x7F800000#32)))
      (broadcastInDim S2x8x2048x2048 ![] bcast_S_S2x8x2048x2048 (constant (F := Ideal) S_ .f32 0x00000000#32)) y))

theorem not_top {z : FVec Ideal S2x8x2048x2048 .f32} (h : Is4 z f) (i) :
    cmpf .oeq z (broadcastInDim S2x8x2048x2048 ![] bcast_S_S2x8x2048x2048 (constant (F := Ideal) S_ .f32 0x7F800000#32)) i ≠ 1#1 := by
  show BitVec.ofBool (decide (z i = Ideal.ofBits .f32 0x7F800000#32)) ≠ 1#1
  rw [h i, top_f32]
  simp

theorem is4_slope {z y : FVec Ideal S2x8x2048x2048 .f32} (h : Is4 z f) (k : Is4 y g) :
    Is4 (slope z y) fun b a t s => Real.exp (f b a t s - g b a t s) := by
  unfold slope
  rw [select_false (not_top h), select_false (not_top k)]
  exact (h.subf k).exp

/-! ## Running sums -/

theorem foldl_sum {α : Type} (l : List α) (F : α → EReal) (v : EReal) : l.foldl (fun r n => r + F n) v = v + (l.map F).sum := by
  induction l generalizing v with
  | nil => simp
  | cons a l ih => rw [List.foldl_cons, ih, List.map_cons, List.sum_cons, add_assoc]

/-- One window of a running sum along the last axis, `L` positions of padding before it. -/
theorem window_apply (L M : ℕ) {x : FVec Ideal S2x8x2048x2048 .f32} (h : Is4 x f) {init : FVec Ideal S_ .f32} (hi : ∀ i, init i = 0)
    (hw : S2x8x2048x2048.ReduceWindows (![1, 1, 1, 2048] : Fin 4 → Nat) ![1, 1, 1, 1] ![0, 0, 0, L] ![0, 0, 0, M] S2x8x2048x2048) (hu : 0 < S_.numel)
    (i : S2x8x2048x2048.Idx) :
    Host.reduceWindowAdd ![1, 1, 1, 2048] ![1, 1, 1, 1] ![0, 0, 0, L] ![0, 0, 0, M] x init hw hu i
      = ((∑ n ∈ range 2048, (if L ≤ (i 3).val + n ∧ (i 3).val + n - L < 2048 then f (i 0).val (i 1).val (i 2).val ((i 3).val + n - L) else 0 : ℝ) : ℝ) : EReal) := by
  unfold Host.reduceWindowAdd
  rw [Ideal.hostReduceWindowAdd_def, hi]
  unfold Ideal.hostReduceWindowAdd Host.reduceWindow
  dsimp only
  rw [foldl_sum, zero_add, ← List.ofFn_eq_map, List.sum_ofFn]
  let W : Shape := ⟨4, ![1, 1, 1, 2048]⟩
  have hs := Equiv.sum_comp (W.rowMajor.symm) fun y : W.Idx =>
    ((if L ≤ (i 3).val + (y 3).val ∧ (i 3).val + (y 3).val - L < 2048 then f (i 0).val (i 1).val (i 2).val ((i 3).val + (y 3).val - L) else 0 : ℝ) : EReal)
  refine Eq.trans (Finset.sum_congr rfl fun n _ => ?_) (hs.trans ?_)
  · let y : W.Idx := W.rowMajor.symm n
    have h0 : (y 0).val = 0 := Nat.lt_one_iff.1 (y 0).isLt
    have h1 : (y 1).val = 0 := Nat.lt_one_iff.1 (y 1).isLt
    have h2 : (y 2).val = 0 := Nat.lt_one_iff.1 (y 2).isLt
    have hw0 : (i 0).val < 2 := (i 0).isLt
    have hw1 : (i 1).val < 8 := (i 1).isLt
    have hw2 : (i 2).val < 2048 := (i 2).isLt
    have q0 : (i 0).val * 1 + (y 0).val - 0 = (i 0).val := by omega
    have q1 : (i 1).val * 1 + (y 1).val - 0 = (i 1).val := by omega
    have q2 : (i 2).val * 1 + (y 2).val - 0 = (i 2).val := by omega
    have q3 : (i 3).val * 1 + (y 3).val - L = (i 3).val + (y 3).val - L := by omega
    by_cases hc : L ≤ (i 3).val + (y 3).val ∧ (i 3).val + (y 3).val - L < 2048
    · rw [dif_pos, h, if_pos hc]
      · exact congrArg _ (congr (congr (congr (congrArg f q0) q1) q2) q3)
      · intro a
        match a with
        | ⟨0, _⟩ => exact ⟨Nat.zero_le _, (q0.trans_lt hw0 : _)⟩
        | ⟨1, _⟩ => exact ⟨Nat.zero_le _, (q1.trans_lt hw1 : _)⟩
        | ⟨2, _⟩ => exact ⟨Nat.zero_le _, (q2.trans_lt hw2 : _)⟩
        | ⟨3, _⟩ => exact ⟨(hc.1.trans_eq (by rw [Nat.mul_one]) : L ≤ (i 3).val * 1 + (y 3).val), (q3.trans_lt hc.2 : _)⟩
    · rw [dif_neg, if_neg hc, EReal.coe_zero]
      intro hin
      refine hc ?_
      have h3 : L ≤ (i 3).val * 1 + (y 3).val ∧ (i 3).val * 1 + (y 3).val - L < 2048 := hin 3
      rwa [Nat.mul_one] at h3
  · rw [sum_idx4, Finset.sum_range, coe_sum]
    simp only [Finset.univ_unique, Finset.sum_singleton]
    rfl

theorem sum_window_end (f : ℕ → ℝ) (N s : ℕ) (hs : s ≤ N) :
    (∑ n ∈ range N, if 0 ≤ s + n ∧ s + n - 0 < N then f (s + n - 0) else 0) = (∑ r ∈ range N, f r) - ∑ r ∈ range s, f r := by
  obtain ⟨m, rfl⟩ := Nat.exists_eq_add_of_le hs
  rw [Finset.sum_range_add f, add_sub_cancel_left, Nat.add_comm s m, Finset.sum_range_add,
    Finset.sum_congr rfl fun n hn => if_pos ⟨Nat.zero_le _, by have := Finset.mem_range.1 hn; omega⟩,
    Finset.sum_eq_zero (s := range s) fun n _ => if_neg (by omega), add_zero]
  rfl

theorem sum_window_start (f : ℕ → ℝ) (N s : ℕ) (hs : s ≤ N) :
    (∑ n ∈ range (N + 1), if N ≤ s + n ∧ s + n - N < N + 1 then f (s + n - N) else 0) = ∑ r ∈ range (s + 1), f r := by
  obtain ⟨m, rfl⟩ := Nat.exists_eq_add_of_le' hs
  rw [Nat.add_assoc m s 1, Finset.sum_range_add, Finset.sum_eq_zero (s := range m) fun n hn =>
    if_neg (by have := Finset.mem_range.1 hn; omega), zero_add]
  refine Finset.sum_congr rfl fun n hn => ?_
  have := Finset.mem_range.1 hn
  rw [if_pos (by omega)]
  congr 1; omega

/-- The sum from a position to the end. -/
def fromEnd (x : FVec Ideal S2x8x2048x2048 .f32) : FVec Ideal S2x8x2048x2048 .f32 :=
  Host.reduceWindowAdd ![1, 1, 1, 2048] ![1, 1, 1, 1] ![0, 0, 0, 0] ![0, 0, 0, 2047] x
    (broadcastInDim S_ ![] bcast_S_S_ (constant (F := Ideal) S_ .f32 0x00000000#32))
    reduceWindows_S2x8x2048x2048_S2x8x2048x2048_w1s1p0_0_w1s1p0_0_w1s1p0_0_w2048s1p0_2047 h_S_

/-- The sum up to a position. -/
def upTo (x : FVec Ideal S2x8x2048x2048 .f32) : FVec Ideal S2x8x2048x2048 .f32 :=
  Host.reduceWindowAdd ![1, 1, 1, 2048] ![1, 1, 1, 1] ![0, 0, 0, 2047] ![0, 0, 0, 0] x
    (broadcastInDim S_ ![] bcast_S_S_ (constant (F := Ideal) S_ .f32 0x00000000#32))
    reduceWindows_S2x8x2048x2048_S2x8x2048x2048_w1s1p0_0_w1s1p0_0_w1s1p0_0_w2048s1p2047_0 h_S_

theorem zero_init (i : S_.Idx) : broadcastInDim S_ ![] bcast_S_S_ (constant (F := Ideal) S_ .f32 0x00000000#32) i = 0 := by
  pointwise

theorem is4_fromEnd {x : FVec Ideal S2x8x2048x2048 .f32} (h : Is4 x f) :
    Is4 (fromEnd x) fun b a t s => (∑ r ∈ range 2048, f b a t r) - ∑ r ∈ range s, f b a t r := fun i => by
  unfold fromEnd
  rw [window_apply 0 2047 h zero_init]
  exact congrArg _ (sum_window_end _ _ _ (i 3).isLt.le)

theorem is4_upTo {x : FVec Ideal S2x8x2048x2048 .f32} (h : Is4 x f) :
    Is4 (upTo x) fun b a t s => ∑ r ∈ range (s + 1), f b a t r := fun i => by
  unfold upTo
  rw [window_apply 2047 0 h zero_init]
  exact congrArg _ (sum_window_start _ 2047 _ (Nat.le_of_lt_succ (i 3).isLt))

/-! ## The calls' totals -/

/-- Each query's sum over the keys, in every feature of its head. -/
def total (x : FVec Ideal S2x8x2048x2048 .f32) (hr : S2x8x2048x2048.ReducesTo [3] ⟨3, ![2, 8, 2048]⟩)
    (h1 : Shape.BroadcastsInDim ⟨3, ![2, 8, 2048]⟩ ⟨4, ![2, 8, 2048, 1]⟩ ![0, 1, 2]) (h2 : Shape.BroadcastsInDim ⟨4, ![2, 8, 2048, 1]⟩ S2x8x2048x64 ![0, 1, 2, 3]) :
    FVec Ideal S2x8x2048x64 .f32 :=
  broadcastInDim S2x8x2048x64 ![0, 1, 2, 3] h2 (broadcastInDim ⟨4, ![2, 8, 2048, 1]⟩ ![0, 1, 2] h1
    (Host.negf (Host.reduceAdd x (constant (F := Ideal) S_ .f32 0x00000000#32) hr h_S_)))

theorem is4_total {x : FVec Ideal S2x8x2048x2048 .f32} (h : Is4 x f) (hr h1 h2) :
    Is4 (total x hr h1 h2) fun b a t _ => -∑ r ∈ range 2048, f b a t r := fun i => by
  unfold total
  pointwise
  beta_reduce
  rw [EReal.coe_neg, Finset.sum_range, coe_sum]
  exact congrArg _ (Finset.sum_congr rfl fun j _ => h _)

end Cert.Proof.Four

end
-- ==== Proof.RefValue.lean ====
/- What the reference of the backward call returns, as real numbers: the gradients of `Break.Head`, head by head. -/
module

public import proofs.«01_k».proof.Proof.Four

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Cert.Proof.Rows Cert.Proof.Break Cert.Proof.Four
open scoped BigOperators
open Finset (range)

/-! ## Identities of the soft plus -/

theorem sp_neg (z : ℝ) : sp (-z) = sp z - z := by
  unfold sp
  rw [abs_neg]
  rcases le_total z 0 with h | h
  · rw [max_eq_left (neg_nonneg.2 h), max_eq_right h]; ring
  · rw [max_eq_right (neg_nonpos.2 h), max_eq_left h]; ring

theorem exp_sp (z : ℝ) : Real.exp (sp z) = 1 + Real.exp z := by
  unfold sp
  rw [Real.exp_add, Real.exp_log (by positivity)]
  rcases le_total z 0 with h | h
  · rw [max_eq_right h, abs_of_nonpos h, Real.exp_zero, neg_neg, one_mul]
  · rw [max_eq_left h, abs_of_nonneg h, mul_add, ← Real.exp_add, add_neg_cancel, Real.exp_zero, mul_one, add_comm]

/-- The logistic function and its complement. -/
theorem logistic_add (z : ℝ) : Real.exp (-sp z) + Real.exp (z - sp z) = 1 := by
  rw [sub_eq_add_neg, Real.exp_add, ← one_add_mul, ← exp_sp, ← Real.exp_add, add_neg_cancel, Real.exp_zero]

/-! ## The reference's stages -/

/-- Zeros. -/
abbrev zeros : FVec Ideal S2x8x2048x2048 .f32 := broadcastInDim S2x8x2048x2048 ![] bcast_S_S2x8x2048x2048 (constant (F := Ideal) S_ .f32 0x00000000#32)

/-- An eighth everywhere. -/
abbrev eighths : FVec Ideal S2x8x2048x2048 .f32 := broadcastInDim S2x8x2048x2048 ![] bcast_S_S2x8x2048x2048 (constant (F := Ideal) S_ .f32 0x3E000000#32)

/-- The scores. -/
def scores (q k : FVec Ideal S4096x512 .f32) : FVec Ideal S2x8x2048x2048 .f32 :=
  mulf (Host.dotGeneral (φ₁ := .f32) (φ₂ := .f32) dot_S2x8x2048x64_S2x8x2048x64_S2x8x2048x2048_3_3_2_2_01_01 none (heads q) (heads k)) eighths

/-- What each earlier key takes off the stick, as a logarithm. -/
def broken (z : FVec Ideal S2x8x2048x2048 .f32) : FVec Ideal S2x8x2048x2048 .f32 := select low (Host.negf (soft z)) zeros

/-- The weights before the mask. -/
def weight (z : FVec Ideal S2x8x2048x2048 .f32) : FVec Ideal S2x8x2048x2048 .f32 :=
  Host.exp (addf (Host.negf (soft (Host.negf z))) (subf (fromEnd (broken z)) (broken z)))

/-- The weights. -/
def weights (z : FVec Ideal S2x8x2048x2048 .f32) : FVec Ideal S2x8x2048x2048 .f32 := select low (weight z) zeros

/-- The weights' gradient times the weights. -/
def grads (z : FVec Ideal S2x8x2048x2048 .f32) (w v : FVec Ideal S4096x512 .f32) : FVec Ideal S2x8x2048x2048 .f32 :=
  mulf (select low (Host.dotGeneral (φ₁ := .f32) (φ₂ := .f32) dot_S2x8x2048x64_S2x8x2048x64_S2x8x2048x2048_3_3_2_2_01_01 none (heads w) (heads v)) zeros) (weight z)

/-- The scores' gradient before the scale, -/
def dscores' (z g : FVec Ideal S2x8x2048x2048 .f32) : FVec Ideal S2x8x2048x2048 .f32 :=
  addf (Host.negf (mulf (Host.negf g) (slope (Host.negf z) (soft (Host.negf z)))))
    (mulf (Host.negf (select low (addf (Host.negf g) (upTo g)) zeros)) (slope z (soft z)))

/-- and after it. -/
def dscores (z g : FVec Ideal S2x8x2048x2048 .f32) : FVec Ideal S2x8x2048x2048 .f32 := mulf (dscores' z g) eighths

/-- The gradient of the values, -/
def refDv (q k w : FVec Ideal S4096x512 .f32) : FVec Ideal S4096x512 .f32 :=
  merge (transpose S2x8x2048x64 [0, 1, 3, 2] (Host.dotGeneral (φ₁ := .f32) (φ₂ := .f32) dot_S2x8x2048x64_S2x8x2048x2048_S2x8x64x2048_2_2_3_3_01_01 none (heads w) (weights (scores q k)))
    transposes_S2x8x64x2048_S2x8x2048x64_0_1_3_2)

/-- of the keys, -/
def refDk (q k v w : FVec Ideal S4096x512 .f32) : FVec Ideal S4096x512 .f32 :=
  merge (Host.dotGeneral (φ₁ := .f32) (φ₂ := .f32) dot_S2x8x2048x2048_S2x8x2048x64_S2x8x2048x64_2_2_3_3_01_01 none
    (dscores (scores q k) (grads (scores q k) w v)) (heads q))

/-- and of the queries. -/
def refDq (q k v w : FVec Ideal S4096x512 .f32) : FVec Ideal S4096x512 .f32 :=
  merge (Host.dotGeneral (φ₁ := .f32) (φ₂ := .f32) dot_S2x8x2048x2048_S2x8x2048x64_S2x8x2048x64_3_2_2_3_01_01 none
    (dscores (scores q k) (grads (scores q k) w v)) (heads k))

variable (m : (ℓ : Loc nD τ sig) → Buf (Elt Ideal) ℓ) (c : Dev nD)

theorem out2_eq : res_out2 m c = refDv (m ((c.tc : Thread nD τ).loc main_arg0)) (m ((c.tc : Thread nD τ).loc main_arg1)) (m ((c.tc : Thread nD τ).loc main_arg3)) := by
  unfold res_out2 res_main_v48 refDv merge weights weight broken soft fromEnd scores heads low
  rfl

theorem out1_eq : res_out1 m c = refDk (m ((c.tc : Thread nD τ).loc main_arg0)) (m ((c.tc : Thread nD τ).loc main_arg1)) (m ((c.tc : Thread nD τ).loc main_arg2)) (m ((c.tc : Thread nD τ).loc main_arg3)) := by
  unfold res_out1 res_main_v50
  rfl

theorem out0_eq : res_out0 m c = refDq (m ((c.tc : Thread nD τ).loc main_arg0)) (m ((c.tc : Thread nD τ).loc main_arg1)) (m ((c.tc : Thread nD τ).loc main_arg2)) (m ((c.tc : Thread nD τ).loc main_arg3)) := by
  unfold res_out0 res_main_v52
  rfl

/-! ## As real numbers -/

/-- Head `a` of batch `b`: the queries are scaled by an eighth. -/
abbrev head (Q K V W : ℕ → ℕ → ℝ) (b a : ℕ) : Head where
  q t j := Q (b * 2048 + t) (a * 64 + j) * (1 / 8)
  k t j := K (b * 2048 + t) (a * 64 + j)
  v t j := V (b * 2048 + t) (a * 64 + j)
  w t j := W (b * 2048 + t) (a * 64 + j)

variable {q k v w : FVec Ideal S4096x512 .f32} {Q K V W : ℕ → ℕ → ℝ}

theorem is4_eighths : Is4 eighths fun _ _ _ _ => 1 / 8 := is4_const eighth_f32

theorem is4_scores (hq : IsR q Q) (hk : IsR k K) : Is4 (scores q k) fun b a t s => (head Q K V W b a).z t s :=
  ((is4_rows (is4_heads hq) (is4_heads hk)).mulf is4_eighths).congr fun b a t s _ _ => by
    rw [Head.z, Finset.sum_mul]
    exact Finset.sum_congr rfl fun j _ => by dsimp only; ring

section Stages
variable {z : FVec Ideal S2x8x2048x2048 .f32} {H : ℕ → ℕ → Head} (hz : Is4 z fun b a t s => (H b a).z t s)
include hz

theorem is4_broken : Is4 (broken z) fun b a t s => -(H b a).brk t s :=
  (is4_low (is4_soft hz).negf is4_zero).congr fun b a t s _ _ => by
    unfold Head.brk
    split <;> simp

theorem is4_weights : Is4 (weights z) fun b a t s => (H b a).att t s :=
  (is4_low (((is4_soft hz.negf).negf.addf ((is4_fromEnd (is4_broken hz)).subf (is4_broken hz))).exp) is4_zero).congr fun b a t s _ _ => by
    unfold Head.att
    split
    · rename_i h
      congr 1
      rw [sp_neg, Finset.sum_neg_distrib, Finset.sum_neg_distrib]
      unfold Head.cum
      rw [show (H b a).brk t s = sp ((H b a).z t s) from if_pos h]
      ring
    · rfl

theorem is4_grads (hw : IsR w W) (hv : IsR v V) (e : ∀ b a, (H b a).w = fun t j => W (b * 2048 + t) (a * 64 + j))
    (e' : ∀ b a, (H b a).v = fun t j => V (b * 2048 + t) (a * 64 + j)) : Is4 (grads z w v) fun b a t s => (H b a).gr t s :=
  ((is4_low (is4_rows (is4_heads hw) (is4_heads hv)) is4_zero).mulf
    (((is4_soft hz.negf).negf.addf ((is4_fromEnd (is4_broken hz)).subf (is4_broken hz))).exp)).congr fun b a t s _ _ => by
    unfold Head.gr Head.att
    rw [e, e']
    split
    · rename_i h
      rw [mul_comm]
      congr 2
      rw [sp_neg, Finset.sum_neg_distrib, Finset.sum_neg_distrib]
      unfold Head.cum
      rw [show (H b a).brk t s = sp ((H b a).z t s) from if_pos h]
      ring
    · rw [zero_mul, zero_mul]

theorem is4_dscores {g : FVec Ideal S2x8x2048x2048 .f32} (hg : Is4 g fun b a t s => (H b a).gr t s) :
    Is4 (dscores z g) fun b a t s => (H b a).dz t s * (1 / 8) :=
  (((hg.negf.mulf (is4_slope hz.negf (is4_soft hz.negf))).negf.addf
    ((is4_low (hg.negf.addf (is4_upTo hg)) is4_zero).negf.mulf (is4_slope hz (is4_soft hz)))).mulf is4_eighths).congr fun b a t s _ _ => by
    congr 1
    rw [sp_neg]
    unfold Head.dz Head.gcum
    split
    · have := logistic_add ((H b a).z t s)
      have e : -(H b a).z t s - (sp ((H b a).z t s) - (H b a).z t s) = -sp ((H b a).z t s) := by ring
      rw [e, eq_sub_of_add_eq this]; ring
    · rename_i h
      rw [(H b a).gr_of_le (by omega)]; ring

end Stages

theorem isR_refDv (hq : IsR q Q) (hk : IsR k K) (hw : IsR w W) :
    IsR (refDv q k w) fun r c => (head Q K V W (r / 2048) (c / 64)).dv (r % 2048) (c % 64) :=
  isR_merge (is4_back' (is4_heads hw) (is4_weights (is4_scores (V := V) (W := W) hq hk))) |>.congr fun r c _ _ => by
    unfold Head.dv
    exact Finset.sum_congr rfl fun t _ => mul_comm _ _

theorem isR_refDk (hq : IsR q Q) (hk : IsR k K) (hv : IsR v V) (hw : IsR w W) :
    IsR (refDk q k v w) fun r c => (head Q K V W (r / 2048) (c / 64)).dk (r % 2048) (c % 64) :=
  isR_merge (is4_back (is4_dscores (is4_scores (V := V) (W := W) hq hk) (is4_grads (is4_scores hq hk) hw hv (fun _ _ => rfl) fun _ _ => rfl)) (is4_heads hq)) |>.congr fun r c _ _ => by
    unfold Head.dk
    exact Finset.sum_congr rfl fun t _ => by ring

theorem isR_refDq (hq : IsR q Q) (hk : IsR k K) (hv : IsR v V) (hw : IsR w W) :
    IsR (refDq q k v w) fun r c => (head Q K V W (r / 2048) (c / 64)).dq 2048 (r % 2048) (c % 64) * (1 / 8) :=
  isR_merge (is4_apply (is4_dscores (is4_scores (V := V) (W := W) hq hk) (is4_grads (is4_scores hq hk) hw hv (fun _ _ => rfl) fun _ _ => rfl)) (is4_heads hk)) |>.congr fun r c _ _ => by
    unfold Head.dq
    rw [Finset.sum_mul]
    exact Finset.sum_congr rfl fun t _ => by ring

end Cert.Proof.Ref

end
-- ==== Proof.BwdValue.lean ====
/- The backward call's three result arrays, as real numbers: the blocks each grid point reads are slices of the host
   lines' arrays, and the blocks it writes back cover the results. -/
module

public import proofs.«01_k».proof.Proof.BwdOut
public import proofs.«01_k».proof.Proof.RefValue
public import Idealize.ShloMosaic.Lib.Pipeline.ValueKit
public import Idealize.ShloMosaic.Lib.Claim

@[expose] public section

set_option maxRecDepth 16384

noncomputable section

namespace Cert.Proof.Bwd

open Cert.KernelIdeal Cert.KernelIdeal.Gen
open Idealize.ShloMosaic Idealize.ShloMosaic.TcCoe Cert.Proof.Rows Cert.Proof.Break

variable (m : (ℓ : Loc nD τ sig) → Buf (Elt Ideal) ℓ) (c : Dev nD) {Q K V' W G : ℕ → ℕ → ℝ}

/-! ## The arrays the host lines leave for the call -/

/-- The four arguments hold the real numbers `Q`, `K`, `V'`, `W`. -/
structure Args (Q K V' W : ℕ → ℕ → ℝ) : Prop where
  q : IsR (n := 4096) (w := 512) (φ := .f32) (m ((c.tc : Thread nD τ).loc main_arg0)) Q
  k : IsR (n := 4096) (w := 512) (φ := .f32) (m ((c.tc : Thread nD τ).loc main_arg1)) K
  v : IsR (n := 4096) (w := 512) (φ := .f32) (m ((c.tc : Thread nD τ).loc main_arg2)) V'
  w : IsR (n := 4096) (w := 512) (φ := .f32) (m ((c.tc : Thread nD τ).loc main_arg3)) W

variable {m c} (A : Args m c Q K V' W)

include A

set_option maxHeartbeats 400000

theorem arr_q : IsR (n := 4096) (w := 512) (φ := .bf16) (V m c main_v2) fun r l => Q r l * (1 / 8) := fun r l => by
  entry_read
  have H := A.q r l
  have E : Ideal.ofBits .f32 0x3E000000#32 = ((1 / 8 : ℝ) : EReal) := Four.eighth_f32
  exact (congrArg₂ (fun a b : EReal => a * b) H E).trans (EReal.coe_mul _ _).symm

theorem arr_k : IsR (n := 4096) (w := 512) (φ := .bf16) (V m c main_v3) K := fun r l => by
  entry_read
  exact A.k r l

theorem arr_v : IsR (n := 4096) (w := 512) (φ := .bf16) (V m c main_v4) V' := fun r l => by
  entry_read
  exact A.v r l

theorem arr_w : IsR (n := 4096) (w := 512) (φ := .f32) (V m c main_arg3) W := by
  rw [V_main_arg3]
  exact A.w

theorem arr_total : IsR (n := 4096) (w := 512) (φ := .f32) (V m c main_v27)
    fun r l => (Ref.head Q K V' W (r / 2048) (l / 64)).cum 2048 (r % 2048) := by
  have H := Four.isR_merge (Four.is4_total (Ref.is4_broken (Ref.is4_scores (V := V') (W := W) A.q A.k)) reducesTo_S2x8x2048x2048_S2x8x2048_d3 bcast_S2x8x2048_S2x8x2048x1_0_1_2 bcast_S2x8x2048x1_S2x8x2048x64_0_1_2_3)
  have E : V m c main_v27 = Four.merge (Four.total (Ref.broken (Ref.scores (m ((c.tc : Thread nD τ).loc main_arg0)) (m ((c.tc : Thread nD τ).loc main_arg1)))) reducesTo_S2x8x2048x2048_S2x8x2048_d3 bcast_S2x8x2048_S2x8x2048x1_0_1_2 bcast_S2x8x2048x1_S2x8x2048x64_0_1_2_3) := by
    entry_read
    rfl
  rw [E]
  exact H.congr fun r l _ _ => by
    unfold Head.cum
    rw [Finset.sum_neg_distrib, neg_neg]

omit A

/-! ## The blocks -/

/-- Every window's block index: the batch and the column block. -/
theorem idx : ∀ t : Fin cfg0.N, win0_0.index t = ![t.val / 4, t.val % 4] ∧ win0_1.index t = ![t.val / 4, t.val % 4] ∧ win0_2.index t = ![t.val / 4, t.val % 4]
    ∧ win0_3.index t = ![t.val / 4, t.val % 4] ∧ win0_4.index t = ![t.val / 4, t.val % 4] ∧ win0_5.index t = ![t.val / 4, t.val % 4]
    ∧ win0_6.index t = ![t.val / 4, t.val % 4] ∧ win0_7.index t = ![t.val / 4, t.val % 4] :=
  (by decide +kernel : ∀ t : Fin grid0.N, _)

/-- The block of real numbers that point `t` reads. -/
abbrev cutAt (f : ℕ → ℕ → ℝ) (t : ℕ) : ℕ → ℕ → ℝ := fun r l => f (2048 * (t / 4) + r) (128 * (t % 4) + l)

variable (t : Fin cfg0.N)

theorem row_at (r : Fin 2048) (l : Fin 128) (a : ℕ) (e : ℕ) (h : e = 2048 * a + r.val := by rfl) : a * 2048 + (ValueIdx.ix2 r l 0).val = e := by
  show a * 2048 + r.val = _; omega

theorem col_at (r : Fin 2048) (l : Fin 128) (a : ℕ) (e : ℕ) (h : e = 128 * a + l.val := by rfl) : a * 128 + (ValueIdx.ix2 r l 1).val = e := by
  show a * 128 + l.val = _; omega

theorem blk_q {f : ℕ → ℕ → ℝ} (h : IsR (n := 4096) (w := 512) (φ := .bf16) (V m c main_v2) f) : IsR (n := 2048) (w := 128) (φ := .bf16) (iblk m c 0 t) (cutAt f t.val) := fun r l => by
  have ht : t.val < 8 := t.isLt
  refine Eq.trans ?_ (h ⟨2048 * (t.val / 4) + r.val, by omega⟩ ⟨128 * (t.val % 4) + l.val, by omega⟩)
  blk_ext [iblk, idx t]
  · exact row_at r l _ _
  · exact col_at r l _ _

theorem blk_k {f : ℕ → ℕ → ℝ} (h : IsR (n := 4096) (w := 512) (φ := .bf16) (V m c main_v3) f) : IsR (n := 2048) (w := 128) (φ := .bf16) (iblk m c 1 t) (cutAt f t.val) := fun r l => by
  have ht : t.val < 8 := t.isLt
  refine Eq.trans ?_ (h ⟨2048 * (t.val / 4) + r.val, by omega⟩ ⟨128 * (t.val % 4) + l.val, by omega⟩)
  blk_ext [iblk, idx t]
  · exact row_at r l _ _
  · exact col_at r l _ _

theorem blk_v {f : ℕ → ℕ → ℝ} (h : IsR (n := 4096) (w := 512) (φ := .bf16) (V m c main_v4) f) : IsR (n := 2048) (w := 128) (φ := .bf16) (iblk m c 2 t) (cutAt f t.val) := fun r l => by
  have ht : t.val < 8 := t.isLt
  refine Eq.trans ?_ (h ⟨2048 * (t.val / 4) + r.val, by omega⟩ ⟨128 * (t.val % 4) + l.val, by omega⟩)
  blk_ext [iblk, idx t]
  · exact row_at r l _ _
  · exact col_at r l _ _

theorem blk_total {f : ℕ → ℕ → ℝ} (h : IsR (n := 4096) (w := 512) (φ := .f32) (V m c main_v27) f) : IsR (n := 2048) (w := 128) (φ := .f32) (iblk m c 3 t) (cutAt f t.val) := fun r l => by
  have ht : t.val < 8 := t.isLt
  refine Eq.trans ?_ (h ⟨2048 * (t.val / 4) + r.val, by omega⟩ ⟨128 * (t.val % 4) + l.val, by omega⟩)
  blk_ext [iblk, idx t]
  · exact row_at r l _ _
  · exact col_at r l _ _

theorem blk_w {f : ℕ → ℕ → ℝ} (h : IsR (n := 4096) (w := 512) (φ := .f32) (V m c main_arg3) f) : IsR (n := 2048) (w := 128) (φ := .f32) (iblk m c 4 t) (cutAt f t.val) := fun r l => by
  have ht : t.val < 8 := t.isLt
  refine Eq.trans ?_ (h ⟨2048 * (t.val / 4) + r.val, by omega⟩ ⟨128 * (t.val % 4) + l.val, by omega⟩)
  blk_ext [iblk, idx t]
  · exact row_at r l _ _
  · exact col_at r l _ _

theorem hd_eq (h : ℕ) : hd (cutAt (fun r l => Q r l * (1 / 8)) t.val) (cutAt K t.val) (cutAt V' t.val) (cutAt W t.val) h = Ref.head Q K V' W (t.val / 4) (2 * (t.val % 4) + h) := by
  have e (a j : ℕ) : 128 * a + (64 * h + j) = (2 * a + h) * 64 + j := by ring
  unfold hd Ref.head cutAt
  simp only [e, Nat.mul_comm 2048]

/-- What the call reads at point `t`. -/
theorem blks (A : Args m c Q K V' W) : Blk (iblk m c 0 t) (iblk m c 1 t) (iblk m c 2 t) (iblk m c 3 t) (iblk m c 4 t)
    (cutAt (fun r l => Q r l * (1 / 8)) t.val) (cutAt K t.val) (cutAt V' t.val)
    (cutAt (fun r l => (Ref.head Q K V' W (r / 2048) (l / 64)).cum 2048 (r % 2048)) t.val) (cutAt W t.val) where
  q := blk_q t (arr_q A)
  k := blk_k t (arr_k A)
  v := blk_v t (arr_v A)
  call := blk_total t (arr_total A)
  w := blk_w t (arr_w A)
  total h r hh hr := by
    rw [hd_eq]
    dsimp only [cutAt]
    rw [show (2048 * (t.val / 4) + r) / 2048 = t.val / 4 by omega, show (2048 * (t.val / 4) + r) % 2048 = r by omega,
      show (128 * (t.val % 4) + 64 * h) / 64 = 2 * (t.val % 4) + h by omega]

/-! ## The results -/

/-- An array that holds, at every head, `f` of the head. -/
def whole (Q K V' W : ℕ → ℕ → ℝ) (f : Head → ℕ → ℕ → ℝ) : ℕ → ℕ → ℝ := fun r l => f (Ref.head Q K V' W (r / 2048) (l / 64)) (r % 2048) (l % 64)

theorem whole_at (f : Head → ℕ → ℕ → ℝ) (r l : ℕ) (hr : r < 2048) (hl : l < 128) :
    f (hd (cutAt (fun r l => Q r l * (1 / 8)) t.val) (cutAt K t.val) (cutAt V' t.val) (cutAt W t.val) (l / 64)) r (l % 64)
      = cutAt (whole Q K V' W f) t.val r l := by
  rw [hd_eq]
  dsimp only [cutAt, whole]
  rw [show (2048 * (t.val / 4) + r) / 2048 = t.val / 4 by omega, show (2048 * (t.val / 4) + r) % 2048 = r by omega,
    show (128 * (t.val % 4) + l) / 64 = 2 * (t.val % 4) + l / 64 by omega, show (128 * (t.val % 4) + l) % 64 = l % 64 by omega]

theorem at_dq (A : Args m c Q K V' W) : IsR (n := 2048) (w := 128) (φ := .f32) (dqAt m c t) (cutAt (whole Q K V' W (fun H => H.dq 2048)) t.val) := by
  have H := listDq c (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4))
    (win0_6.stage (cfg0.slots t 6)) (win0_7.stage (cfg0.slots t 7)) (blks t A) (grid0.coords t) (Memref.whole main_v28) (Memref.isWhole_whole _) (win0_5.stage (cfg0.slots t 5)) (hstage0_5 ((cfg0.slots t 5).cast nbuf0_5)) (hstage0_6 ((cfg0.slots t 6).cast nbuf0_6)) (hstage0_7 ((cfg0.slots t 7).cast nbuf0_7))
  unfold dqAt outDq
  rw [View.read_writes_junk_eq_canon]
  exact H.congr fun r l hr hl => whole_at t (fun H => H.dq 2048) r l hr hl

theorem at_dk (A : Args m c Q K V' W) : IsR (n := 2048) (w := 128) (φ := .f32) (dkAt m c t) (cutAt (whole Q K V' W Head.dk) t.val) := by
  have H := listDk c (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4))
    (win0_6.stage (cfg0.slots t 6)) (win0_7.stage (cfg0.slots t 7)) (blks t A) (grid0.coords t) (Memref.whole main_v28) (Memref.isWhole_whole _) (win0_5.stage (cfg0.slots t 5)) (hstage0_5 ((cfg0.slots t 5).cast nbuf0_5)) (hstage0_6 ((cfg0.slots t 6).cast nbuf0_6)) (hstage0_7 ((cfg0.slots t 7).cast nbuf0_7))
  unfold dkAt outDk
  rw [View.read_writes_junk_eq_canon]
  exact H.congr fun r l hr hl => whole_at t Head.dk r l hr hl

theorem at_dv (A : Args m c Q K V' W) : IsR (n := 2048) (w := 128) (φ := .f32) (dvAt m c t) (cutAt (whole Q K V' W Head.dv) t.val) := by
  have H := listDv c (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4))
    (win0_6.stage (cfg0.slots t 6)) (win0_7.stage (cfg0.slots t 7)) (blks t A) (grid0.coords t) (Memref.whole main_v28) (Memref.isWhole_whole _) (win0_5.stage (cfg0.slots t 5)) (hstage0_5 ((cfg0.slots t 5).cast nbuf0_5)) (hstage0_6 ((cfg0.slots t 6).cast nbuf0_6)) (hstage0_7 ((cfg0.slots t 7).cast nbuf0_7))
  unfold dvAt outDv
  rw [View.read_writes_junk_eq_canon]
  exact H.congr fun r l hr hl => whole_at t Head.dv r l hr hl

theorem at_point {t : ℕ} {x : Vec Ideal S2048x128 .f32} {f : ℕ → ℕ → ℝ} (h : IsR (n := 2048) (w := 128) (φ := .f32) x (cutAt f t)) {k : Fin 2 → ℕ} (e : k = ![t / 4, t % 4])
    (y : S2048x128.Idx) : x y = ((f (k 0 * 2048 + (y 0).val) (k 1 * 128 + (y 1).val) : ℝ) : EReal) := by
  subst e
  rw [show (![t / 4, t % 4] : Fin 2 → ℕ) 0 * 2048 = 2048 * (t / 4) from Nat.mul_comm _ _, show (![t / 4, t % 4] : Fin 2 → ℕ) 1 * 128 = 128 * (t % 4) from Nat.mul_comm _ _]
  exact (congrArg x (by funext a; fin_cases a <;> rfl)).trans (h (y 0) (y 1))

theorem res_dq (A : Args m c Q K V' W) : IsR (n := 4096) (w := 512) (φ := .f32) ((dats m 0 c).arrAt 5 cfg0.N) (whole Q K V' W (fun H => H.dq 2048)) := by
  have E : (dats m 0 c).arrAt 5 cfg0.N = fun i : S4096x512.Idx => ((whole Q K V' W (fun H => H.dq 2048) (i 0).val (i 1).val : ℝ) : EReal) := by
    refine (dats m 0 c).arrAt_eq_of_covers 5 _ (by decide +kernel) fun t hf y => ?_
    blk_simp
    rw [after_5]
    exact at_point (at_dq t A) (idx t).2.2.2.2.2.1 y
  rw [E]
  exact fun r l => rfl

theorem res_dk (A : Args m c Q K V' W) : IsR (n := 4096) (w := 512) (φ := .f32) ((dats m 0 c).arrAt 6 cfg0.N) (whole Q K V' W Head.dk) := by
  have E : (dats m 0 c).arrAt 6 cfg0.N = fun i : S4096x512.Idx => ((whole Q K V' W Head.dk (i 0).val (i 1).val : ℝ) : EReal) := by
    refine (dats m 0 c).arrAt_eq_of_covers 6 _ (by decide +kernel) fun t hf y => ?_
    blk_simp
    rw [after_6]
    exact at_point (at_dk t A) (idx t).2.2.2.2.2.2.1 y
  rw [E]
  exact fun r l => rfl

theorem res_dv (A : Args m c Q K V' W) : IsR (n := 4096) (w := 512) (φ := .f32) ((dats m 0 c).arrAt 7 cfg0.N) (whole Q K V' W Head.dv) := by
  have E : (dats m 0 c).arrAt 7 cfg0.N = fun i : S4096x512.Idx => ((whole Q K V' W Head.dv (i 0).val (i 1).val : ℝ) : EReal) := by
    refine (dats m 0 c).arrAt_eq_of_covers 7 _ (by decide +kernel) fun t hf y => ?_
    blk_simp
    rw [after_7]
    exact at_point (at_dv t A) (idx t).2.2.2.2.2.2.2 y
  rw [E]
  exact fun r l => rfl

/-- The last host lines scale the first result. -/
theorem tail_eq (σ : Valuation τ sig (Elt Ideal)) : StableHlo.after (τ := τ) (sig := sig) (Val := Elt Ideal) [hostOps1].flatten σ (Proc.devRef .tc main_v31)
    = mulf (F := Ideal) (φ := .f32) (s := S4096x512) (σ (Proc.devRef .tc main_v29_0)) (broadcastInDim S4096x512 ![] bcast_S_S4096x512 (constant (F := Ideal) S_ .f32 0x3E000000#32)) := by
  show StableHlo.after (τ := τ) (sig := sig) (Val := Elt Ideal) hostOps1 σ (Proc.devRef .tc main_v31) = _
  entry_read
  rfl

/-- The scaled gradient of the queries that the last host line leaves. -/
theorem res_scaled (A : Args m c Q K V' W) :
    IsR (n := 4096) (w := 512) (φ := .f32) (Pipeline.afterTail₀ cfgs (dats m) 0 (V0 m) [hostOps1] c main_v31) fun r l => whole Q K V' W (fun H => H.dq 2048) r l * (1 / 8) := fun r l => by
  unfold Pipeline.afterTail₀
  rw [tail_eq]
  have E : Ideal.ofBits .f32 0x3E000000#32 = ((1 / 8 : ℝ) : EReal) := Four.eighth_f32
  have H := res_dq A r l
  rw [← Pipeline.withArrays_arr (cfgs 0).spec launch0.win.arr_inj c (V0 m c) (fun w => (dats m 0 c).arrAt w (cfgs 0).N) 5] at H
  exact (congrArg₂ (fun a b : EReal => a * b) H E).trans (EReal.coe_mul _ _).symm

end Cert.Proof.Bwd

end
-- ==== Proof.Finite.lean ====
/- What the claims' precondition says of an argument: its elements are real numbers. -/
module

public import proofs.«01_k».proof.Proof.Rows
public import Idealize.ShloMosaic.Lib.ReduceAll

@[expose] public section

noncomputable section

namespace Cert.Proof.Finite

open Idealize.ShloMosaic Cert.Proof.Rows

/-- An extended real whose absolute value is below infinity is a real number. -/
theorem real_of_abs_lt {x : EReal} (h : max x (-x) < ⊤) : ∃ r : ℝ, x = (r : EReal) := by
  induction x using EReal.rec with
  | bot => simp at h
  | coe r => exact ⟨r, rfl⟩
  | top => simp at h

/-- An array all of whose elements are below infinity in absolute value, read by natural-number coordinates. -/
theorem isR_of_all {n w : ℕ} {z : Shape} {x : FVec Ideal ⟨2, ![n, w]⟩ .f32} {B : FVec Ideal ⟨2, ![n, w]⟩ .f32} (hB : ∀ i, B i = ⊤) {axes} {t : Shape} [Subsingleton t.Idx]
    {init : IVec z 1} (hr : Shape.ReducesTo ⟨2, ![n, w]⟩ axes t) (hu : 0 < z.numel) (j : t.Idx)
    (h : Host.reduce IntOp.andi (cmpf .olt (Host.absf x) B) init hr hu j = 1#1) : ∃ f : ℕ → ℕ → ℝ, IsR x f := by
  have H : ∀ i, ∃ r : ℝ, x i = (r : EReal) := fun i => by
    have E := Host.reduce_andi_all _ _ _ _ _ h i
    have E' : BitVec.ofBool (decide (max (x i) (-(x i)) < B i)) = 1#1 := E
    rw [hB] at E'
    by_cases L : max (x i) (-(x i)) < ⊤
    · exact real_of_abs_lt L
    · simp [L] at E'
  choose g hg using H
  exact ⟨fun r l => if k : r < n ∧ l < w then g (ValueIdx.ix2 ⟨r, k.1⟩ ⟨l, k.2⟩) else 0, fun r l => by
    beta_reduce
    rw [dif_pos ⟨r.isLt, l.isLt⟩]; exact hg _⟩

/-- Two arrays of the same real numbers are equal. -/
theorem ext {n w : ℕ} {x y : FVec Ideal ⟨2, ![n, w]⟩ .f32} {f : ℕ → ℕ → ℝ} (h : IsR x f) (k : IsR y f) : x = y := funext fun i =>
  (congrArg x (ValueIdx.eq_ix2 i)).trans (((h (i 0) (i 1)).trans (k (i 0) (i 1)).symm).trans (congrArg y (ValueIdx.eq_ix2 i)).symm)

/-- A conjunction of two words is one only when both are. -/
theorem both {s : Shape} {x y : IVec s 1} {i : s.Idx} (h : andi x y i = 1#1) : x i = 1#1 ∧ y i = 1#1 := by
  have H : IntOp.andi (x i) (y i) = 1#1 := h
  generalize x i = a at *
  generalize y i = b at *
  revert a b
  decide

end Cert.Proof.Finite

end
-- ==== Proof.BwdClaim.lean ====
/- The backward call's claim: at exact real arithmetic the call's three results are the reference's gradients. -/
module

public import proofs.«01_k».proof.Defs
public import proofs.«01_k».proof.Proof.Gen.Pre_finite
public import proofs.«01_k».proof.Proof.BwdValue
public import proofs.«01_k».proof.Proof.Finite

@[expose] public section

set_option maxRecDepth 16384

noncomputable section

namespace Cert.Proof.Bwd

open Cert.KernelIdeal Cert.KernelIdeal.Gen
open Idealize.ShloMosaic Idealize.ShloMosaic.TcCoe Idealize.SL.Sem Cert.Proof.Rows Cert.Proof.Break Cert.Proof.Finite

variable (m : (ℓ : Loc nD τ sig) → Buf (Elt Ideal) ℓ) (ρ : Dev nD → PrngReg) (c : Dev nD)

instance : Subsingleton Cert.Pre_finite.S_.Idx := ⟨fun a b => funext fun i => i.elim0⟩

/-- Under the precondition the four arguments hold real numbers. -/
theorem args_of_pre (h : Cert.Pre_KernelIdeal_finite m) : ∃ Q K V' W, Args m c Q K V' W := by
  have H := congrFun (h c) (fun i => i.elim0)
  unfold Cert.Pre_finite.fn Cert.Pre_finite.fn_part1 at H
  dsimp only at H
  obtain ⟨H, h3⟩ := both H
  obtain ⟨H, h2⟩ := both H
  obtain ⟨h0, h1⟩ := both H
  obtain ⟨Q, hQ⟩ := isR_of_all (fun _ => Four.top_f32) _ _ _ h0
  obtain ⟨K, hK⟩ := isR_of_all (fun _ => Four.top_f32) _ _ _ h1
  obtain ⟨V', hV⟩ := isR_of_all (fun _ => Four.top_f32) _ _ _ h2
  obtain ⟨W, hW⟩ := isR_of_all (fun _ => Four.top_f32) _ _ _ h3
  exact ⟨Q, K, V', W, hQ, hK, hV, hW⟩

/-- The reference's three gradients of the arguments. -/
abbrev gradQ : FVec Ideal S4096x512 .f32 := Ref.refDq (m ((c.tc : Thread nD τ).loc main_arg0)) (m ((c.tc : Thread nD τ).loc main_arg1)) (m ((c.tc : Thread nD τ).loc main_arg2)) (m ((c.tc : Thread nD τ).loc main_arg3))
abbrev gradK : FVec Ideal S4096x512 .f32 := Ref.refDk (m ((c.tc : Thread nD τ).loc main_arg0)) (m ((c.tc : Thread nD τ).loc main_arg1)) (m ((c.tc : Thread nD τ).loc main_arg2)) (m ((c.tc : Thread nD τ).loc main_arg3))
abbrev gradV : FVec Ideal S4096x512 .f32 := Ref.refDv (m ((c.tc : Thread nD τ).loc main_arg0)) (m ((c.tc : Thread nD τ).loc main_arg1)) (m ((c.tc : Thread nD τ).loc main_arg3))

/-- Every execution of the call leaves the three gradients in its results, and its arguments as they were. -/
theorem run_value (h : Cert.Pre_KernelIdeal_finite m) : θ_run defs (onTc (τ := τ) (main (F := Ideal))) ⟨m, fun _ => 0, ρ⟩ (fun r => ∀ c : Dev nD,
      r.2.mem ((c.tc : Thread nD τ).loc main_v31) = gradQ m c
      ∧ r.2.mem ((c.tc : Thread nD τ).loc main_v29_1) = gradK m c
      ∧ r.2.mem ((c.tc : Thread nD τ).loc main_v29_2) = gradV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h' c => by
    obtain ⟨Q, K, V', W, A⟩ := args_of_pre m c h
    refine ⟨?_, ?_, ?_, h'.2.1 c⟩
    · refine ((h'.1 c).2 main_v31 (Pipeline.mem_restRefs_of main_v31 (by decide) (by decide))).trans ?_
      exact Finite.ext (res_scaled A) (Ref.isR_refDq A.q A.k A.v A.w)
    · exact ((h'.1 c).1 6).trans (Finite.ext (res_dk A) (Ref.isR_refDk A.q A.k A.v A.w))
    · exact ((h'.1 c).1 7).trans (Finite.ext (res_dv A) (Ref.isR_refDv A.q A.k A.w)))
    (θ_run_and (run_main m ρ) (frame_main m ρ))

/-- The claim. -/
theorem algebraic : Cert.algebraic_KernelIdeal_ReferenceIdeal_pre_finite := fun m g m' g' h e => by
  refine ⟨gradQ m, gradK m, gradV m, run_value m g h, ?_⟩
  refine (θ_run Cert.ReferenceIdeal.defs _ _).mono (fun r k c => ?_) (Cert.ReferenceIdeal.Value.run m' g')
  obtain ⟨e0, e1, e2, e3⟩ := e c
  refine ⟨(k c).1.trans ?_, (k c).2.1.trans ?_, (k c).2.2.1.trans ?_, (k c).2.2.2⟩
  · refine (Ref.out0_eq m' c).trans ?_
    rw [e0, e1, e2, e3]
  · refine (Ref.out1_eq m' c).trans ?_
    rw [e0, e1, e2, e3]
  · refine (Ref.out2_eq m' c).trans ?_
    rw [e0, e1, e3]

end Cert.Proof.Bwd

end
-- ==== Proof.MlpIn.lean ====
/- The call of the first product: at exact real arithmetic its result is the reference's. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Proof.MlpIn

open Idealize.ShloMosaic Idealize.ShloMosaic.TcCoe Idealize.SL.Sem

section Reference

open Cert.Reference3Ideal Cert.Reference3Ideal.Gen

/-- What the reference computes of the arguments: relu of the product. -/
def whole (x : FVec Ideal S4096x1024 .f32) (w : FVec Ideal S1024x4096 .f32) : FVec Ideal S4096x4096 .bf16 :=
  truncf .bf16 (maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))) bitsLt_bf16_f32

theorem whole_at (x : FVec Ideal S4096x1024 .f32) (w : FVec Ideal S1024x4096 .f32) (i : S4096x4096.Idx) :
    whole x w i = (max (∑ k : Fin 1024, x (ix2 (i 0) k) * w (ix2 k (i 1))) 0 : EReal) := by
  pointwise [whole]

end Reference

open Cert.Kernel3Ideal Cert.Kernel3Ideal.Gen

/-- What the call leaves in a block. -/
theorem block_at (x w : FVec Ideal S1024x1024 .bf16) (y : S1024x1024.Idx) :
    out0_2 (F := Ideal) x w y = (max (∑ k : Fin 1024, x (ix2 (y 0) k) * w (ix2 k (y 1))) 0 : EReal) := by
  unfold out0_2
  rw [View.canon_unit_zero (by decide)]
  pointwise [k0_pay1]

/-- Every window's block index: the row block and the column block. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v2) :=
  whole (m ((c.tc : Thread nD τ).loc main_arg0)) (m ((c.tc : Thread nD τ).loc main_arg1))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at]
  blk_point [iblk, V, idx t]

/-- The claim. -/
theorem algebraic : Cert.algebraic_Kernel3Ideal_Reference3Ideal := fun m g m' g' _ e => by
  refine ⟨fun c => out m c, (θ_run defs _ _).mono (fun r h c => ⟨((h c).1).trans (out_eq m c), (h c).2⟩) (Cert.Kernel3Ideal.Value.run_blocks m g), ?_⟩
  refine (θ_run Cert.Reference3Ideal.defs _ _).mono (fun r k c => ?_) (Cert.Reference3Ideal.Value.run m' g')
  obtain ⟨e0, e1⟩ := e c
  refine ⟨((k c).1).trans ?_, (k c).2⟩
  · unfold out
    rw [e0, e1]
    rfl

end Cert.Proof.MlpIn

end
-- ==== Proof.MlpOutW.lean ====
/- The call of the second product's weight gradient: at exact real arithmetic its result is the reference's. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Proof.MlpOutW

open Idealize.ShloMosaic Idealize.ShloMosaic.TcCoe Idealize.SL.Sem

section Reference

open Cert.Reference4Ideal Cert.Reference4Ideal.Gen

/-- What the forward call saves: relu of the product. -/
def root (x : FVec Ideal S4096x1024 .f32) (w : FVec Ideal S1024x4096 .f32) : FVec Ideal S4096x4096 .f32 :=
  maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))

/-- What the reference computes of the arguments: the gradient of the second weight. -/
def whole (x : FVec Ideal S4096x1024 .f32) (w : FVec Ideal S1024x4096 .f32) (d : FVec Ideal S4096x1024 .f32) : FVec Ideal S4096x1024 .f32 :=
  transpose S4096x1024 [1, 0] (Host.dotGeneral (φ₁ := .f32) (φ₂ := .f32) dot_S4096x1024_S4096x4096_S1024x4096_0_0_1_1_n_n none d (mulf (root x w) (root x w))) transposes_S1024x4096_S4096x1024_1_0

theorem whole_at (x : FVec Ideal S4096x1024 .f32) (w : FVec Ideal S1024x4096 .f32) (d : FVec Ideal S4096x1024 .f32) (i : S4096x1024.Idx) :
    whole x w d i = (∑ k : Fin 4096, root x w (ix2 k (i 0)) * root x w (ix2 k (i 0)) * d (ix2 k (i 1)) : EReal) := by
  pointwise [whole]
  exact Finset.sum_congr rfl fun k _ => mul_comm _ _

end Reference

open Cert.Kernel4Ideal Cert.Kernel4Ideal.Gen

/-- What the call leaves in a block. -/
theorem block_at (x : FVec Ideal S4096x512 .bf16) (d : FVec Ideal S4096x1024 .bf16) (y : S512x1024.Idx) :
    out0_2 (F := Ideal) x d y = (∑ k : Fin 4096, x (ix2 k (y 0)) * x (ix2 k (y 0)) * d (ix2 k (y 1)) : EReal) := by
  unfold out0_2
  rw [View.canon_unit_zero (by decide)]
  pointwise [k0_pay1]

/-- Every window's block index. -/
theorem idx : ∀ t : Fin cfg0.N, win0_0.index t = ![0, t.val] ∧ win0_1.index t = ![0, 0] ∧ win0_2.index t = ![t.val, 0] :=
  (by decide +kernel : ∀ t : Fin grid0.N, _)

/-- The host lines' saved value. -/
theorem arr_root (m : (ℓ : Loc nD τ sig) → Buf (Elt Ideal) ℓ) (c : Dev nD) : V m c main_v2 = root (m ((c.tc : Thread nD τ).loc main_arg0)) (m ((c.tc : Thread nD τ).loc main_arg1)) := by
  entry_read
  rfl

/-- The reference's result of the launch's arguments. -/
def out (m : (ℓ : Loc nD τ sig) → Buf (Elt Ideal) ℓ) (c : Dev nD) : Buf (Elt Ideal) ((c.tc : Thread nD τ).loc main_v4) := whole (m ((c.tc : Thread nD τ).loc main_arg0)) (m ((c.tc : Thread nD τ).loc main_arg1)) (m ((c.tc : Thread nD τ).loc main_arg3))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at, ← arr_root]
  blk_point [iblk, idx t]

/-- The claim. -/
theorem algebraic : Cert.algebraic_Kernel4Ideal_Reference4Ideal := fun m g m' g' _ e => by
  refine ⟨fun c => out m c, (θ_run defs _ _).mono (fun r h c => ⟨((h c).1).trans (out_eq m c), (h c).2⟩) (Cert.Kernel4Ideal.Value.run_blocks m g), ?_⟩
  refine (θ_run Cert.Reference4Ideal.defs _ _).mono (fun r k c => ?_) (Cert.Reference4Ideal.Value.run m' g')
  obtain ⟨e0, e1, e2, e3⟩ := e c
  refine ⟨((k c).1).trans ?_, (k c).2⟩
  · unfold out
    rw [e0, e1, e3]
    rfl

end Cert.Proof.MlpOutW

end
-- ==== Proof.MlpAct.lean ====
/- The call of the activation's gradient: at exact real arithmetic its result is the reference's. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Proof.MlpAct

open Idealize.ShloMosaic Idealize.ShloMosaic.TcCoe Idealize.SL.Sem

section Reference

open Cert.Reference5Ideal Cert.Reference5Ideal.Gen

/-- What the forward call saves: relu of the product. -/
def root (x : FVec Ideal S4096x1024 .f32) (w : FVec Ideal S1024x4096 .f32) : FVec Ideal S4096x4096 .f32 :=
  maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))

/-- The gradient at the first product's output. -/
def gate (x : FVec Ideal S4096x1024 .f32) (w : FVec Ideal S1024x4096 .f32) (w' : FVec Ideal S4096x1024 .f32) (d : FVec Ideal S4096x1024 .f32) : FVec Ideal S4096x4096 .f32 :=
  select (cmpf .ogt (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32)))
    (mulf (Host.dotGeneral (φ₁ := .f32) (φ₂ := .f32) dot_S4096x1024_S4096x1024_S4096x4096_1_1_0_0_n_n none d w') (mulf (broadcastInDim S4096x4096 ![] bcast_S_S4096x4096 (constant (F := Ideal) S_ .f32 0x40000000#32)) (root x w)))
    (broadcastInDim S4096x4096 ![] bcast_S_S4096x4096 (constant (F := Ideal) S_ .f32 0x00000000#32))

/-- What the reference computes of the arguments. -/
def whole (x : FVec Ideal S4096x1024 .f32) (w : FVec Ideal S1024x4096 .f32) (w' : FVec Ideal S4096x1024 .f32) (d : FVec Ideal S4096x1024 .f32) : FVec Ideal S4096x4096 .bf16 :=
  truncf .bf16 (gate x w w' d) bitsLt_bf16_f32

/-- Where relu is zero the factor is zero, so the select may be left out. -/
theorem whole_at (x : FVec Ideal S4096x1024 .f32) (w : FVec Ideal S1024x4096 .f32) (w' : FVec Ideal S4096x1024 .f32) (d : FVec Ideal S4096x1024 .f32) (i : S4096x4096.Idx) :
    whole x w w' d i = ((∑ k : Fin 1024, d (ix2 (i 0) k) * w' (ix2 (i 1) k)) * (Ideal.ofBits .f32 0x40000000#32 * root x w i) : EReal) := by
  pointwise [whole, gate, root]
  split_ifs with h
  · rfl
  · rw [max_eq_right (not_lt.mp h), mul_zero, mul_zero]

end Reference

open Cert.Kernel5Ideal Cert.Kernel5Ideal.Gen

/-- What the call leaves in a block. -/
theorem block_at (d w' r : FVec Ideal S1024x1024 .bf16) (y : S1024x1024.Idx) :
    out0_3 (F := Ideal) d w' r y = ((∑ k : Fin 1024, d (ix2 (y 0) k) * w' (ix2 (y 1) k)) * (Ideal.ofBits .f32 0x40000000#32 * r y) : EReal) := by
  unfold out0_3
  rw [View.canon_unit_zero (by decide)]
  pointwise [k0_pay1]

/-- Every window's block index. -/
theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- The host lines' saved value. -/
theorem arr_root (m : (ℓ : Loc nD τ sig) → Buf (Elt Ideal) ℓ) (c : Dev nD) : V m c main_v2 = root (m ((c.tc : Thread nD τ).loc main_arg0)) (m ((c.tc : Thread nD τ).loc main_arg1)) := by
  entry_read
  rfl

/-- The reference's result of the launch's arguments. -/
def out (m : (ℓ : Loc nD τ sig) → Buf (Elt Ideal) ℓ) (c : Dev nD) : Buf (Elt Ideal) ((c.tc : Thread nD τ).loc main_v5) := whole (m ((c.tc : Thread nD τ).loc main_arg0)) (m ((c.tc : Thread nD τ).loc main_arg1)) (m ((c.tc : Thread nD τ).loc main_arg2)) (m ((c.tc : Thread nD τ).loc main_arg3))

/-- The blocks cover the result, and each is the reference's. -/
theorem out_eq (m : (ℓ : Loc nD τ sig) → Buf (Elt Ideal) ℓ) (c : Dev nD) : (dats m 0 c).arrAt 3 cfg0.N = out m c := by
  refine (dats m 0 c).arrAt_eq_of_covers 3 _ (by decide +kernel) fun t hf y => ?_
  blk_simp
  unfold out
  rw [after0_3, block_at, whole_at, ← arr_root]
  blk_point [iblk, idx t]

/-- The claim. -/
theorem algebraic : Cert.algebraic_Kernel5Ideal_Reference5Ideal := fun m g m' g' _ e => by
  refine ⟨fun c => out m c, (θ_run defs _ _).mono (fun r h c => ⟨((h c).1).trans (out_eq m c), (h c).2⟩) (Cert.Kernel5Ideal.Value.run_blocks m g), ?_⟩
  refine (θ_run Cert.Reference5Ideal.defs _ _).mono (fun r k c => ?_) (Cert.Reference5Ideal.Value.run m' g')
  obtain ⟨e0, e1, e2, e3⟩ := e c
  refine ⟨((k c).1).trans ?_, (k c).2⟩
  · unfold out
    rw [e0, e1, e2, e3]
    rfl

end Cert.Proof.MlpAct

end
-- ==== Proof.MlpInW.lean ====
/- The call of the first product's weight gradient: at exact real arithmetic its result is the reference's. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Proof.MlpInW

open Idealize.ShloMosaic Idealize.ShloMosaic.TcCoe Idealize.SL.Sem

section Reference

open Cert.Reference6Ideal Cert.Reference6Ideal.Gen

/-- What the forward call saves: relu of the product. -/
def root (x : FVec Ideal S4096x1024 .f32) (w : FVec Ideal S1024x4096 .f32) : FVec Ideal S4096x4096 .f32 :=
  maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))

/-- The gradient at the first product's output. -/
def gate (x : FVec Ideal S4096x1024 .f32) (w : FVec Ideal S1024x4096 .f32) (w' : FVec Ideal S4096x1024 .f32) (d : FVec Ideal S4096x1024 .f32) : FVec Ideal S4096x4096 .f32 :=
  select (cmpf .ogt (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32)))
    (mulf (Host.dotGeneral (φ₁ := .f32) (φ₂ := .f32) dot_S4096x1024_S4096x1024_S4096x4096_1_1_0_0_n_n none d w') (mulf (broadcastInDim S4096x4096 ![] bcast_S_S4096x4096 (constant (F := Ideal) S_ .f32 0x40000000#32)) (root x w)))
    (broadcastInDim S4096x4096 ![] bcast_S_S4096x4096 (constant (F := Ideal) S_ .f32 0x00000000#32))

/-- What the reference computes of the arguments: the gradient of the first weight. -/
def whole (x : FVec Ideal S4096x1024 .f32) (w : FVec Ideal S1024x4096 .f32) (w' : FVec Ideal S4096x1024 .f32) (d : FVec Ideal S4096x1024 .f32) : FVec Ideal S1024x4096 .f32 :=
  transpose S1024x4096 [1, 0] (Host.dotGeneral (φ₁ := .f32) (φ₂ := .f32) dot_S4096x4096_S4096x1024_S4096x1024_0_0_1_1_n_n none (gate x w w' d) x) transposes_S4096x1024_S1024x4096_1_0

theorem whole_at (x : FVec Ideal S4096x1024 .f32) (w : FVec Ideal S1024x4096 .f32) (w' : FVec Ideal S4096x1024 .f32) (d : FVec Ideal S4096x1024 .f32) (i : S1024x4096.Idx) :
    whole x w w' d i = (∑ k : Fin 4096, x (ix2 k (i 0)) * gate x w w' d (ix2 k (i 1)) : EReal) := by
  pointwise [whole]
  exact Finset.sum_congr rfl fun k _ => mul_comm _ _

end Reference

open Cert.Kernel6Ideal Cert.Kernel6Ideal.Gen

/-- What the call leaves in a block. -/
theorem block_at (x : FVec Ideal S4096x1024 .bf16) (d : FVec Ideal S4096x512 .bf16) (y : S1024x512.Idx) :
    out0_2 (F := Ideal) x d y = (∑ k : Fin 4096, x (ix2 k (y 0)) * d (ix2 k (y 1)) : EReal) := by
  unfold out0_2
  rw [View.canon_unit_zero (by decide)]
  pointwise [k0_pay1]

/-- Every window's block index. -/
theorem idx : ∀ t : Fin cfg0.N, win0_0.index t = ![0, 0] ∧ win0_1.index t = ![0, t.val] ∧ win0_2.index t = ![0, t.val] :=
  (by decide +kernel : ∀ t : Fin grid0.N, _)

/-- The gradient that the host lines leave for the call. -/
theorem arr_gate (m : (ℓ : Loc nD τ sig) → Buf (Elt Ideal) ℓ) (c : Dev nD) : V m c main_v13 = gate (m ((c.tc : Thread nD τ).loc main_arg0)) (m ((c.tc : Thread nD τ).loc main_arg1)) (m ((c.tc : Thread nD τ).loc main_arg2)) (m ((c.tc : Thread nD τ).loc main_arg3)) := by
  entry_read
  rfl

/-- The reference's result of the launch's arguments. -/
def out (m : (ℓ : Loc nD τ sig) → Buf (Elt Ideal) ℓ) (c : Dev nD) : Buf (Elt Ideal) ((c.tc : Thread nD τ).loc main_v15) := whole (m ((c.tc : Thread nD τ).loc main_arg0)) (m ((c.tc : Thread nD τ).loc main_arg1)) (m ((c.tc : Thread nD τ).loc main_arg2)) (m ((c.tc : Thread nD τ).loc main_arg3))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at, ← arr_gate]
  blk_point [iblk, idx t]

/-- The claim. -/
theorem algebraic : Cert.algebraic_Kernel6Ideal_Reference6Ideal := fun m g m' g' _ e => by
  refine ⟨fun c => out m c, (θ_run defs _ _).mono (fun r h c => ⟨((h c).1).trans (out_eq m c), (h c).2⟩) (Cert.Kernel6Ideal.Value.run_blocks m g), ?_⟩
  refine (θ_run Cert.Reference6Ideal.defs _ _).mono (fun r k c => ?_) (Cert.Reference6Ideal.Value.run m' g')
  obtain ⟨e0, e1, e2, e3⟩ := e c
  refine ⟨((k c).1).trans ?_, (k c).2⟩
  · unfold out
    rw [e0, e1, e2, e3]
    rfl

end Cert.Proof.MlpInW

end
-- ==== Proof.ProjIn.lean ====
/- The call of the input projection's weight gradient: at exact real arithmetic its result is the reference's. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.Proof.ProjIn

open Idealize.ShloMosaic Idealize.ShloMosaic.TcCoe Idealize.SL.Sem

section Reference

open Cert.Reference7Ideal Cert.Reference7Ideal.Gen

/-- What the reference computes of the arguments: the product's gradient in its right factor. -/
def whole (x : FVec Ideal S4096x1024 .f32) (d : FVec Ideal S4096x2048 .f32) : FVec Ideal S1024x2048 .f32 :=
  transpose S1024x2048 [1, 0] (Host.dotGeneral (φ₁ := .f32) (φ₂ := .f32) dot_S4096x2048_S4096x1024_S2048x1024_0_0_1_1_n_n none d x) transposes_S2048x1024_S1024x2048_1_0

theorem whole_at (x : FVec Ideal S4096x1024 .f32) (d : FVec Ideal S4096x2048 .f32) (i : S1024x2048.Idx) :
    whole x d i = (∑ k : Fin 4096, x (ix2 k (i 0)) * d (ix2 k (i 1)) : EReal) := by
  pointwise [whole]
  exact Finset.sum_congr rfl fun k _ => mul_comm _ _

end Reference

open Cert.Kernel7Ideal Cert.Kernel7Ideal.Gen

/-- What the call leaves in a block. -/
theorem block_at (x : FVec Ideal S4096x1024 .bf16) (d : FVec Ideal S4096x512 .bf16) (y : S1024x512.Idx) :
    out0_2 (F := Ideal) x d y = (∑ k : Fin 4096, x (ix2 k (y 0)) * d (ix2 k (y 1)) : EReal) := by
  unfold out0_2
  rw [View.canon_unit_zero (by decide)]
  pointwise [k0_pay1]

/-- Every window's block index. -/
theorem idx : ∀ t : Fin cfg0.N, win0_0.index t = ![0, 0] ∧ win0_1.index t = ![0, t.val] ∧ win0_2.index t = ![0, t.val] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v2) :=
  whole (m ((c.tc : Thread nD τ).loc main_arg0)) (m ((c.tc : Thread nD τ).loc main_arg2))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at]
  blk_point [iblk, V, idx t]

/-- The claim. -/
theorem algebraic : Cert.algebraic_Kernel7Ideal_Reference7Ideal := fun m g m' g' _ e => by
  refine ⟨fun c => out m c, (θ_run defs _ _).mono (fun r h c => ⟨((h c).1).trans (out_eq m c), (h c).2⟩) (Cert.Kernel7Ideal.Value.run_blocks m g), ?_⟩
  refine (θ_run Cert.Reference7Ideal.defs _ _).mono (fun r k c => ?_) (Cert.Reference7Ideal.Value.run m' g')
  obtain ⟨e0, e1, e2⟩ := e c
  refine ⟨((k c).1).trans ?_, (k c).2⟩
  · unfold out
    rw [e0, e2]
    rfl

end Cert.Proof.ProjIn

end
-- ==== Proof.ProjOut.lean ====
/- The call of the output projection's weight gradient: at exact real arithmetic its result is the reference's. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.Proof.ProjOut

open Idealize.ShloMosaic Idealize.ShloMosaic.TcCoe Idealize.SL.Sem

section Reference

open Cert.Reference8Ideal Cert.Reference8Ideal.Gen

/-- What the reference computes of the arguments: the product's gradient in its right factor. -/
def whole (x : FVec Ideal S4096x1024 .f32) (d : FVec Ideal S4096x1024 .f32) : FVec Ideal S1024x1024 .f32 :=
  transpose S1024x1024 [1, 0] (Host.dotGeneral (φ₁ := .f32) (φ₂ := .f32) dot_S4096x1024_S4096x1024_S1024x1024_0_0_1_1_n_n none d x) transposes_S1024x1024_S1024x1024_1_0

theorem whole_at (x : FVec Ideal S4096x1024 .f32) (d : FVec Ideal S4096x1024 .f32) (i : S1024x1024.Idx) :
    whole x d i = (∑ k : Fin 4096, x (ix2 k (i 0)) * d (ix2 k (i 1)) : EReal) := by
  pointwise [whole]
  exact Finset.sum_congr rfl fun k _ => mul_comm _ _

end Reference

open Cert.Kernel8Ideal Cert.Kernel8Ideal.Gen

/-- What the call leaves in a block. -/
theorem block_at (x : FVec Ideal S4096x1024 .bf16) (d : FVec Ideal S4096x512 .f32) (y : S1024x512.Idx) :
    out0_2 (F := Ideal) x d y = (∑ k : Fin 4096, x (ix2 k (y 0)) * d (ix2 k (y 1)) : EReal) := by
  unfold out0_2
  rw [View.canon_unit_zero (by decide)]
  pointwise [k0_pay1]

/-- Every window's block index. -/
theorem idx : ∀ t : Fin cfg0.N, win0_0.index t = ![0, 0] ∧ win0_1.index t = ![0, t.val] ∧ win0_2.index t = ![0, t.val] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v1) :=
  whole (m ((c.tc : Thread nD τ).loc main_arg0)) (m ((c.tc : Thread nD τ).loc main_arg2))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at]
  blk_point [iblk, V, idx t]

/-- The claim. -/
theorem algebraic : Cert.algebraic_Kernel8Ideal_Reference8Ideal := fun m g m' g' _ e => by
  refine ⟨fun c => out m c, (θ_run defs _ _).mono (fun r h c => ⟨((h c).1).trans (out_eq m c), (h c).2⟩) (Cert.Kernel8Ideal.Value.run_blocks m g), ?_⟩
  refine (θ_run Cert.Reference8Ideal.defs _ _).mono (fun r k c => ?_) (Cert.Reference8Ideal.Value.run m' g')
  obtain ⟨e0, e1, e2⟩ := e c
  refine ⟨((k c).1).trans ?_, (k c).2⟩
  · unfold out
    rw [e0, e2]
    rfl

end Cert.Proof.ProjOut

end
-- ==== Proof.Tiles.lean ====
/- Sums by tiles: a call leaves each tile's sum in the first of eight rows, and the host adds the rows up. -/
module

public import Idealize.ShloMosaic.Lib.Pipeline.ValueKit
public import Idealize.ShloMosaic.Lib.Claim

@[expose] public section

noncomputable section

namespace Cert.Proof.Tiles

open Idealize.ShloMosaic

/-- A finite family over all numbers, nothing beyond its end. -/
def ext {N : ℕ} (f : Fin N → EReal) (p : ℕ) : EReal := if h : p < N then f ⟨p, h⟩ else 0

/-- Row `i` of the tiles' sums: the first of a tile's eight rows holds the sum of its `T` terms, the others nothing. -/
def tile {N : ℕ} (T : ℕ) (f : Fin N → EReal) (i : ℕ) : EReal := if i % 8 = 0 then ∑ r : Fin T, ext f (T * (i / 8) + r.val) else 0

theorem range_tile (T : ℕ) (F : ℕ → EReal) (n : ℕ) :
    (∑ i ∈ Finset.range (8 * n), if i % 8 = 0 then ∑ r ∈ Finset.range T, F (T * (i / 8) + r) else 0) = ∑ p ∈ Finset.range (T * n), F p := by
  induction n with
  | zero => simp
  | succ n ih =>
    rw [Nat.mul_succ, Finset.sum_range_add, ih, Nat.mul_succ, Finset.sum_range_add]
    congr 1
    rw [Finset.sum_range_succ', Finset.sum_eq_zero, zero_add, if_pos (by omega), Nat.add_zero, Nat.mul_div_cancel_left _ (by norm_num)]
    intro k hk
    have := Finset.mem_range.mp hk
    exact if_neg (by omega)

/-- The rows' sum is the sum of all the terms. -/
theorem sum_tile {R N : ℕ} (T n : ℕ) (hR : R = 8 * n) (hN : N = T * n) (f : Fin N → EReal) : (∑ i : Fin R, tile T f i.val) = ∑ p : Fin N, f p := by
  subst hR hN
  have H := range_tile T (ext f) n
  rw [Finset.sum_range, Finset.sum_range] at H
  simp only [Finset.sum_range] at H
  refine H.trans (Finset.sum_congr rfl fun p _ => ?_)
  unfold ext
  rw [dif_pos p.isLt]

/-- Row `y` of tile `t`. -/
theorem tile_row {N : ℕ} (T t y : ℕ) (hy : y < 8) (f : Fin N → EReal) (g : Fin T → EReal) (hT : T * (t + 1) ≤ N)
    (h : ∀ r : Fin T, g r = f ⟨T * t + r.val, by have := r.isLt; rw [Nat.mul_succ] at hT; omega⟩) :
    (if y = 0 then ∑ r, g r else 0) = tile T f (8 * t + y) := by
  unfold tile
  by_cases e : y = 0
  · rw [if_pos e, if_pos (by omega)]
    refine Finset.sum_congr rfl fun r _ => ?_
    have hd : (8 * t + y) / 8 = t := by omega
    have hr := r.isLt
    rw [Nat.mul_succ] at hT
    unfold ext
    rw [hd, dif_pos (by omega), h]
  · rw [if_neg e, if_neg (by omega)]

/-- A select on the first row. -/
theorem first_word {α : Type} (n : ℕ) (hn : n < 8) (a b : α) : Scalar.select (IntOp.cmpi .eq (BitVec.ofNat 32 n) 0#32) a b = if n = 0 then a else b := by
  interval_cases n <;> rfl

end Cert.Proof.Tiles

end
-- ==== Proof.NormIn.lean ====
/- The call of the first normalisation's input gradient: at exact real arithmetic its results are the reference's. -/
module

public import proofs.«01_k».proof.Defs
public import proofs.«01_k».proof.Proof.Gen.Kernel9Ideal.Frame
public import Idealize.ShloMosaic.Lib.Pipeline.Value
public import proofs.«01_k».proof.Proof.Gen.Reference9Ideal.Run
public import Idealize.ShloMosaic.Lib.Pipeline.ValueKit
public import proofs.«01_k».proof.Proof.Tiles
public import Idealize.ShloMosaic.Lib.Claim

@[expose] public section

set_option maxRecDepth 16384

noncomputable section

namespace Cert.Proof.NormIn

open Idealize.ShloMosaic Idealize.ShloMosaic.TcCoe Idealize.SL.Sem

/-- A row of the normalisation's gradient: `d` is added to what the gradient `A * G` at the scaled row `X` gives. -/
def row (X A G : Fin 1024 → EReal) (d : EReal) (j : Fin 1024) : EReal :=
  let s := Ideal.div (∑ k, X k * X k) (Ideal.ofBits .f32 0x44800000#32) + Ideal.ofBits .f32 0x358637BD#32
  let t := Ideal.div ((∑ k, X k * (A k * G k)) * (Ideal.ofBits .f32 0xBF000000#32 * Ideal.div (Ideal.rsqrt s) s)) (Ideal.ofBits .f32 0x44800000#32)
  d + A j * G j * Ideal.rsqrt s + X j * t + t * X j

/-- What a row adds to the gain's gradient. -/
def part (X A : Fin 1024 → EReal) (j : Fin 1024) : EReal :=
  X j * Ideal.rsqrt (Ideal.div (∑ k, X k * X k) (Ideal.ofBits .f32 0x44800000#32) + Ideal.ofBits .f32 0x358637BD#32) * A j

section Reference

open Cert.Reference9Ideal Cert.Reference9Ideal.Gen

/-- The reference's gradient of the normalised array, of the gradient `a` at the product's input. -/
def norm (x : FVec Ideal S4096x1024 .f32) (g : FVec Ideal S1024 .f32) (a : FVec Ideal S4096x1024 .f32) (r : FVec Ideal S4096x1024 .f32) : FVec Ideal S4096x1024 .f32 :=
  addf (addf (addf r (mulf (mulf a (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))))) (mulf x (broadcastInDim S4096x1024 ![0] bcast_S4096_S4096x1024_0 (Host.reduceAdd (Host.divf (mulf (shapeCast _ (Host.reduceAdd (mulf x (mulf a (broadcastInDim S4096x1024 ![0, 1] bcast_S1x1024_S4096x1024_0_1 (broadcastInDim S1x1024 ![1] bcast_S1024_S1x1024_1 g)))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf a (broadcastInDim S4096x1024 ![0, 1] bcast_S1x1024_S4096x1024_0_1 (broadcastInDim S1x1024 ![1] bcast_S1024_S1x1024_1 g)))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) x)

theorem norm_at (x : FVec Ideal S4096x1024 .f32) (g : FVec Ideal S1024 .f32) (a : FVec Ideal S4096x1024 .f32) (r : FVec Ideal S4096x1024 .f32) (i : S4096x1024.Idx) :
    norm x g a r i = row (fun k => x (ix2 (i 0) k)) (fun k => a (ix2 (i 0) k)) (fun k => g (ix1 k)) (r i) (i 1) := by
  unfold row
  pointwise [norm]
  simp only [Fin.sum_univ_one]

/-- What the reference computes of the arguments. -/
def whole (x : FVec Ideal S4096x1024 .f32) (g : FVec Ideal S1024 .f32) (w : FVec Ideal S1024x2048 .f32) (d : FVec Ideal S4096x2048 .f32) (r : FVec Ideal S4096x1024 .f32) : FVec Ideal S4096x1024 .f32 :=
  norm x g (Host.dotGeneral (φ₁ := .f32) (φ₂ := .f32) dot_S4096x2048_S1024x2048_S4096x1024_1_1_0_0_n_n none d w) r

theorem whole_at (x : FVec Ideal S4096x1024 .f32) (g : FVec Ideal S1024 .f32) (w : FVec Ideal S1024x2048 .f32) (d : FVec Ideal S4096x2048 .f32) (r : FVec Ideal S4096x1024 .f32) (i : S4096x1024.Idx) :
    whole x g w d r i = row (fun k => x (ix2 (i 0) k)) (fun k => ∑ l : Fin 2048, d (ix2 (i 0) l) * w (ix2 k l)) (fun k => g (ix1 k)) (r i) (i 1) := by
  unfold whole
  rw [norm_at]
  congr 1
  funext k
  pointwise []

/-- The reference's gradient of the gain, of the gradient `a` at the product's input. -/
def gainOf (x a : FVec Ideal S4096x1024 .f32) : FVec Ideal S1024 .f32 :=
  Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) a) (constant (F := Ideal) S_ .f32 0x00000000#32) reducesTo_S4096x1024_S1024_d0 h_S_) shapeCasts_S1024_S1x1024) (constant (F := Ideal) S_ .f32 0x00000000#32) reducesTo_S1x1024_S1024_d0 h_S_

theorem gainOf_at (x a : FVec Ideal S4096x1024 .f32) (i : S1024.Idx) :
    gainOf x a i = ∑ p : Fin 4096, part (fun k => x (ix2 p k)) (fun k => a (ix2 p k)) (i 0) := by
  unfold part
  pointwise [gainOf]
  simp only [Fin.sum_univ_one]

/-- The same, of the arguments. -/
def gain (x : FVec Ideal S4096x1024 .f32) (w : FVec Ideal S1024x2048 .f32) (d : FVec Ideal S4096x2048 .f32) : FVec Ideal S1024 .f32 :=
  gainOf x (Host.dotGeneral (φ₁ := .f32) (φ₂ := .f32) dot_S4096x2048_S1024x2048_S4096x1024_1_1_0_0_n_n none d w)

theorem gain_at (x : FVec Ideal S4096x1024 .f32) (w : FVec Ideal S1024x2048 .f32) (d : FVec Ideal S4096x2048 .f32) (i : S1024.Idx) :
    gain x w d i = ∑ p : Fin 4096, part (fun k => x (ix2 p k)) (fun k => ∑ l : Fin 2048, d (ix2 p l) * w (ix2 k l)) (i 0) := by
  unfold gain
  rw [gainOf_at]
  refine Finset.sum_congr rfl fun p _ => ?_
  congr 1
  funext k
  pointwise []

end Reference

open Cert.Kernel9Ideal Cert.Kernel9Ideal.Gen

/-- What the call leaves in a block. -/
theorem block_at (d : FVec Ideal S512x2048 .bf16) (w : FVec Ideal S1024x2048 .bf16) (r x : FVec Ideal S512x1024 .f32) (g : FVec Ideal S1x1024 .f32) (y : S512x1024.Idx) :
    out0_5 (F := Ideal) d w r x g y = row (fun k => x (ix2 (y 0) k)) (fun k => ∑ l : Fin 2048, d (ix2 (y 0) l) * w (ix2 k l)) (fun k => g (ix2 0 k)) (r y) (y 1) := by
  unfold out0_5
  rw [View.canon_unit_zero (by decide)]
  unfold row
  pointwise [k0_pay1, k0_pay3, k0_pay4, k0_pay5, k0_pay7, k0_pay8, k0_pay9]
  simp only [Fin.sum_univ_one, add_assoc]

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- The scale, as the one row that the host lines leave for the call. -/
theorem arr_scale (m : (ℓ : Loc nD τ sig) → Buf (Elt Ideal) ℓ) (c : Dev nD) : V m c main_v2 = broadcastInDim S1x1024 ![1] bcast_S1024_S1x1024_1 (m ((c.tc : Thread nD τ).loc main_arg1)) := by
  entry_read
  rfl

/-- The reference's result of the launch's arguments. -/
def out (m : (ℓ : Loc nD τ sig) → Buf (Elt Ideal) ℓ) (c : Dev nD) : Buf (Elt Ideal) ((c.tc : Thread nD τ).loc main_v3_0) := whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The blocks cover the result, and each is the reference's. -/
theorem out_eq (m : (ℓ : Loc nD τ sig) → Buf (Elt Ideal) ℓ) (c : Dev nD) : (dats m 0 c).arrAt 5 cfg0.N = out m c := by
  refine (dats m 0 c).arrAt_eq_of_covers 5 _ (by decide +kernel) fun t hf y => ?_
  blk_simp
  unfold out
  rw [after0_5, block_at, whole_at]
  blk_point [iblk, idx t]
  rw [arr_scale]
  pointwise
  blk_point [idx t]

/-- The gain's sums in a block: the first row holds the tile's. -/
theorem first_at (v : FVec Ideal S1x1024 .f32) (y : S8x1024.Idx) : k0_pay2 (F := Ideal) v y = if (y 0).val = 0 then v (ix2 0 (y 1)) else 0 := by
  have hy : (y 0).val < 8 := (y 0).isLt
  pointwise [k0_pay2]
  rw [Tiles.first_word _ hy]

theorem tile_at (d : FVec Ideal S512x2048 .bf16) (w : FVec Ideal S1024x2048 .bf16) (r x : FVec Ideal S512x1024 .f32) (g : FVec Ideal S1x1024 .f32) (y : S8x1024.Idx) :
    out0_6 (F := Ideal) d w r x g y = if (y 0).val = 0 then ∑ p : Fin 512, part (fun k => x (ix2 p k)) (fun k => ∑ l : Fin 2048, d (ix2 p l) * w (ix2 k l)) (y 1) else 0 := by
  unfold out0_6
  rw [View.canon_unit_zero (by decide), first_at]
  unfold part
  congr 1
  pointwise [k0_pay6, k0_pay3, k0_pay4, k0_pay5]

theorem idx6 : ∀ t : Fin cfg0.N, win0_6.index t = ![t.val, 0] := (by decide +kernel : ∀ t : Fin grid0.N, _)

/-- A row's term of the gain's gradient. -/
def term (x : FVec Ideal S4096x1024 .f32) (w : FVec Ideal S1024x2048 .f32) (d : FVec Ideal S4096x2048 .f32) (j : Fin 1024) (p : Fin 4096) : EReal :=
  part (fun k => x (ix2 p k)) (fun k => ∑ l : Fin 2048, d (ix2 p l) * w (ix2 k l)) j

/-- The array of the tiles' sums. -/
def sums (m : (ℓ : Loc nD τ sig) → Buf (Elt Ideal) ℓ) (c : Dev nD) : FVec Ideal S64x1024 .f32 :=
  fun i => Tiles.tile 512 (term (m ((c.tc : Thread nD τ).loc main_arg0)) (m ((c.tc : Thread nD τ).loc main_arg2)) (m ((c.tc : Thread nD τ).loc main_arg3)) (i 1)) (i 0).val

attribute [local irreducible] part

theorem sums_eq (m : (ℓ : Loc nD τ sig) → Buf (Elt Ideal) ℓ) (c : Dev nD) : (dats m 0 c).arrAt 6 cfg0.N = sums m c := by
  refine (dats m 0 c).arrAt_eq_of_covers 6 _ (by decide +kernel) fun t hf y => ?_
  blk_simp
  unfold sums
  have hy : (y 0).val < 8 := (y 0).isLt
  have ht : t.val < 8 := t.isLt
  rw [after0_6, tile_at]
  refine (Tiles.tile_row 512 t.val (y 0).val hy (term (m ((c.tc : Thread nD τ).loc main_arg0)) (m ((c.tc : Thread nD τ).loc main_arg2)) (m ((c.tc : Thread nD τ).loc main_arg3)) (y 1)) _ (by omega) fun r => ?_).trans ?_
  · unfold term
    congr 1
    · funext k
      blk_point [iblk, V, idx t]
    · funext k
      blk_point [iblk, V, idx t]
  · congr 1
    · congr 1
      refine Fin.ext ?_
      blk_simp
      blk_ext [idx6 t]
    · rw [Nat.mul_comm 8]
      blk_simp
      blk_ext [idx6 t]

/-- The host's sum of the tiles. -/
theorem tail_eq (σ : Valuation τ sig (Elt Ideal)) : StableHlo.after (τ := τ) (sig := sig) (Val := Elt Ideal) [hostOps1].flatten σ (Proc.devRef .tc main_v4)
    = Host.reduceAdd (σ (Proc.devRef .tc main_v3_1)) (constant (F := Ideal) S_ .f32 0x00000000#32) reducesTo_S64x1024_S1024_d0 h_S_ := by
  show StableHlo.after (τ := τ) (sig := sig) (Val := Elt Ideal) hostOps1 σ (Proc.devRef .tc main_v4) = _
  entry_read
  rfl

/-- The reference's gain gradient of the launch's arguments. -/
def outGain (m : (ℓ : Loc nD τ sig) → Buf (Elt Ideal) ℓ) (c : Dev nD) : Buf (Elt Ideal) ((c.tc : Thread nD τ).loc main_v4) := gain (m ((c.tc : Thread nD τ).loc main_arg0)) (m ((c.tc : Thread nD τ).loc main_arg2)) (m ((c.tc : Thread nD τ).loc main_arg3))

theorem add_rows (v : FVec Ideal S64x1024 .f32) (i : S1024.Idx) :
    Host.reduceAdd v (constant (F := Ideal) S_ .f32 0x00000000#32) reducesTo_S64x1024_S1024_d0 h_S_ i = (∑ p : Fin 64, v (ix2 p (i 0)) : EReal) := by
  pointwise []

theorem outGain_eq (m : (ℓ : Loc nD τ sig) → Buf (Elt Ideal) ℓ) (c : Dev nD) :
    Pipeline.afterTail₀ cfgs (dats m) 0 (V0 m) [hostOps1] c main_v4 = outGain m c := by
  unfold Pipeline.afterTail₀
  rw [tail_eq]
  have H := sums_eq m c
  rw [← Pipeline.withArrays_arr (cfgs 0).spec launch0.win.arr_inj c (V0 m c) (fun w => (dats m 0 c).arrAt w (cfgs 0).N) 6] at H
  refine (congrArg (fun v : FVec Ideal S64x1024 .f32 => Host.reduceAdd v (constant (F := Ideal) S_ .f32 0x00000000#32) reducesTo_S64x1024_S1024_d0 h_S_) H).trans (funext fun i => ?_)
  refine (add_rows _ i).trans ((Tiles.sum_tile 512 8 rfl rfl (term (m ((c.tc : Thread nD τ).loc main_arg0)) (m ((c.tc : Thread nD τ).loc main_arg2)) (m ((c.tc : Thread nD τ).loc main_arg3)) (i 0))).trans ?_)
  exact (gain_at _ _ _ i).symm

/-- The claim. -/
theorem algebraic : Cert.algebraic_Kernel9Ideal_Reference9Ideal := fun m g m' g' _ e => by
  refine ⟨fun c => out m c, fun c => outGain m c, (θ_run defs _ _).mono (fun r h c => ⟨((h.1 c).1 5).trans (out_eq m c), ((h.1 c).2 main_v4 (Pipeline.mem_restRefs_of main_v4 (by decide) (by decide))).trans (outGain_eq m c), h.2 c⟩) (θ_run_and (run_main m g) (unchanged m g)), ?_⟩
  refine (θ_run Cert.Reference9Ideal.defs _ _).mono (fun r k c => ?_) (Cert.Reference9Ideal.Value.run m' g')
  obtain ⟨e0, e1, e2, e3, e4⟩ := e c
  refine ⟨((k c).1).trans ?_, ((k c).2.1).trans ?_, (k c).2.2⟩
  · unfold Cert.Reference9Ideal.Value.res_main_v38 out
    rw [e0, e1, e2, e3, e4]
    rfl
  · unfold outGain
    rw [e0, e2, e3]
    rfl

end Cert.Proof.NormIn

end
-- ==== Proof.NormMlp.lean ====
/- The call of the second normalisation's input gradient: at exact real arithmetic its results are the reference's. -/
module

public import proofs.«01_k».proof.Defs
public import proofs.«01_k».proof.Proof.Gen.Kernel10Ideal.Frame
public import Idealize.ShloMosaic.Lib.Pipeline.Value
public import proofs.«01_k».proof.Proof.Gen.Reference10Ideal.Run
public import Idealize.ShloMosaic.Lib.Pipeline.ValueKit
public import Idealize.ShloMosaic.Lib.Claim
public import proofs.«01_k».proof.Proof.NormIn

@[expose] public section

set_option maxRecDepth 16384

noncomputable section

namespace Cert.Proof.NormMlp

open Idealize.ShloMosaic Idealize.ShloMosaic.TcCoe Idealize.SL.Sem

section Reference

open Cert.Reference10Ideal Cert.Reference10Ideal.Gen

/-- What the forward call saves: relu of the product. -/
def root (x : FVec Ideal S4096x1024 .f32) (w : FVec Ideal S1024x4096 .f32) : FVec Ideal S4096x4096 .f32 :=
  maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))

/-- The gradient at the first product's output. -/
def gate (x : FVec Ideal S4096x1024 .f32) (w : FVec Ideal S1024x4096 .f32) (w' : FVec Ideal S4096x1024 .f32) (d : FVec Ideal S4096x1024 .f32) : FVec Ideal S4096x4096 .f32 :=
  select (cmpf .ogt (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32)))
    (mulf (Host.dotGeneral (φ₁ := .f32) (φ₂ := .f32) dot_S4096x1024_S4096x1024_S4096x4096_1_1_0_0_n_n none d w') (mulf (broadcastInDim S4096x4096 ![] bcast_S_S4096x4096 (constant (F := Ideal) S_ .f32 0x40000000#32)) (root x w)))
    (broadcastInDim S4096x4096 ![] bcast_S_S4096x4096 (constant (F := Ideal) S_ .f32 0x00000000#32))

/-- The normalised and scaled array. -/
def normed (x : FVec Ideal S4096x1024 .f32) (g : FVec Ideal S1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 g))

/-- The reference's gradient of the normalised array, of the gradient `a` at the product's input. -/
def norm (x : FVec Ideal S4096x1024 .f32) (g : FVec Ideal S1024 .f32) (a : FVec Ideal S4096x1024 .f32) (r : FVec Ideal S4096x1024 .f32) : FVec Ideal S4096x1024 .f32 :=
  addf (addf (addf r (mulf (mulf a (broadcastInDim S4096x1024 ![0, 1] bcast_S1x1024_S4096x1024_0_1 (broadcastInDim S1x1024 ![1] bcast_S1024_S1x1024_1 g))) (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))))) (mulf x (broadcastInDim S4096x1024 ![0] bcast_S4096_S4096x1024_0 (Host.reduceAdd (Host.divf (mulf (shapeCast _ (Host.reduceAdd (mulf x (mulf a (broadcastInDim S4096x1024 ![0, 1] bcast_S1x1024_S4096x1024_0_1 (broadcastInDim S1x1024 ![1] bcast_S1024_S1x1024_1 g)))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf a (broadcastInDim S4096x1024 ![0, 1] bcast_S1x1024_S4096x1024_0_1 (broadcastInDim S1x1024 ![1] bcast_S1024_S1x1024_1 g)))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) x)

theorem norm_eq (x : FVec Ideal S4096x1024 .f32) (g : FVec Ideal S1024 .f32) (a r : FVec Ideal S4096x1024 .f32) : norm x g a r = NormIn.norm x g a r := rfl

/-- What the reference computes of the arguments. -/
def whole (h : FVec Ideal S4096x1024 .f32) (g : FVec Ideal S1024 .f32) (w : FVec Ideal S1024x4096 .f32) (w' : FVec Ideal S4096x1024 .f32) (d : FVec Ideal S4096x1024 .f32) : FVec Ideal S4096x1024 .f32 :=
  norm h g (Host.dotGeneral (φ₁ := .f32) (φ₂ := .f32) dot_S4096x4096_S1024x4096_S4096x1024_1_1_0_0_n_n none (gate (normed h g) w w' (shapeCast _ d shapeCasts_S4096x1024_S4096x1024)) w) d

theorem whole_at (h : FVec Ideal S4096x1024 .f32) (g : FVec Ideal S1024 .f32) (w : FVec Ideal S1024x4096 .f32) (w' : FVec Ideal S4096x1024 .f32) (d : FVec Ideal S4096x1024 .f32) (i : S4096x1024.Idx) :
    whole h g w w' d i = NormIn.row (fun k => h (ix2 (i 0) k)) (fun k => ∑ l : Fin 4096, gate (normed h g) w w' d (ix2 (i 0) l) * w (ix2 k l)) (fun k => g (ix1 k)) (d i) (i 1) := by
  unfold whole
  rw [shapeCast_self, norm_eq, NormIn.norm_at]
  congr 1
  funext k
  pointwise []

/-- The reference's gradient of the gain, of the gradient `a` at the product's input. -/
def gainOf (x a : FVec Ideal S4096x1024 .f32) : FVec Ideal S1024 .f32 :=
  Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) a) (constant (F := Ideal) S_ .f32 0x00000000#32) reducesTo_S4096x1024_S1024_d0 h_S_) shapeCasts_S1024_S1x1024) (constant (F := Ideal) S_ .f32 0x00000000#32) reducesTo_S1x1024_S1024_d0 h_S_

theorem gainOf_eq (x a : FVec Ideal S4096x1024 .f32) : gainOf x a = NormIn.gainOf x a := rfl

/-- The same, of the arguments. -/
def gain (h : FVec Ideal S4096x1024 .f32) (g : FVec Ideal S1024 .f32) (w : FVec Ideal S1024x4096 .f32) (w' : FVec Ideal S4096x1024 .f32) (d : FVec Ideal S4096x1024 .f32) : FVec Ideal S1024 .f32 :=
  gainOf h (Host.dotGeneral (φ₁ := .f32) (φ₂ := .f32) dot_S4096x4096_S1024x4096_S4096x1024_1_1_0_0_n_n none (gate (normed h g) w w' (shapeCast _ d shapeCasts_S4096x1024_S4096x1024)) w)

/-- A row's term of the gain's gradient. -/
def term (x : FVec Ideal S4096x1024 .f32) (w : FVec Ideal S1024x4096 .f32) (d : FVec Ideal S4096x4096 .f32) (j : Fin 1024) (p : Fin 4096) : EReal :=
  NormIn.part (fun k => x (ix2 p k)) (fun k => ∑ l : Fin 4096, d (ix2 p l) * w (ix2 k l)) j

theorem gain_at (h : FVec Ideal S4096x1024 .f32) (g : FVec Ideal S1024 .f32) (w : FVec Ideal S1024x4096 .f32) (w' : FVec Ideal S4096x1024 .f32) (d : FVec Ideal S4096x1024 .f32) (i : S1024.Idx) :
    gain h g w w' d i = ∑ p : Fin 4096, term h w (gate (normed h g) w w' d) (i 0) p := by
  unfold gain
  rw [shapeCast_self, gainOf_eq, NormIn.gainOf_at]
  refine Finset.sum_congr rfl fun p _ => ?_
  unfold term
  congr 1
  funext k
  pointwise []

end Reference

open Cert.Kernel10Ideal Cert.Kernel10Ideal.Gen

/-- What the call leaves in a block. -/
theorem block_at (d : FVec Ideal S512x4096 .bf16) (w : FVec Ideal S1024x4096 .bf16) (r x : FVec Ideal S512x1024 .f32) (g : FVec Ideal S1x1024 .f32) (y : S512x1024.Idx) :
    out0_5 (F := Ideal) d w r x g y = NormIn.row (fun k => x (ix2 (y 0) k)) (fun k => ∑ l : Fin 4096, d (ix2 (y 0) l) * w (ix2 k l)) (fun k => g (ix2 0 k)) (r y) (y 1) := by
  unfold out0_5
  rw [View.canon_unit_zero (by decide)]
  unfold NormIn.row
  pointwise [k0_pay1, k0_pay3, k0_pay4, k0_pay5, k0_pay7, k0_pay8, k0_pay9]
  simp only [Fin.sum_univ_one, add_assoc]

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- The gradient that the host lines leave for the call. -/
theorem arr_gate (m : (ℓ : Loc nD τ sig) → Buf (Elt Ideal) ℓ) (c : Dev nD) : V m c main_v26 = gate (normed (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := by
  entry_read
  rfl

/-- The scale, as the one row that the host lines leave for the call. -/
theorem arr_scale (m : (ℓ : Loc nD τ sig) → Buf (Elt Ideal) ℓ) (c : Dev nD) : V m c main_v28 = broadcastInDim S1x1024 ![1] bcast_S1024_S1x1024_1 (m ((c.tc : Thread nD τ).loc main_arg1)) := by
  entry_read
  rfl

/-- The reference's result of the launch's arguments. -/
def out (m : (ℓ : Loc nD τ sig) → Buf (Elt Ideal) ℓ) (c : Dev nD) : Buf (Elt Ideal) ((c.tc : Thread nD τ).loc main_v29_0) := whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The blocks cover the result, and each is the reference's. -/
theorem out_eq (m : (ℓ : Loc nD τ sig) → Buf (Elt Ideal) ℓ) (c : Dev nD) : (dats m 0 c).arrAt 5 cfg0.N = out m c := by
  refine (dats m 0 c).arrAt_eq_of_covers 5 _ (by decide +kernel) fun t hf y => ?_
  blk_simp
  unfold out
  rw [after0_5, block_at, whole_at, ← arr_gate]
  blk_point [iblk, idx t]
  rw [arr_scale]
  pointwise
  blk_point [idx t]

/-- The gain's sums in a block: the first row holds the tile's. -/
theorem first_at (v : FVec Ideal S1x1024 .f32) (y : S8x1024.Idx) : k0_pay2 (F := Ideal) v y = if (y 0).val = 0 then v (ix2 0 (y 1)) else 0 := by
  have hy : (y 0).val < 8 := (y 0).isLt
  pointwise [k0_pay2]
  rw [Tiles.first_word _ hy]

theorem tile_at (d : FVec Ideal S512x4096 .bf16) (w : FVec Ideal S1024x4096 .bf16) (r x : FVec Ideal S512x1024 .f32) (g : FVec Ideal S1x1024 .f32) (y : S8x1024.Idx) :
    out0_6 (F := Ideal) d w r x g y = if (y 0).val = 0 then ∑ p : Fin 512, NormIn.part (fun k => x (ix2 p k)) (fun k => ∑ l : Fin 4096, d (ix2 p l) * w (ix2 k l)) (y 1) else 0 := by
  unfold out0_6
  rw [View.canon_unit_zero (by decide), first_at]
  unfold NormIn.part
  congr 1
  pointwise [k0_pay6, k0_pay3, k0_pay4, k0_pay5]

theorem idx6 : ∀ t : Fin cfg0.N, win0_6.index t = ![t.val, 0] := (by decide +kernel : ∀ t : Fin grid0.N, _)

/-- The array of the tiles' sums. -/
def sums (m : (ℓ : Loc nD τ sig) → Buf (Elt Ideal) ℓ) (c : Dev nD) : FVec Ideal S64x1024 .f32 :=
  fun i => Tiles.tile 512 (term (m ((c.tc : Thread nD τ).loc main_arg0)) (m ((c.tc : Thread nD τ).loc main_arg2)) (gate (normed (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (i 1)) (i 0).val

theorem part_eq {X X' A A' : Fin 1024 → EReal} (j : Fin 1024) (h : ∀ k, X k = X' k) (h' : ∀ k, A k = A' k) : NormIn.part X A j = NormIn.part X' A' j := by
  rw [funext h, funext h']

attribute [local irreducible] NormIn.part

theorem sums_eq (m : (ℓ : Loc nD τ sig) → Buf (Elt Ideal) ℓ) (c : Dev nD) : (dats m 0 c).arrAt 6 cfg0.N = sums m c := by
  refine (dats m 0 c).arrAt_eq_of_covers 6 _ (by decide +kernel) fun t hf y => ?_
  blk_simp
  unfold sums
  have hy : (y 0).val < 8 := (y 0).isLt
  have ht : t.val < 8 := t.isLt
  rw [after0_6, tile_at, ← arr_gate]
  refine (Tiles.tile_row 512 t.val (y 0).val hy (term (m ((c.tc : Thread nD τ).loc main_arg0)) (m ((c.tc : Thread nD τ).loc main_arg2)) (V m c main_v26) (y 1)) _ (by omega) fun r => ?_).trans ?_
  · unfold term
    refine part_eq (y 1) (fun k => ?_) (fun k => Finset.sum_congr rfl fun l _ => ?_)
    · blk_point [iblk, idx t]
    · refine congrArg₂ (fun a b : EReal => a * b) ?_ ?_
      · blk_point [iblk, idx t]
      · blk_point [iblk, idx t]
  · congr 1
    · congr 1
      refine Fin.ext ?_
      blk_simp
      blk_ext [idx6 t]
    · rw [Nat.mul_comm 8]
      blk_simp
      blk_ext [idx6 t]

/-- The host's sum of the tiles. -/
theorem tail_eq (σ : Valuation τ sig (Elt Ideal)) : StableHlo.after (τ := τ) (sig := sig) (Val := Elt Ideal) [hostOps1].flatten σ (Proc.devRef .tc main_v30)
    = Host.reduceAdd (σ (Proc.devRef .tc main_v29_1)) (constant (F := Ideal) S_ .f32 0x00000000#32) reducesTo_S64x1024_S1024_d0 h_S_ := by
  show StableHlo.after (τ := τ) (sig := sig) (Val := Elt Ideal) hostOps1 σ (Proc.devRef .tc main_v30) = _
  entry_read
  rfl

/-- The reference's gain gradient of the launch's arguments. -/
def outGain (m : (ℓ : Loc nD τ sig) → Buf (Elt Ideal) ℓ) (c : Dev nD) : Buf (Elt Ideal) ((c.tc : Thread nD τ).loc main_v30) := gain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem add_rows (v : FVec Ideal S64x1024 .f32) (i : S1024.Idx) :
    Host.reduceAdd v (constant (F := Ideal) S_ .f32 0x00000000#32) reducesTo_S64x1024_S1024_d0 h_S_ i = (∑ p : Fin 64, v (ix2 p (i 0)) : EReal) := by
  pointwise []

theorem outGain_eq (m : (ℓ : Loc nD τ sig) → Buf (Elt Ideal) ℓ) (c : Dev nD) :
    Pipeline.afterTail₀ cfgs (dats m) 0 (V0 m) [hostOps1] c main_v30 = outGain m c := by
  unfold Pipeline.afterTail₀
  rw [tail_eq]
  have H := sums_eq m c
  rw [← Pipeline.withArrays_arr (cfgs 0).spec launch0.win.arr_inj c (V0 m c) (fun w => (dats m 0 c).arrAt w (cfgs 0).N) 6] at H
  refine (congrArg (fun v : FVec Ideal S64x1024 .f32 => Host.reduceAdd v (constant (F := Ideal) S_ .f32 0x00000000#32) reducesTo_S64x1024_S1024_d0 h_S_) H).trans (funext fun i => ?_)
  refine (add_rows _ i).trans ((Tiles.sum_tile 512 8 rfl rfl (term (m ((c.tc : Thread nD τ).loc main_arg0)) (m ((c.tc : Thread nD τ).loc main_arg2)) (gate (normed (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (i 0))).trans ?_)
  exact (gain_at _ _ _ _ _ i).symm

/-- The claim. -/
theorem algebraic : Cert.algebraic_Kernel10Ideal_Reference10Ideal := fun m g m' g' _ e => by
  refine ⟨fun c => out m c, fun c => outGain m c, (θ_run defs _ _).mono (fun r h c => ⟨((h.1 c).1 5).trans (out_eq m c), ((h.1 c).2 main_v30 (Pipeline.mem_restRefs_of main_v30 (by decide) (by decide))).trans (outGain_eq m c), h.2 c⟩) (θ_run_and (run_main m g) (unchanged m g)), ?_⟩
  refine (θ_run Cert.Reference10Ideal.defs _ _).mono (fun r k c => ?_) (Cert.Reference10Ideal.Value.run m' g')
  obtain ⟨e0, e1, e2, e3, e4⟩ := e c
  refine ⟨((k c).1).trans ?_, ((k c).2.1).trans ?_, (k c).2.2⟩
  · unfold Cert.Reference10Ideal.Value.res_main_v52 out
    rw [e0, e1, e2, e3, e4]
    rfl
  · unfold outGain
    rw [e0, e1, e2, e3, e4]
    rfl

end Cert.Proof.NormMlp

end
-- ==== Proof.MlpLoss.lean ====
/- The call of the second product and the loss: at exact real arithmetic its gradient and the loss are the reference's. -/
module

public import proofs.«01_k».proof.Defs
public import proofs.«01_k».proof.Proof.Gen.Kernel11Ideal.Frame
public import Idealize.ShloMosaic.Lib.Pipeline.Value
public import proofs.«01_k».proof.Proof.Gen.Reference11Ideal.Run
public import proofs.«01_k».proof.Proof.Tiles
public import Idealize.ShloMosaic.Lib.Pipeline.ValueKit
public import Idealize.ShloMosaic.Lib.Claim

@[expose] public section

set_option maxRecDepth 16384

noncomputable section

namespace Cert.Proof.MlpLoss

open Idealize.ShloMosaic Idealize.ShloMosaic.TcCoe Idealize.SL.Sem

/-- The loss's slope: half of the square's two, by the number of features. -/
theorem slope (x : EReal) : Ideal.div (Ideal.ofBits .f32 0x3F000000#32) (Ideal.ofBits .f32 0x44800000#32) * (Ideal.ofBits .f32 0x40000000#32 * x)
    = x * Ideal.ofBits .f32 0x3A800000#32 := by
  have h : Ideal.ofBits .f32 0x3F000000#32 = ((1 / 2 : ℝ) : EReal) := by
    simp [Ideal.ofBits, Ideal.ieee, -EReal.coe_mul]; norm_num
  have n : Ideal.ofBits .f32 0x44800000#32 = ((1024 : ℝ) : EReal) := by
    simp [Ideal.ofBits, Ideal.ieee, -EReal.coe_mul]; norm_num
  have w : Ideal.ofBits .f32 0x40000000#32 = ((2 : ℝ) : EReal) := by
    simp [Ideal.ofBits, Ideal.ieee, -EReal.coe_mul]; norm_num
  have i : Ideal.ofBits .f32 0x3A800000#32 = ((1 / 1024 : ℝ) : EReal) := by
    simp [Ideal.ofBits, Ideal.ieee, -EReal.coe_mul]; norm_num
  rw [h, n, w, i, Ideal.div_coe (by norm_num), ← mul_assoc, ← EReal.coe_mul, ← EReal.coe_mul, mul_comm x]
  norm_num

/-- A real factor that is not negative comes out of a sum. -/
theorem sum_mul {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- A row's share of the loss: half of the mean of its squares. -/
def share (e : Fin 1024 → EReal) : EReal := (∑ k, e k * e k) * ((1 / 2048 : ℝ) : EReal)

/-- The kernel's share: the sum of the slopes' squares, by half of the number of features. -/
theorem share_of_slopes (n : Nat) (e : Fin n → Fin 1024 → EReal) :
    (∑ r, ∑ k, e r k * Ideal.ofBits .f32 0x3A800000#32 * (e r k * Ideal.ofBits .f32 0x3A800000#32)) * Ideal.ofBits .f32 0x44000000#32 = ∑ r, share (e r) := by
  have i : Ideal.ofBits .f32 0x3A800000#32 = ((1 / 1024 : ℝ) : EReal) := by
    simp [Ideal.ofBits, Ideal.ieee, -EReal.coe_mul]; norm_num
  have w : Ideal.ofBits .f32 0x44000000#32 = ((512 : ℝ) : EReal) := by
    simp [Ideal.ofBits, Ideal.ieee, -EReal.coe_mul]; norm_num
  rw [i, w, ← sum_mul _ _ (by norm_num)]
  refine Finset.sum_congr rfl fun r _ => ?_
  unfold share
  rw [← sum_mul _ _ (by norm_num), ← sum_mul _ _ (by norm_num)]
  refine Finset.sum_congr rfl fun k _ => ?_
  rw [mul_mul_mul_comm, ← EReal.coe_mul, mul_assoc, ← EReal.coe_mul]
  norm_num

/-- The reference's share: half of the sum of the rows' means. -/
theorem share_of_means (n : Nat) (e : Fin n → Fin 1024 → EReal) :
    Ideal.ofBits .f32 0x3F000000#32 * (∑ r, Ideal.div (∑ k, e r k * e r k) (Ideal.ofBits .f32 0x44800000#32)) = ∑ r, share (e r) := by
  have h : Ideal.ofBits .f32 0x3F000000#32 = ((1 / 2 : ℝ) : EReal) := by
    simp [Ideal.ofBits, Ideal.ieee, -EReal.coe_mul]; norm_num
  have n : Ideal.ofBits .f32 0x44800000#32 = ((1024 : ℝ) : EReal) := by
    simp [Ideal.ofBits, Ideal.ieee, -EReal.coe_mul]; norm_num
  rw [h, n, mul_comm, ← sum_mul _ _ (by norm_num)]
  refine Finset.sum_congr rfl fun r _ => ?_
  unfold share
  rw [Ideal.div_coe (by norm_num), mul_assoc, ← EReal.coe_mul]
  norm_num

/-- A select by two bits is one by the second of one by the first. -/
theorem both (p q : BitVec 1) (a b : EReal) : Scalar.select (IntOp.andi p q) a b = Scalar.select q (Scalar.select p a b) b := by
  have h : ∀ p : BitVec 1, p = 0#1 ∨ p = 1#1 := by decide
  rcases h p with rfl | rfl <;> rcases h q with rfl | rfl <;> rfl

theorem first_lane (n : Nat) (hn : n < 128) (a b : EReal) : Scalar.select (IntOp.cmpi .eq (BitVec.ofNat 32 n) 0#32) a b = if n = 0 then a else b := by
  interval_cases n <;> rfl

section Reference

open Cert.Reference11Ideal Cert.Reference11Ideal.Gen

/-- What the forward call saves: relu of the product. -/
def root (x : FVec Ideal S4096x1024 .f32) (w : FVec Ideal S1024x4096 .f32) : FVec Ideal S4096x4096 .f32 :=
  maximumf (Host.dotGeneral (φ₁ := .f32) (φ₂ := .f32) dot_S4096x1024_S1024x4096_S4096x4096_1_0_0_1_n_n none x w) (broadcastInDim S4096x4096 ![] bcast_S_S4096x4096 (constant (F := Ideal) S_ .f32 0x00000000#32))

/-- The reference's gradient of the loss. -/
def whole (x : FVec Ideal S4096x1024 .f32) (w : FVec Ideal S1024x4096 .f32) (w' : FVec Ideal S4096x1024 .f32) (h : FVec Ideal S4096x1024 .f32) (t : FVec Ideal S4096x1024 .f32) : FVec Ideal S4096x1024 .f32 :=
  mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32))))
    (mulf (broadcastInDim S4096x1024 ![] bcast_S_S4096x1024 (constant (F := Ideal) S_ .f32 0x40000000#32))
      (subf (addf h (Host.dotGeneral (φ₁ := .f32) (φ₂ := .f32) dot_S4096x4096_S4096x1024_S4096x1024_1_0_0_1_n_n none (mulf (root x w) (root x w)) w')) t))

/-- The same gradient, in the narrow format. -/
def narrow (x : FVec Ideal S4096x1024 .f32) (w : FVec Ideal S1024x4096 .f32) (w' : FVec Ideal S4096x1024 .f32) (h : FVec Ideal S4096x1024 .f32) (t : FVec Ideal S4096x1024 .f32) : FVec Ideal S4096x1024 .bf16 := truncf .bf16 (whole x w w' h t) bitsLt_bf16_f32

theorem whole_at (x : FVec Ideal S4096x1024 .f32) (w : FVec Ideal S1024x4096 .f32) (w' : FVec Ideal S4096x1024 .f32) (h : FVec Ideal S4096x1024 .f32) (t : FVec Ideal S4096x1024 .f32) (i : S4096x1024.Idx) :
    whole x w w' h t i = ((∑ k : Fin 4096, root x w (ix2 (i 0) k) * root x w (ix2 (i 0) k) * w' (ix2 k (i 1))) + h i - t i) * Ideal.ofBits .f32 0x3A800000#32 := by
  pointwise [whole]
  refine (slope _).trans ?_
  rw [add_comm (h i)]

theorem narrow_at (x : FVec Ideal S4096x1024 .f32) (w : FVec Ideal S1024x4096 .f32) (w' : FVec Ideal S4096x1024 .f32) (h : FVec Ideal S4096x1024 .f32) (t : FVec Ideal S4096x1024 .f32) (i : S4096x1024.Idx) :
    narrow x w w' h t i = ((∑ k : Fin 4096, root x w (ix2 (i 0) k) * root x w (ix2 (i 0) k) * w' (ix2 k (i 1))) + h i - t i) * Ideal.ofBits .f32 0x3A800000#32 :=
  whole_at x w w' h t i

/-- The reference's residual. -/
def res (x : FVec Ideal S4096x1024 .f32) (w : FVec Ideal S1024x4096 .f32) (w' : FVec Ideal S4096x1024 .f32) (h : FVec Ideal S4096x1024 .f32) (t : FVec Ideal S4096x1024 .f32) : FVec Ideal S4096x1024 .f32 :=
  subf (addf h (Host.dotGeneral (φ₁ := .f32) (φ₂ := .f32) dot_S4096x4096_S4096x1024_S4096x1024_1_0_0_1_n_n none (mulf (root x w) (root x w)) w')) t

theorem res_at (x : FVec Ideal S4096x1024 .f32) (w : FVec Ideal S1024x4096 .f32) (w' : FVec Ideal S4096x1024 .f32) (h : FVec Ideal S4096x1024 .f32) (t : FVec Ideal S4096x1024 .f32) (i : S4096x1024.Idx) :
    res x w w' h t i = (∑ k : Fin 4096, root x w (ix2 (i 0) k) * root x w (ix2 (i 0) k) * w' (ix2 k (i 1))) + h i - t i := by
  pointwise [res]
  rw [add_comm (h i)]

/-- The reference's loss. -/
def loss (x : FVec Ideal S4096x1024 .f32) (w : FVec Ideal S1024x4096 .f32) (w' : FVec Ideal S4096x1024 .f32) (h : FVec Ideal S4096x1024 .f32) (t : FVec Ideal S4096x1024 .f32) : FVec Ideal S_ .f32 :=
  mulf (constant (F := Ideal) S_ .f32 0x3F000000#32) (Host.reduceAdd (Host.divf (Host.reduceAdd (mulf (res x w w' h t) (res x w w' h t)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_)

/-- A row's term of the loss, of the saved value `a`. -/
def term (a : FVec Ideal S4096x4096 .f32) (w' : FVec Ideal S4096x1024 .f32) (h t : FVec Ideal S4096x1024 .f32) (p : Fin 4096) : EReal :=
  share fun j => (∑ k : Fin 4096, a (ix2 p k) * a (ix2 p k) * w' (ix2 k j)) + h (ix2 p j) - t (ix2 p j)

theorem loss_at (x : FVec Ideal S4096x1024 .f32) (w : FVec Ideal S1024x4096 .f32) (w' : FVec Ideal S4096x1024 .f32) (h : FVec Ideal S4096x1024 .f32) (t : FVec Ideal S4096x1024 .f32) (i : S_.Idx) :
    loss x w w' h t i = ∑ p : Fin 4096, term (root x w) w' h t p := by
  have H : loss x w w' h t i = Ideal.ofBits .f32 0x3F000000#32 * (∑ p : Fin 4096, Ideal.div (∑ k : Fin 1024, res x w w' h t (ix2 p k) * res x w w' h t (ix2 p k)) (Ideal.ofBits .f32 0x44800000#32)) := by
    pointwise [loss]
  rw [H, share_of_means]
  simp only [res_at]
  rfl

end Reference

open Cert.Kernel11Ideal Cert.Kernel11Ideal.Gen

/-- What the call leaves in a block. -/
theorem block_at (x : FVec Ideal S512x4096 .bf16) (w : FVec Ideal S4096x1024 .bf16) (h t : FVec Ideal S512x1024 .f32) (y : S512x1024.Idx) :
    out0_4 (F := Ideal) x w h t y = ((∑ k : Fin 4096, x (ix2 (y 0) k) * x (ix2 (y 0) k) * w (ix2 k (y 1))) + h y - t y) * Ideal.ofBits .f32 0x3A800000#32 := by
  unfold out0_4
  rw [View.canon_unit_zero (by decide)]
  pointwise [k0_pay1]

/-- What the call leaves in a block of the narrow result. -/
theorem block_bf16_at (x : FVec Ideal S512x4096 .bf16) (w : FVec Ideal S4096x1024 .bf16) (h t : FVec Ideal S512x1024 .f32) (y : S512x1024.Idx) :
    out0_5 (F := Ideal) x w h t y = ((∑ k : Fin 4096, x (ix2 (y 0) k) * x (ix2 (y 0) k) * w (ix2 k (y 1))) + h y - t y) * Ideal.ofBits .f32 0x3A800000#32 := by
  unfold out0_5
  rw [View.canon_unit_zero (by decide)]
  pointwise [k0_pay1, k0_pay2]

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The saved value that the host lines leave for the call. -/
theorem arr_root (m : (ℓ : Loc nD τ sig) → Buf (Elt Ideal) ℓ) (c : Dev nD) : V m c main_v2 = root (m ((c.tc : Thread nD τ).loc main_arg0)) (m ((c.tc : Thread nD τ).loc main_arg1)) := by
  entry_read
  rfl

/-- The reference's result of the launch's arguments. -/
def out (m : (ℓ : Loc nD τ sig) → Buf (Elt Ideal) ℓ) (c : Dev nD) : Buf (Elt Ideal) ((c.tc : Thread nD τ).loc main_v4_0) := whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The blocks cover the result, and each is the reference's. -/
theorem out_eq (m : (ℓ : Loc nD τ sig) → Buf (Elt Ideal) ℓ) (c : Dev nD) : (dats m 0 c).arrAt 4 cfg0.N = out m c := by
  refine (dats m 0 c).arrAt_eq_of_covers 4 _ (by decide +kernel) fun t hf y => ?_
  blk_simp
  unfold out
  rw [after0_4, block_at, whole_at, ← arr_root]
  blk_point [iblk, idx t]

/-- The reference's result of the launch's arguments. -/
def outNarrow (m : (ℓ : Loc nD τ sig) → Buf (Elt Ideal) ℓ) (c : Dev nD) : Buf (Elt Ideal) ((c.tc : Thread nD τ).loc main_v4_1) := narrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The blocks cover the result, and each is the reference's. -/
theorem outNarrow_eq (m : (ℓ : Loc nD τ sig) → Buf (Elt Ideal) ℓ) (c : Dev nD) : (dats m 0 c).arrAt 5 cfg0.N = outNarrow m c := by
  refine (dats m 0 c).arrAt_eq_of_covers 5 _ (by decide +kernel) fun t hf y => ?_
  blk_simp
  unfold outNarrow
  rw [after0_5, block_bf16_at, narrow_at, ← arr_root]
  blk_point [iblk, idx t]

theorem k0_at (x : FVec Ideal S512x4096 .bf16) (w : FVec Ideal S4096x1024 .bf16) (h t : FVec Ideal S512x1024 .f32) (y : S512x1024.Idx) :
    k0_pay1 (F := Ideal) x w h t y = ((∑ k : Fin 4096, x (ix2 (y 0) k) * x (ix2 (y 0) k) * w (ix2 k (y 1))) + h y - t y) * Ideal.ofBits .f32 0x3A800000#32 := by
  pointwise [k0_pay1]

/-- A tile's part of the loss: at the block's first entry, and zero elsewhere. -/
theorem tile_at (x : FVec Ideal S512x4096 .bf16) (w : FVec Ideal S4096x1024 .bf16) (h t : FVec Ideal S512x1024 .f32) (y : S8x128.Idx) :
    out0_6 (F := Ideal) x w h t y = if (y 1).val = 0 then (if (y 0).val = 0 then ∑ r : Fin 512, share fun j => (∑ k : Fin 4096, x (ix2 r k) * x (ix2 r k) * w (ix2 k j)) + h (ix2 r j) - t (ix2 r j) else 0) else 0 := by
  have hy : (y 0).val < 8 := (y 0).isLt
  have hy' : (y 1).val < 128 := (y 1).isLt
  unfold out0_6
  rw [View.canon_unit_zero (by decide), ← share_of_slopes 512]
  have h0 : View.ld (Val := Elt Ideal) (e' := .bf16) x r0_0 = x := View.ld_unit_zero (by decide) _ _
  have h1 : View.ld (Val := Elt Ideal) (e' := .bf16) w r0_1 = w := View.ld_unit_zero (by decide) _ _
  have h2 : ∀ v : FVec Ideal S512x1024 .f32, View.ld (Val := Elt Ideal) (e' := .f32) v r0_2 = v := fun v => View.ld_unit_zero (by decide) _ _
  rw [h0, h1, h2, h2]
  pointwise [k0_pay3]
  rw [both, Tiles.first_word _ hy, first_lane _ hy']
  simp only [k0_at]
  rfl

theorem idx6 : ∀ t : Fin cfg0.N, win0_6.index t = ![t.val, 0] := (by decide +kernel : ∀ t : Fin grid0.N, _)

/-- The array of the tiles' parts. -/
def sums (m : (ℓ : Loc nD τ sig) → Buf (Elt Ideal) ℓ) (c : Dev nD) : FVec Ideal S64x128 .f32 :=
  fun i => if (i 1).val = 0 then Tiles.tile 512 (term (root (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (i 0).val else 0

theorem share_eq {e e' : Fin 1024 → EReal} (h : ∀ k, e k = e' k) : share e = share e' := by rw [funext h]

attribute [local irreducible] share

theorem sums_eq (m : (ℓ : Loc nD τ sig) → Buf (Elt Ideal) ℓ) (c : Dev nD) : (dats m 0 c).arrAt 6 cfg0.N = sums m c := by
  refine (dats m 0 c).arrAt_eq_of_covers 6 _ (by decide +kernel) fun t hf y => ?_
  blk_simp
  unfold sums
  have hy : (y 0).val < 8 := (y 0).isLt
  have ht : t.val < 8 := t.isLt
  rw [after0_6, tile_at, ← arr_root]
  refine if_congr ?_ ?_ rfl
  · refine iff_of_eq (congrArg (fun n : Nat => n = 0) ?_)
    blk_simp
    blk_ext [idx6 t]
  refine (Tiles.tile_row 512 t.val (y 0).val hy (term (V m c main_v2) (m ((c.tc : Thread nD τ).loc main_arg2)) (m ((c.tc : Thread nD τ).loc main_arg3)) (m ((c.tc : Thread nD τ).loc main_arg4))) _ (by omega) fun r => ?_).trans ?_
  · unfold term
    refine share_eq fun j => ?_
    blk_point [iblk, V, idx t]
  · congr 1
    rw [Nat.mul_comm 8]
    blk_simp
    blk_ext [idx6 t]

/-- The host's sum of the tiles. -/
theorem tail_eq (σ : Valuation τ sig (Elt Ideal)) : StableHlo.after (τ := τ) (sig := sig) (Val := Elt Ideal) [hostOps1].flatten σ (Proc.devRef .tc main_v5)
    = Host.reduceAdd (σ (Proc.devRef .tc main_v4_2)) (constant (F := Ideal) S_ .f32 0x00000000#32) reducesTo_S64x128_S_d0_1 h_S_ := by
  show StableHlo.after (τ := τ) (sig := sig) (Val := Elt Ideal) hostOps1 σ (Proc.devRef .tc main_v5) = _
  entry_read
  rfl

/-- The reference's loss of the launch's arguments. -/
def outLoss (m : (ℓ : Loc nD τ sig) → Buf (Elt Ideal) ℓ) (c : Dev nD) : Buf (Elt Ideal) ((c.tc : Thread nD τ).loc main_v5) := loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem add_all (v : FVec Ideal S64x128 .f32) (i : S_.Idx) :
    Host.reduceAdd v (constant (F := Ideal) S_ .f32 0x00000000#32) reducesTo_S64x128_S_d0_1 h_S_ i = (∑ p : Fin 64, ∑ q : Fin 128, v (ix2 p q) : EReal) := by
  pointwise []

theorem outLoss_eq (m : (ℓ : Loc nD τ sig) → Buf (Elt Ideal) ℓ) (c : Dev nD) : Pipeline.afterTail₀ cfgs (dats m) 0 (V0 m) [hostOps1] c main_v5 = outLoss m c := by
  unfold Pipeline.afterTail₀
  rw [tail_eq]
  have H := sums_eq m c
  rw [← Pipeline.withArrays_arr (cfgs 0).spec launch0.win.arr_inj c (V0 m c) (fun w => (dats m 0 c).arrAt w (cfgs 0).N) 6] at H
  refine (congrArg (fun v : FVec Ideal S64x128 .f32 => Host.reduceAdd v (constant (F := Ideal) S_ .f32 0x00000000#32) reducesTo_S64x128_S_d0_1 h_S_) H).trans (funext fun i => ?_)
  refine (add_all _ i).trans (Eq.trans (Finset.sum_congr rfl fun p _ => ?_) ((Tiles.sum_tile 512 8 rfl rfl (term (root (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)))).trans (loss_at _ _ _ _ _ i).symm))
  refine (Finset.sum_eq_single (0 : Fin 128) (fun q _ hq => if_neg fun h => hq (Fin.ext h)) (fun h => absurd (Finset.mem_univ _) h)).trans ?_
  exact if_pos rfl

/-- The claim. -/
theorem algebraic : Cert.algebraic_Kernel11Ideal_Reference11Ideal := fun m g m' g' _ e => by
  refine ⟨fun c => out m c, fun c => outNarrow m c, fun c => outLoss m c, (θ_run defs _ _).mono (fun r h c => ⟨((h.1 c).1 4).trans (out_eq m c), ((h.1 c).1 5).trans (outNarrow_eq m c), ((h.1 c).2 main_v5 (Pipeline.mem_restRefs_of main_v5 (by decide) (by decide))).trans (outLoss_eq m c), h.2 c⟩) (θ_run_and (run_main m g) (unchanged m g)), ?_⟩
  refine (θ_run Cert.Reference11Ideal.defs _ _).mono (fun r k c => ?_) (Cert.Reference11Ideal.Value.run m' g')
  obtain ⟨e0, e1, e2, e3, e4⟩ := e c
  refine ⟨((k c).1).trans ?_, ((k c).2.1).trans ?_, ((k c).2.2.1).trans ?_, (k c).2.2.2⟩
  · unfold out
    rw [e0, e1, e2, e3, e4]
    rfl
  · unfold outNarrow
    rw [e0, e1, e2, e3, e4]
    rfl
  · unfold outLoss
    rw [e0, e1, e2, e3, e4]
    rfl

end Cert.Proof.MlpLoss

end
-- ==== Proof.UpdateIn.lean ====
/- The update of w_in: at exact real arithmetic the call's four results are the reference's. -/
module

public import proofs.«01_k».proof.Defs
public import proofs.«01_k».proof.Proof.Gen.Kernel12Ideal.Value
public import proofs.«01_k».proof.Proof.Gen.Reference12Ideal.Run
public import Idealize.ShloMosaic.Lib.Claim

@[expose] public section

noncomputable section

namespace Cert.Proof.UpdateIn

open Idealize.ShloMosaic Idealize.ShloMosaic.TcCoe Idealize.SL.Sem

/-- The claim: the call's pointwise terms and the reference's are the same terms, element by element. -/
theorem algebraic : Cert.algebraic_Kernel12Ideal_Reference12Ideal := fun m g m' g' _ e => by
  refine ⟨_, _, _, _, Cert.Kernel12Ideal.Value.run (F := Ideal) m g, ?_⟩
  refine (θ_run Cert.Reference12Ideal.defs _ _).mono (fun r k c => ?_) (Cert.Reference12Ideal.Value.run m' g')
  obtain ⟨e0, e1, e2, e3, e4⟩ := e c
  refine ⟨((k c).1).trans ?_, ((k c).2.1).trans ?_, ((k c).2.2.1).trans ?_, ((k c).2.2.2.1).trans ?_, (k c).2.2.2.2⟩
  · rw [e0, e1]; rfl
  · rw [e0, e1, e2, e3, e4]; rfl
  · rw [e0, e1, e3]; rfl
  · rw [e0, e1, e4]; rfl

end Cert.Proof.UpdateIn

end
-- ==== Proof.UpdateGlu.lean ====
/- The update of w_glu: at exact real arithmetic the call's four results are the reference's. -/
module

public import proofs.«01_k».proof.Defs
public import proofs.«01_k».proof.Proof.Gen.Kernel13Ideal.Value
public import proofs.«01_k».proof.Proof.Gen.Reference13Ideal.Run
public import Idealize.ShloMosaic.Lib.Claim

@[expose] public section

noncomputable section

namespace Cert.Proof.UpdateGlu

open Idealize.ShloMosaic Idealize.ShloMosaic.TcCoe Idealize.SL.Sem

/-- The claim: the call's pointwise terms and the reference's are the same terms, element by element. -/
theorem algebraic : Cert.algebraic_Kernel13Ideal_Reference13Ideal := fun m g m' g' _ e => by
  refine ⟨_, _, _, _, Cert.Kernel13Ideal.Value.run (F := Ideal) m g, ?_⟩
  refine (θ_run Cert.Reference13Ideal.defs _ _).mono (fun r k c => ?_) (Cert.Reference13Ideal.Value.run m' g')
  obtain ⟨e0, e1, e2, e3, e4⟩ := e c
  refine ⟨((k c).1).trans ?_, ((k c).2.1).trans ?_, ((k c).2.2.1).trans ?_, ((k c).2.2.2.1).trans ?_, (k c).2.2.2.2⟩
  · rw [e0, e1]; rfl
  · rw [e0, e1, e2, e3, e4]; rfl
  · rw [e0, e1, e3]; rfl
  · rw [e0, e1, e4]; rfl

end Cert.Proof.UpdateGlu

end
-- ==== Proof.UpdateOut.lean ====
/- The update of w_out: at exact real arithmetic the call's four results are the reference's. -/
module

public import proofs.«01_k».proof.Defs
public import proofs.«01_k».proof.Proof.Gen.Kernel14Ideal.Value
public import proofs.«01_k».proof.Proof.Gen.Reference14Ideal.Run
public import Idealize.ShloMosaic.Lib.Claim

@[expose] public section

noncomputable section

namespace Cert.Proof.UpdateOut

open Idealize.ShloMosaic Idealize.ShloMosaic.TcCoe Idealize.SL.Sem

/-- The claim: the call's pointwise terms and the reference's are the same terms, element by element. -/
theorem algebraic : Cert.algebraic_Kernel14Ideal_Reference14Ideal := fun m g m' g' _ e => by
  refine ⟨_, _, _, _, Cert.Kernel14Ideal.Value.run (F := Ideal) m g, ?_⟩
  refine (θ_run Cert.Reference14Ideal.defs _ _).mono (fun r k c => ?_) (Cert.Reference14Ideal.Value.run m' g')
  obtain ⟨e0, e1, e2, e3, e4⟩ := e c
  refine ⟨((k c).1).trans ?_, ((k c).2.1).trans ?_, ((k c).2.2.1).trans ?_, ((k c).2.2.2.1).trans ?_, (k c).2.2.2.2⟩
  · rw [e0, e1]; rfl
  · rw [e0, e1, e2, e3, e4]; rfl
  · rw [e0, e1, e3]; rfl
  · rw [e0, e1, e4]; rfl

end Cert.Proof.UpdateOut

end
-- ==== Proof.UpdateMlp.lean ====
/- The update of w_mlp_in and w_mlp_out: at exact real arithmetic the call's four results are the reference's. -/
module

public import proofs.«01_k».proof.Defs
public import proofs.«01_k».proof.Proof.Gen.Kernel15Ideal.Value
public import proofs.«01_k».proof.Proof.Gen.Reference15Ideal.Run
public import Idealize.ShloMosaic.Lib.Claim

@[expose] public section

noncomputable section

namespace Cert.Proof.UpdateMlp

open Idealize.ShloMosaic Idealize.ShloMosaic.TcCoe Idealize.SL.Sem

/-- The claim: the call's pointwise terms and the reference's are the same terms, element by element. -/
theorem algebraic : Cert.algebraic_Kernel15Ideal_Reference15Ideal := fun m g m' g' _ e => by
  refine ⟨_, _, _, _, Cert.Kernel15Ideal.Value.run (F := Ideal) m g, ?_⟩
  refine (θ_run Cert.Reference15Ideal.defs _ _).mono (fun r k c => ?_) (Cert.Reference15Ideal.Value.run m' g')
  obtain ⟨e0, e1, e2, e3, e4⟩ := e c
  refine ⟨((k c).1).trans ?_, ((k c).2.1).trans ?_, ((k c).2.2.1).trans ?_, ((k c).2.2.2.1).trans ?_, (k c).2.2.2.2⟩
  · rw [e0, e1]; rfl
  · rw [e0, e1, e2, e3, e4]; rfl
  · rw [e0, e1, e3]; rfl
  · rw [e0, e1, e4]; rfl

end Cert.Proof.UpdateMlp

end
-- ==== Proof.Gelu.lean ====
/- The gated unit's activation over the extended reals, and its slope. -/
module

public import Idealize.ShloMosaic.Lib.Pipeline.ValueKit
public import Idealize.ShloMosaic.Lib.Claim

@[expose] public section

noncomputable section

namespace Cert.Proof.Gelu

open Idealize.ShloMosaic

/-- The curve's inner value: the hyperbolic tangent of the cubic. -/
def bend (x : EReal) : EReal :=
  Ideal.tanh (Ideal.ofBits .f32 0x3F4C422A#32 * (x + Ideal.ofBits .f32 0x3D372713#32 * (x * x * x)))

/-- The activation, by its tangent form. -/
def gelu (x : EReal) : EReal := x * (Ideal.ofBits .f32 0x3F000000#32 * (Ideal.ofBits .f32 0x3F800000#32 + bend x))

/-- Three times a value is the value three times, at infinities as well. -/
theorem thrice (a : EReal) : a * Ideal.ofBits .f32 0x40400000#32 = a + a + a := by
  have h : Ideal.ofBits .f32 0x40400000#32 = ((3 : ℝ) : EReal) := by
    simp [Ideal.ofBits, Ideal.ieee, -EReal.coe_mul]; norm_num
  rw [h]
  induction a using EReal.rec with
  | bot => rw [EReal.bot_mul_coe_of_pos (by norm_num)]; rfl
  | coe a => rw [← EReal.coe_mul, ← EReal.coe_add, ← EReal.coe_add]; congr 1; ring
  | top => rw [EReal.top_mul_coe_of_pos (by norm_num)]; rfl

/-- The gradient at the cubic, of the gradient `d` at the activation of `x`. -/
def inner (x d : EReal) : EReal :=
  Ideal.ofBits .f32 0x3F4C422A#32 * (Ideal.ofBits .f32 0x3F000000#32 * (x * d) * ((Ideal.ofBits .f32 0x3F800000#32 + bend x) * (Ideal.ofBits .f32 0x3F800000#32 - bend x)))

/-- The activation's gradient at `x`, of the gradient `d` at its result. -/
def back (x d : EReal) : EReal :=
  d * (Ideal.ofBits .f32 0x3F000000#32 * (Ideal.ofBits .f32 0x3F800000#32 + bend x)) + inner x d
    + (Ideal.ofBits .f32 0x3D372713#32 * inner x d * (x * x) + Ideal.ofBits .f32 0x3D372713#32 * inner x d * (x * x) + Ideal.ofBits .f32 0x3D372713#32 * inner x d * (x * x))

/-- The same, each factor of the cubic's slope in its turn. -/
theorem back_terms (x d : EReal) :
    d * (Ideal.ofBits .f32 0x3F000000#32 * (Ideal.ofBits .f32 0x3F800000#32 + bend x)) + inner x d + x * x * (Ideal.ofBits .f32 0x3D372713#32 * inner x d)
      + x * (Ideal.ofBits .f32 0x3D372713#32 * inner x d * x) + Ideal.ofBits .f32 0x3D372713#32 * inner x d * x * x = back x d := by
  have h (c : EReal) : x * (c * x) = c * (x * x) := by rw [mul_left_comm]
  rw [h, mul_comm (x * x), mul_assoc _ x x]
  unfold back
  simp only [add_assoc]

end Cert.Proof.Gelu

end
-- ==== Proof.GluW.lean ====
/- The call of the gate's weight gradient: at exact real arithmetic its result is the reference's. -/
module

public import proofs.«01_k».proof.Defs
public import proofs.«01_k».proof.Proof.Gen.Kernel16Ideal.Value
public import proofs.«01_k».proof.Proof.Gen.Reference16Ideal.Run
public import proofs.«01_k».proof.Proof.Gelu
public import Idealize.ShloMosaic.Lib.Pipeline.ValueKit
public import Idealize.ShloMosaic.Lib.Claim

@[expose] public section

set_option maxRecDepth 16384

noncomputable section

namespace Cert.Proof.GluW

open Idealize.ShloMosaic Idealize.ShloMosaic.TcCoe Idealize.SL.Sem

section Reference

open Cert.Reference16Ideal Cert.Reference16Ideal.Gen

/-- The activation of an array, as the reference prints it. -/
def act (x : FVec Ideal S4096x512 .f32) : FVec Ideal S4096x512 .f32 :=
  mulf x (mulf (broadcastInDim S4096x512 ![] bcast_S_S4096x512 (constant (F := Ideal) S_ .f32 0x3F000000#32)) (addf (broadcastInDim S4096x512 ![] bcast_S_S4096x512 (constant (F := Ideal) S_ .f32 0x3F800000#32)) (Host.tanh (mulf (broadcastInDim S4096x512 ![] bcast_S_S4096x512 (constant (F := Ideal) S_ .f32 0x3F4C422A#32)) (addf x (mulf (broadcastInDim S4096x512 ![] bcast_S_S4096x512 (constant (F := Ideal) S_ .f32 0x3D372713#32)) (mulf (mulf x x) x)))))))

theorem act_at (x : FVec Ideal S4096x512 .f32) (i : S4096x512.Idx) : act x i = Gelu.gelu (x i) := by
  unfold Gelu.gelu Gelu.bend
  pointwise [act]

/-- What the reference computes of the arguments: the gradient of the gate's weight. -/
def whole (x d : FVec Ideal S4096x512 .f32) : FVec Ideal S512x512 .f32 :=
  transpose S512x512 [1, 0] (Host.dotGeneral (φ₁ := .f32) (φ₂ := .f32) dot_S4096x512_S4096x512_S512x512_0_0_1_1_n_n none (shapeCast _ d shapeCasts_S4096x512_S4096x512) (act x)) transposes_S512x512_S512x512_1_0

theorem whole_at (x d : FVec Ideal S4096x512 .f32) (i : S512x512.Idx) :
    whole x d i = (∑ k : Fin 4096, Gelu.gelu (x (ix2 k (i 0))) * d (ix2 k (i 1)) : EReal) := by
  unfold whole
  rw [shapeCast_self]
  pointwise [act_at]
  exact Finset.sum_congr rfl fun k _ => mul_comm _ _

end Reference

open Cert.Kernel16Ideal Cert.Kernel16Ideal.Gen

/-- What the call leaves in a block. -/
theorem block_at (x : FVec Ideal S4096x512 .f32) (d : FVec Ideal S4096x512 .bf16) (y : S512x512.Idx) :
    out0_2 (F := Ideal) x d y = (∑ k : Fin 4096, Gelu.gelu (x (ix2 k (y 0))) * d (ix2 k (y 1)) : EReal) := by
  unfold out0_2
  rw [View.canon_unit_zero (by decide)]
  unfold Gelu.gelu Gelu.bend
  pointwise [k0_pay1]

/-- Every window's block index. -/
theorem idx : ∀ t : Fin cfg0.N, win0_0.index t = ![0, 0] ∧ win0_1.index t = ![0, 0] ∧ win0_2.index t = ![0, 0] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v1) := whole (m ((c.tc : Thread nD τ).loc main_arg0)) (m ((c.tc : Thread nD τ).loc main_arg3))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at]
  blk_point [iblk, V, idx t]

/-- The claim. -/
theorem algebraic : Cert.algebraic_Kernel16Ideal_Reference16Ideal := fun m g m' g' _ e => by
  refine ⟨fun c => out m c, (θ_run defs _ _).mono (fun r h c => ⟨((h c).1).trans (out_eq m c), (h c).2⟩) (Cert.Kernel16Ideal.Value.run_blocks m g), ?_⟩
  refine (θ_run Cert.Reference16Ideal.defs _ _).mono (fun r k c => ?_) (Cert.Reference16Ideal.Value.run m' g')
  obtain ⟨e0, e1, e2, e3⟩ := e c
  refine ⟨((k c).1).trans ?_, (k c).2⟩
  · unfold out
    rw [e0, e3]
    rfl

end Cert.Proof.GluW

end
-- ==== Proof.GluGate.lean ====
/- The call of the gate: at exact real arithmetic its result is the reference's. -/
module

public import proofs.«01_k».proof.Defs
public import proofs.«01_k».proof.Proof.Gen.Kernel17Ideal.Value
public import proofs.«01_k».proof.Proof.Gen.Reference17Ideal.Run
public import proofs.«01_k».proof.Proof.Gelu
public import Idealize.ShloMosaic.Lib.Pipeline.ValueKit
public import Idealize.ShloMosaic.Lib.Claim

@[expose] public section

set_option maxRecDepth 16384

noncomputable section

namespace Cert.Proof.GluGate

open Idealize.ShloMosaic Idealize.ShloMosaic.TcCoe Idealize.SL.Sem

section Reference

open Cert.Reference17Ideal Cert.Reference17Ideal.Gen

/-- The activation of an array, as the reference prints it. -/
def act (x : FVec Ideal S4096x512 .f32) : FVec Ideal S4096x512 .f32 :=
  mulf x (mulf (broadcastInDim S4096x512 ![] bcast_S_S4096x512 (constant (F := Ideal) S_ .f32 0x3F000000#32)) (addf (broadcastInDim S4096x512 ![] bcast_S_S4096x512 (constant (F := Ideal) S_ .f32 0x3F800000#32)) (Host.tanh (mulf (broadcastInDim S4096x512 ![] bcast_S_S4096x512 (constant (F := Ideal) S_ .f32 0x3F4C422A#32)) (addf x (mulf (broadcastInDim S4096x512 ![] bcast_S_S4096x512 (constant (F := Ideal) S_ .f32 0x3D372713#32)) (mulf (mulf x x) x)))))))

theorem act_at (x : FVec Ideal S4096x512 .f32) (i : S4096x512.Idx) : act x i = Gelu.gelu (x i) := by
  unfold Gelu.gelu Gelu.bend
  pointwise [act]

/-- What the reference computes of the arguments. -/
def whole (x : FVec Ideal S4096x512 .f32) (w : FVec Ideal S512x512 .f32) (b : FVec Ideal S512 .f32) : FVec Ideal S4096x512 .f32 :=
  addf (Host.dotGeneral (φ₁ := .f32) (φ₂ := .f32) dot_S4096x512_S512x512_S4096x512_1_0_0_1_n_n none (act x) w) (broadcastInDim S4096x512 ![0, 1] bcast_S1x512_S4096x512_0_1 (broadcastInDim S1x512 ![1] bcast_S512_S1x512_1 b))

theorem whole_at (x : FVec Ideal S4096x512 .f32) (w : FVec Ideal S512x512 .f32) (b : FVec Ideal S512 .f32) (i : S4096x512.Idx) :
    whole x w b i = ((∑ k : Fin 512, Gelu.gelu (x (ix2 (i 0) k)) * w (ix2 k (i 1))) + b (ix1 (i 1)) : EReal) := by
  pointwise [whole, act_at]

end Reference

open Cert.Kernel17Ideal Cert.Kernel17Ideal.Gen

/-- What the call leaves in a block. -/
theorem block_at (x : FVec Ideal S1024x512 .f32) (w : FVec Ideal S512x512 .bf16) (b : FVec Ideal S1x512 .f32) (y : S1024x512.Idx) :
    out0_3 (F := Ideal) x w b y = ((∑ k : Fin 512, Gelu.gelu (x (ix2 (y 0) k)) * w (ix2 k (y 1))) + b (ix2 0 (y 1)) : EReal) := by
  unfold out0_3
  rw [View.canon_unit_zero (by decide)]
  unfold Gelu.gelu Gelu.bend
  pointwise [k0_pay1]

/-- Every window's block index. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v2) := whole (m ((c.tc : Thread nD τ).loc main_arg0)) (m ((c.tc : Thread nD τ).loc main_arg1)) (m ((c.tc : Thread nD τ).loc main_arg2))

/-- The blocks cover the result, and each is the reference's. -/
theorem out_eq (m : (ℓ : Loc nD τ sig) → Buf (Elt Ideal) ℓ) (c : Dev nD) : (dats m 0 c).arrAt 3 cfg0.N = out m c := by
  refine (dats m 0 c).arrAt_eq_of_covers 3 _ (by decide +kernel) fun t hf y => ?_
  blk_simp
  unfold out
  rw [after0_3, block_at, whole_at]
  blk_point [iblk, V, idx t]

/-- The claim. -/
theorem algebraic : Cert.algebraic_Kernel17Ideal_Reference17Ideal := fun m g m' g' _ e => by
  refine ⟨fun c => out m c, (θ_run defs _ _).mono (fun r h c => ⟨((h c).1).trans (out_eq m c), (h c).2⟩) (Cert.Kernel17Ideal.Value.run_blocks m g), ?_⟩
  refine (θ_run Cert.Reference17Ideal.defs _ _).mono (fun r k c => ?_) (Cert.Reference17Ideal.Value.run m' g')
  obtain ⟨e0, e1, e2⟩ := e c
  refine ⟨((k c).1).trans ?_, (k c).2⟩
  · unfold out
    rw [e0, e1, e2]
    rfl

end Cert.Proof.GluGate

end
-- ==== Proof.ProjNorm.lean ====
/- The call of the output projection and the second normalisation: at exact real arithmetic both its results are the reference's. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Claim

@[expose] public section

set_option maxRecDepth 16384

noncomputable section

namespace Cert.Proof.ProjNorm

open Idealize.ShloMosaic Idealize.ShloMosaic.TcCoe Idealize.SL.Sem

/-- A row's entry of the normalisation. -/
def row (X G : Fin 1024 → EReal) (j : Fin 1024) : EReal :=
  X j * Ideal.rsqrt (Ideal.div (∑ k, X k * X k) (Ideal.ofBits .f32 0x44800000#32) + Ideal.ofBits .f32 0x358637BD#32) * G j

section Reference

open Cert.Reference18Ideal Cert.Reference18Ideal.Gen

/-- The reference's residual sum. -/
def whole (x : FVec Ideal S4096x1024 .f32) (w : FVec Ideal S1024x1024 .f32) (r : FVec Ideal S4096x1024 .f32) : FVec Ideal S4096x1024 .f32 :=
  addf r (Host.dotGeneral (φ₁ := .f32) (φ₂ := .f32) dot_S4096x1024_S1024x1024_S4096x1024_1_0_0_1_n_n none x w)

theorem whole_at (x : FVec Ideal S4096x1024 .f32) (w : FVec Ideal S1024x1024 .f32) (r : FVec Ideal S4096x1024 .f32) (i : S4096x1024.Idx) :
    whole x w r i = ((∑ k : Fin 1024, x (ix2 (i 0) k) * w (ix2 k (i 1))) + r i : EReal) := by
  pointwise [whole]
  exact add_comm _ _

/-- The reference's normalisation of an array, in the narrow format. -/
def norm (h : FVec Ideal S4096x1024 .f32) (g : FVec Ideal S1024 .f32) : FVec Ideal S4096x1024 .bf16 :=
  truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 g))) bitsLt_bf16_f32

theorem norm_at (h : FVec Ideal S4096x1024 .f32) (g : FVec Ideal S1024 .f32) (i : S4096x1024.Idx) :
    norm h g i = row (fun k => h (ix2 (i 0) k)) (fun k => g (ix1 k)) (i 1) := by
  unfold row
  pointwise [norm]

/-- The normalised residual sum, entry by entry. -/
theorem normed_at (x : FVec Ideal S4096x1024 .f32) (w : FVec Ideal S1024x1024 .f32) (r : FVec Ideal S4096x1024 .f32) (g : FVec Ideal S1024 .f32) (i : S4096x1024.Idx) :
    norm (whole x w r) g i = row (fun j => (∑ k : Fin 1024, x (ix2 (i 0) k) * w (ix2 k j)) + r (ix2 (i 0) j)) (fun k => g (ix1 k)) (i 1) := by
  rw [norm_at]
  congr 1
  funext j
  exact whole_at x w r (ix2 (i 0) j)

end Reference

open Cert.Kernel18Ideal Cert.Kernel18Ideal.Gen

/-- What the call leaves in a block of the residual sum. -/
theorem block_at (x w : FVec Ideal S1024x1024 .bf16) (r : FVec Ideal S1024x1024 .f32) (g : FVec Ideal S1x1024 .f32) (y : S1024x1024.Idx) :
    out0_4 (F := Ideal) x w r g y = ((∑ k : Fin 1024, x (ix2 (y 0) k) * w (ix2 k (y 1))) + r y : EReal) := by
  unfold out0_4
  rw [View.canon_unit_zero (by decide)]
  pointwise [k0_pay1]

/-- What the call leaves in a block of the normalised sum. -/
theorem block_normed_at (x w : FVec Ideal S1024x1024 .bf16) (r : FVec Ideal S1024x1024 .f32) (g : FVec Ideal S1x1024 .f32) (y : S1024x1024.Idx) :
    out0_5 (F := Ideal) x w r g y = row (fun j => (∑ k : Fin 1024, x (ix2 (y 0) k) * w (ix2 k j)) + r (ix2 (y 0) j)) (fun k => g (ix2 0 k)) (y 1) := by
  unfold out0_5
  rw [View.canon_unit_zero (by decide)]
  unfold row
  pointwise [k0_pay1, k0_pay2]

/-- Every window's block index. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The reference's residual sum of the launch's arguments. -/
def out (m : (ℓ : Loc nD τ sig) → Buf (Elt Ideal) ℓ) (c : Dev nD) : Buf (Elt Ideal) ((c.tc : Thread nD τ).loc main_v3_0) := whole (m ((c.tc : Thread nD τ).loc main_arg0)) (m ((c.tc : Thread nD τ).loc main_arg1)) (m ((c.tc : Thread nD τ).loc main_arg2))

/-- The blocks cover the residual sum, and each is the reference's. -/
theorem out_eq (m : (ℓ : Loc nD τ sig) → Buf (Elt Ideal) ℓ) (c : Dev nD) : (dats m 0 c).arrAt 4 cfg0.N = out m c := by
  refine (dats m 0 c).arrAt_eq_of_covers 4 _ (by decide +kernel) fun t hf y => ?_
  blk_simp
  unfold out
  rw [after0_4, block_at, whole_at]
  blk_point [iblk, V, idx t]

/-- The reference's normalised sum of the launch's arguments. -/
def outNormed (m : (ℓ : Loc nD τ sig) → Buf (Elt Ideal) ℓ) (c : Dev nD) : Buf (Elt Ideal) ((c.tc : Thread nD τ).loc main_v3_1) := norm (whole (m ((c.tc : Thread nD τ).loc main_arg0)) (m ((c.tc : Thread nD τ).loc main_arg1)) (m ((c.tc : Thread nD τ).loc main_arg2))) (m ((c.tc : Thread nD τ).loc main_arg3))

/-- The blocks cover the normalised sum, and each is the reference's. -/
theorem outNormed_eq (m : (ℓ : Loc nD τ sig) → Buf (Elt Ideal) ℓ) (c : Dev nD) : (dats m 0 c).arrAt 5 cfg0.N = outNormed m c := by
  refine (dats m 0 c).arrAt_eq_of_covers 5 _ (by decide +kernel) fun t hf y => ?_
  blk_simp
  unfold outNormed
  rw [after0_5, block_normed_at, normed_at]
  blk_point [iblk, V, idx t]

/-- The claim. -/
theorem algebraic : Cert.algebraic_Kernel18Ideal_Reference18Ideal := fun m g m' g' _ e => by
  refine ⟨fun c => out m c, fun c => outNormed m c, (θ_run defs _ _).mono (fun r h c => ⟨((h c).1).trans (out_eq m c), ((h c).2.1).trans (outNormed_eq m c), (h c).2.2⟩) (Cert.Kernel18Ideal.Value.run_blocks m g), ?_⟩
  refine (θ_run Cert.Reference18Ideal.defs _ _).mono (fun r k c => ?_) (Cert.Reference18Ideal.Value.run m' g')
  obtain ⟨e0, e1, e2, e3⟩ := e c
  refine ⟨((k c).1).trans ?_, ((k c).2.1).trans ?_, (k c).2.2⟩
  · unfold out
    rw [e0, e1, e2]
    rfl
  · unfold outNormed
    rw [e0, e1, e2, e3]
    rfl

end Cert.Proof.ProjNorm

end
-- ==== Proof.GluIn.lean ====
/- The call of the gradient at the gated unit's input: at exact real arithmetic its result is the reference's. -/
module

public import proofs.«01_k».proof.Defs
public import proofs.«01_k».proof.Proof.Gen.Kernel19Ideal.Value
public import proofs.«01_k».proof.Proof.Gen.Reference19Ideal.Run
public import proofs.«01_k».proof.Proof.Gelu
public import Idealize.ShloMosaic.Lib.Pipeline.ValueKit
public import Idealize.ShloMosaic.Lib.Claim

@[expose] public section

set_option maxRecDepth 16384

noncomputable section

namespace Cert.Proof.GluIn

open Idealize.ShloMosaic Idealize.ShloMosaic.TcCoe Idealize.SL.Sem

section Reference

open Cert.Reference19Ideal Cert.Reference19Ideal.Gen

/-- The reference's gradient at the activation: the gate's product's and the given one. -/
def cot (w : FVec Ideal S512x512 .f32) (dg da : FVec Ideal S4096x512 .f32) : FVec Ideal S4096x512 .f32 :=
  addf da (Host.dotGeneral (φ₁ := .f32) (φ₂ := .f32) dot_S4096x512_S512x512_S4096x512_1_1_0_0_n_n none dg w)

theorem cot_at (w : FVec Ideal S512x512 .f32) (dg da : FVec Ideal S4096x512 .f32) (i : S4096x512.Idx) :
    cot w dg da i = ((∑ k : Fin 512, dg (ix2 (i 0) k) * w (ix2 (i 1) k)) + da i : EReal) := by
  pointwise [cot]
  exact add_comm _ _

/-- The curve's inner value of an array. -/
def bends (x : FVec Ideal S4096x512 .f32) : FVec Ideal S4096x512 .f32 :=
  Host.tanh (mulf (broadcastInDim S4096x512 ![] bcast_S_S4096x512 (constant (F := Ideal) S_ .f32 0x3F4C422A#32)) (addf x (mulf (broadcastInDim S4096x512 ![] bcast_S_S4096x512 (constant (F := Ideal) S_ .f32 0x3D372713#32)) (mulf (mulf x x) x))))

theorem bends_at (x : FVec Ideal S4096x512 .f32) (i : S4096x512.Idx) : bends x i = Gelu.bend (x i) := by
  unfold Gelu.bend
  pointwise [bends]

/-- The reference's gradient through the inner value's cubic. -/
def inner (x d : FVec Ideal S4096x512 .f32) : FVec Ideal S4096x512 .f32 :=
  mulf (broadcastInDim S4096x512 ![] bcast_S_S4096x512 (constant (F := Ideal) S_ .f32 0x3F4C422A#32)) (mulf (mulf (broadcastInDim S4096x512 ![] bcast_S_S4096x512 (constant (F := Ideal) S_ .f32 0x3F000000#32)) (mulf x d)) (mulf (addf (broadcastInDim S4096x512 ![] bcast_S_S4096x512 (constant (F := Ideal) S_ .f32 0x3F800000#32)) (bends x)) (subf (broadcastInDim S4096x512 ![] bcast_S_S4096x512 (constant (F := Ideal) S_ .f32 0x3F800000#32)) (bends x))))

/-- The reference's gradient through the activation. -/
def pull (x d : FVec Ideal S4096x512 .f32) : FVec Ideal S4096x512 .f32 :=
  addf (addf (mulf d (mulf (broadcastInDim S4096x512 ![] bcast_S_S4096x512 (constant (F := Ideal) S_ .f32 0x3F000000#32)) (addf (broadcastInDim S4096x512 ![] bcast_S_S4096x512 (constant (F := Ideal) S_ .f32 0x3F800000#32)) (bends x)))) (inner x d)) (mulf (mulf (broadcastInDim S4096x512 ![] bcast_S_S4096x512 (constant (F := Ideal) S_ .f32 0x3D372713#32)) (inner x d)) (mulf (broadcastInDim S4096x512 ![] bcast_S_S4096x512 (constant (F := Ideal) S_ .f32 0x40400000#32)) (mulf x x)))

theorem inner_at (x d : FVec Ideal S4096x512 .f32) (i : S4096x512.Idx) : inner x d i = Gelu.inner (x i) (d i) := by
  unfold Gelu.inner
  pointwise [inner, bends_at]

theorem pull_at (x d : FVec Ideal S4096x512 .f32) (i : S4096x512.Idx) : pull x d i = Gelu.back (x i) (d i) := by
  unfold Gelu.back
  rw [← Gelu.thrice]
  pointwise [pull, bends_at, inner_at]
  ac_rfl

/-- What the reference computes of the arguments. -/
def whole (x : FVec Ideal S4096x512 .f32) (w : FVec Ideal S512x512 .f32) (dg da : FVec Ideal S4096x512 .f32) : FVec Ideal S4096x512 .f32 := pull x (cot w dg da)

theorem whole_at (x : FVec Ideal S4096x512 .f32) (w : FVec Ideal S512x512 .f32) (dg da : FVec Ideal S4096x512 .f32) (i : S4096x512.Idx) :
    whole x w dg da i = Gelu.back (x i) ((∑ k : Fin 512, dg (ix2 (i 0) k) * w (ix2 (i 1) k)) + da i : EReal) := by
  unfold whole
  rw [pull_at, cot_at]

end Reference

open Cert.Kernel19Ideal Cert.Kernel19Ideal.Gen

/-- The gradient at the activation in a block. -/
theorem cot_block (dg : FVec Ideal S1024x512 .bf16) (w : FVec Ideal S512x512 .bf16) (da : FVec Ideal S1024x512 .f32) (y : S1024x512.Idx) :
    k0_pay4 (F := Ideal) dg w da y = ((∑ k : Fin 512, dg (ix2 (y 0) k) * w (ix2 (y 1) k)) + da y : EReal) := by
  pointwise [k0_pay4]

theorem bend_block (x : FVec Ideal S1024x512 .f32) (y : S1024x512.Idx) : k0_pay3 (F := Ideal) x y = Gelu.bend (x y) := by
  unfold Gelu.bend
  pointwise [k0_pay3, k0_pay2]

theorem inner_block (dg : FVec Ideal S1024x512 .bf16) (w : FVec Ideal S512x512 .bf16) (da x : FVec Ideal S1024x512 .f32) (y : S1024x512.Idx) :
    k0_pay5 (F := Ideal) dg w da x y = Gelu.inner (x y) (k0_pay4 (F := Ideal) dg w da y) := by
  unfold Gelu.inner
  pointwise [k0_pay5, bend_block]

/-- What the call leaves in a block. -/
theorem block_at (dg : FVec Ideal S1024x512 .bf16) (w : FVec Ideal S512x512 .bf16) (da x : FVec Ideal S1024x512 .f32) (y : S1024x512.Idx) :
    out0_4 (F := Ideal) dg w da x y = Gelu.back (x y) ((∑ k : Fin 512, dg (ix2 (y 0) k) * w (ix2 (y 1) k)) + da y : EReal) := by
  unfold out0_4
  have h0 : View.ld (Val := Elt Ideal) (e' := .bf16) dg r0_0 = dg := View.ld_unit_zero (by decide) _ _
  have h1 : View.ld (Val := Elt Ideal) (e' := .bf16) w r0_1 = w := View.ld_unit_zero (by decide) _ _
  have h2 : View.ld (Val := Elt Ideal) (e' := .f32) da r0_0 = da := View.ld_unit_zero (by decide) _ _
  rw [View.canon_unit_zero (by decide), h0, h1, h2, ← cot_block]
  rw [← Gelu.back_terms]
  pointwise [k0_pay1, k0_pay2, k0_pay6, k0_pay7, k0_pay8, k0_pay9, bend_block, inner_block]

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v2) := whole (m ((c.tc : Thread nD τ).loc main_arg0)) (m ((c.tc : Thread nD τ).loc main_arg1)) (m ((c.tc : Thread nD τ).loc main_arg3)) (m ((c.tc : Thread nD τ).loc main_arg4))

/-- The blocks cover the result, and each is the reference's. -/
theorem out_eq (m : (ℓ : Loc nD τ sig) → Buf (Elt Ideal) ℓ) (c : Dev nD) : (dats m 0 c).arrAt 4 cfg0.N = out m c := by
  refine (dats m 0 c).arrAt_eq_of_covers 4 _ (by decide +kernel) fun t hf y => ?_
  blk_simp
  unfold out
  rw [after0_4, block_at, whole_at]
  blk_point [iblk, V, idx t]

/-- The claim. -/
theorem algebraic : Cert.algebraic_Kernel19Ideal_Reference19Ideal := fun m g m' g' _ e => by
  refine ⟨fun c => out m c, (θ_run defs _ _).mono (fun r h c => ⟨((h c).1).trans (out_eq m c), (h c).2⟩) (Cert.Kernel19Ideal.Value.run_blocks m g), ?_⟩
  refine (θ_run Cert.Reference19Ideal.defs _ _).mono (fun r k c => ?_) (Cert.Reference19Ideal.Value.run m' g')
  obtain ⟨e0, e1, e2, e3, e4⟩ := e c
  refine ⟨((k c).1).trans ?_, (k c).2⟩
  · unfold out
    rw [e0, e1, e3, e4]
    rfl

end Cert.Proof.GluIn

end
-- ==== Proof.Mix.lean ====
/- The two mixers' normalisation over the extended reals, and its slope. -/
module

public import proofs.«01_k».proof.Proof.Gelu

@[expose] public section

noncomputable section

namespace Cert.Proof.Mix

open Idealize.ShloMosaic

/-- A row's mean square, kept from zero. -/
def power (X : Fin 512 → EReal) : EReal :=
  Ideal.div (∑ k, X k * X k) (Ideal.ofBits .f32 0x44000000#32) + Ideal.ofBits .f32 0x358637BD#32

/-- A row's entry of the normalisation. -/
def row (X G : Fin 512 → EReal) (j : Fin 512) : EReal := X j * Ideal.rsqrt (power X) * G j

/-- What each entry's slope shares: the row's sum against the gained gradient `A`, by the slope of the mean square. -/
def pull (X A : Fin 512 → EReal) : EReal :=
  Ideal.div ((∑ k, X k * A k) * (Ideal.ofBits .f32 0xBF000000#32 * Ideal.div (Ideal.rsqrt (power X)) (power X))) (Ideal.ofBits .f32 0x44000000#32)

/-- A row's entry of the normalisation's gradient. -/
def back (X A : Fin 512 → EReal) (j : Fin 512) : EReal :=
  A j * Ideal.rsqrt (power X) + X j * pull X A + pull X A * X j

/-- The gated unit's output. -/
def gated (y g : EReal) : EReal := Gelu.gelu y * Ideal.logistic g

/-- Two arrays side by side, entry by entry. -/
theorem beside {n : Nat} (a b : (⟨2, ![n, 512]⟩ : Shape).Idx → EReal) (h : Shape.Concatenates [⟨2, ![n, 512]⟩, ⟨2, ![n, 512]⟩] (⟨2, ![n, 1024]⟩ : Shape) 1)
    (i : (⟨2, ![n, 1024]⟩ : Shape).Idx) :
    concatenate (⟨2, ![n, 1024]⟩ : Shape) 1 [⟨⟨2, ![n, 512]⟩, a⟩, ⟨⟨2, ![n, 512]⟩, b⟩] h i
      = if q : (i 1).val < 512 then a (ix2 (i 0) ⟨(i 1).val, q⟩)
        else b (ix2 (i 0) ⟨(i 1).val - 512, by have : (i 1).val < 1024 := (i 1).isLt; omega⟩) := by
  split
  · rename_i q
    refine concatenate_pair_apply_left 1 a b h i rfl _ fun c => ?_
    fin_cases c <;> rfl
  · rename_i q
    refine concatenate_pair_apply_right 1 a b h i rfl rfl _ (fun c hc => ?_) ?_
    · fin_cases c
      · rfl
      · exact absurd rfl hc
    · show (i 1).val - 512 + 512 = (i 1).val
      omega

/-- A column of the attention's half, and of the gated unit's. -/
def lo (k : Fin 512) : Fin 1024 := ⟨k.val, by omega⟩

def hi (k : Fin 512) : Fin 1024 := ⟨512 + k.val, by omega⟩

theorem slice_lo {n : Nat} (x : (⟨2, ![n, 1024]⟩ : Shape).Idx → EReal) (h : (⟨2, ![n, 1024]⟩ : Shape).Slices ![0, 0] ⟨2, ![n, 512]⟩)
    (i : (⟨2, ![n, 512]⟩ : Shape).Idx) : extractStridedSlice ⟨2, ![n, 512]⟩ ![0, 0] x h i = x (ix2 (i 0) (lo (i 1))) := by
  refine congrArg x (funext fun a => ?_)
  fin_cases a
  · exact Fin.ext (Nat.zero_add _)
  · exact Fin.ext (Nat.zero_add _)

theorem slice_hi {n : Nat} (x : (⟨2, ![n, 1024]⟩ : Shape).Idx → EReal) (h : (⟨2, ![n, 1024]⟩ : Shape).Slices ![0, 512] ⟨2, ![n, 512]⟩)
    (i : (⟨2, ![n, 512]⟩ : Shape).Idx) : extractStridedSlice ⟨2, ![n, 512]⟩ ![0, 512] x h i = x (ix2 (i 0) (hi (i 1))) := by
  refine congrArg x (funext fun a => ?_)
  fin_cases a
  · exact Fin.ext (Nat.zero_add _)
  · rfl

/-- The gained gradient at a half's column: the output projection's, by the half's gain. -/
def cot (p : Fin 512 → Fin 1024) (D : Fin 1024 → EReal) (W : Fin 1024 → Fin 1024 → EReal) (G : Fin 512 → EReal) (k : Fin 512) : EReal :=
  (∑ l, D l * W (p k) l) * G k

/-- The gradient at the attention's output. -/
def attn (S : Fin 512 → EReal) (D : Fin 1024 → EReal) (W : Fin 1024 → Fin 1024 → EReal) (GA : Fin 512 → EReal) (j : Fin 512) : EReal :=
  back S (cot lo D W GA) j

/-- The gradient at the gated unit's output. -/
def unit (Y G : Fin 512 → EReal) (D : Fin 1024 → EReal) (W : Fin 1024 → Fin 1024 → EReal) (GS : Fin 512 → EReal) (j : Fin 512) : EReal :=
  back (fun k => gated (Y k) (G k)) (cot hi D W GS) j

/-- The gradient at the activation. -/
def atAct (Y G : Fin 512 → EReal) (D : Fin 1024 → EReal) (W : Fin 1024 → Fin 1024 → EReal) (GS : Fin 512 → EReal) (j : Fin 512) : EReal :=
  unit Y G D W GS j * Ideal.logistic (G j)

/-- The gradient at the gate's input. -/
def atGate (Y G : Fin 512 → EReal) (D : Fin 1024 → EReal) (W : Fin 1024 → Fin 1024 → EReal) (GS : Fin 512 → EReal) (j : Fin 512) : EReal :=
  Gelu.gelu (Y j) * unit Y G D W GS j * (Ideal.logistic (G j) * (Ideal.ofBits .f32 0x3F800000#32 - Ideal.logistic (G j)))

end Cert.Proof.Mix

end
-- ==== Proof.MixBack.lean ====
/- The call of the gradient at the mixers' outputs: at exact real arithmetic its six results are the reference's. -/
module

public import proofs.«01_k».proof.Defs
public import proofs.«01_k».proof.Proof.Gen.Kernel20Ideal.Frame
public import Idealize.ShloMosaic.Lib.Pipeline.Value
public import proofs.«01_k».proof.Proof.Gen.Reference20Ideal.Run
public import proofs.«01_k».proof.Proof.Mix
public import proofs.«01_k».proof.Proof.Tiles
public import Idealize.ShloMosaic.Lib.Pipeline.ValueKit
public import Idealize.ShloMosaic.Lib.Claim

@[expose] public section

set_option maxRecDepth 16384

noncomputable section

namespace Cert.Proof.MixBack

open Idealize.ShloMosaic Idealize.ShloMosaic.TcCoe Idealize.SL.Sem

/-- A row's term of a gain's gradient at feature `j`, of the gradient `a` above the gain. -/
def part (X : Fin 512 → EReal) (a : EReal) (j : Fin 512) : EReal := X j * Ideal.rsqrt (Mix.power X) * a

theorem part_eq {X X' : Fin 512 → EReal} {a a' : EReal} (j : Fin 512) (h : ∀ k, X k = X' k) (h' : a = a') : part X a j = part X' a' j := by
  rw [funext h, h']

theorem atGate_eq {Y Y' G G' : Fin 512 → EReal} {D D' : Fin 1024 → EReal} {W W' : Fin 1024 → Fin 1024 → EReal} {GS GS' : Fin 512 → EReal} (j : Fin 512)
    (h : ∀ k, Y k = Y' k) (h1 : ∀ k, G k = G' k) (h2 : ∀ k, D k = D' k) (h3 : ∀ k l, W k l = W' k l) (h4 : ∀ k, GS k = GS' k) :
    Mix.atGate Y G D W GS j = Mix.atGate Y' G' D' W' GS' j := by
  rw [funext h, funext h1, funext h2, funext fun k => funext (h3 k), funext h4]

section Reference

open Cert.Reference20Ideal Cert.Reference20Ideal.Gen

/-- The activation of an array, as the reference prints it. -/
def act (x : FVec Ideal S4096x512 .f32) : FVec Ideal S4096x512 .f32 :=
  mulf x (mulf (broadcastInDim S4096x512 ![] bcast_S_S4096x512 (constant (F := Ideal) S_ .f32 0x3F000000#32)) (addf (broadcastInDim S4096x512 ![] bcast_S_S4096x512 (constant (F := Ideal) S_ .f32 0x3F800000#32)) (Host.tanh (mulf (broadcastInDim S4096x512 ![] bcast_S_S4096x512 (constant (F := Ideal) S_ .f32 0x3F4C422A#32)) (addf x (mulf (broadcastInDim S4096x512 ![] bcast_S_S4096x512 (constant (F := Ideal) S_ .f32 0x3D372713#32)) (mulf (mulf x x) x)))))))

theorem act_at (x : FVec Ideal S4096x512 .f32) (i : S4096x512.Idx) : act x i = Gelu.gelu (x i) := by
  unfold Gelu.gelu Gelu.bend
  pointwise [act]

/-- The reference's gated unit's output. -/
def gated (y g : FVec Ideal S4096x512 .f32) : FVec Ideal S4096x512 .f32 :=
  mulf (act y) (Host.divf (broadcastInDim S4096x512 ![] bcast_S_S4096x512 (constant (F := Ideal) S_ .f32 0x3F800000#32)) (addf (broadcastInDim S4096x512 ![] bcast_S_S4096x512 (constant (F := Ideal) S_ .f32 0x3F800000#32)) (Host.exp (Host.negf g))))

theorem gated_at (y g : FVec Ideal S4096x512 .f32) (i : S4096x512.Idx) : gated y g i = Mix.gated (y i) (g i) := by
  unfold Mix.gated Ideal.logistic
  pointwise [gated, act_at]

/-- The reference's gradient at the projection's input. -/
def dm (d : FVec Ideal S4096x1024 .f32) (w : FVec Ideal S1024x1024 .f32) : FVec Ideal S4096x1024 .f32 :=
  Host.dotGeneral (φ₁ := .f32) (φ₂ := .f32) dot_S4096x1024_S1024x1024_S4096x1024_1_1_0_0_n_n none d w

theorem dm_at (d : FVec Ideal S4096x1024 .f32) (w : FVec Ideal S1024x1024 .f32) (i : S4096x1024.Idx) : dm d w i = (∑ l : Fin 1024, d (ix2 (i 0) l) * w (ix2 (i 1) l) : EReal) := by
  pointwise [dm]

/-- An array by the gain of its columns. -/
def gain (x : FVec Ideal S4096x512 .f32) (g : FVec Ideal S512 .f32) : FVec Ideal S4096x512 .f32 :=
  mulf x (broadcastInDim S4096x512 ![0, 1] bcast_S1x512_S4096x512_0_1 (broadcastInDim S1x512 ![1] bcast_S512_S1x512_1 g))

theorem gain_at (x : FVec Ideal S4096x512 .f32) (g : FVec Ideal S512 .f32) (i : S4096x512.Idx) : gain x g i = (x i * g (ix1 (i 1)) : EReal) := by
  pointwise [gain]

/-- The attention's half of the gained gradient. -/
def cotLo (d : FVec Ideal S4096x1024 .f32) (w : FVec Ideal S1024x1024 .f32) (g : FVec Ideal S512 .f32) : FVec Ideal S4096x512 .f32 :=
  gain (extractStridedSlice S4096x512 ![0, 0] (dm d w) slices_S4096x1024_S4096x512_0_0) g

theorem cotLo_at (d : FVec Ideal S4096x1024 .f32) (w : FVec Ideal S1024x1024 .f32) (g : FVec Ideal S512 .f32) (i : S4096x512.Idx) : cotLo d w g i = Mix.cot Mix.lo (fun l => d (ix2 (i 0) l)) (fun k l => w (ix2 k l)) (fun k => g (ix1 k)) (i 1) := by
  unfold cotLo
  rw [gain_at, Mix.slice_lo (dm d w) slices_S4096x1024_S4096x512_0_0 i, dm_at]
  rfl

/-- The gated unit's half of the gained gradient. -/
def cotHi (d : FVec Ideal S4096x1024 .f32) (w : FVec Ideal S1024x1024 .f32) (g : FVec Ideal S512 .f32) : FVec Ideal S4096x512 .f32 :=
  gain (extractStridedSlice S4096x512 ![0, 512] (dm d w) slices_S4096x1024_S4096x512_0_512) g

theorem cotHi_at (d : FVec Ideal S4096x1024 .f32) (w : FVec Ideal S1024x1024 .f32) (g : FVec Ideal S512 .f32) (i : S4096x512.Idx) : cotHi d w g i = Mix.cot Mix.hi (fun l => d (ix2 (i 0) l)) (fun k l => w (ix2 k l)) (fun k => g (ix1 k)) (i 1) := by
  unfold cotHi
  rw [gain_at, Mix.slice_hi (dm d w) slices_S4096x1024_S4096x512_0_512 i, dm_at]
  rfl

/-- The reference's gradient through the normalisation of `x`, of the gained gradient `a`. -/
def back (x a : FVec Ideal S4096x512 .f32) : FVec Ideal S4096x512 .f32 :=
  addf (addf (mulf a (broadcastInDim S4096x512 ![0, 1] bcast_S4096x1_S4096x512_0_1 (Host.rsqrt (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))))) (mulf x (broadcastInDim S4096x512 ![0] bcast_S4096_S4096x512_0 (Host.reduceAdd (Host.divf (mulf (shapeCast _ (Host.reduceAdd (mulf x a) (constant (F := Ideal) S_ .f32 0x00000000#32) reducesTo_S4096x512_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))))) (broadcastInDim S4096x1 ![] bcast_S_S4096x1 (constant (F := Ideal) S_ .f32 0x44000000#32))) (constant (F := Ideal) S_ .f32 0x00000000#32) reducesTo_S4096x1_S4096_d1 h_S_)))) (mulf (broadcastInDim S4096x512 ![0] bcast_S4096_S4096x512_0 (Host.reduceAdd (Host.divf (mulf (shapeCast _ (Host.reduceAdd (mulf x a) (constant (F := Ideal) S_ .f32 0x00000000#32) reducesTo_S4096x512_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))))) (broadcastInDim S4096x1 ![] bcast_S_S4096x1 (constant (F := Ideal) S_ .f32 0x44000000#32))) (constant (F := Ideal) S_ .f32 0x00000000#32) reducesTo_S4096x1_S4096_d1 h_S_)) x)

theorem back_at (x a : FVec Ideal S4096x512 .f32) (i : S4096x512.Idx) :
    back x a i = Mix.back (fun k => x (ix2 (i 0) k)) (fun k => a (ix2 (i 0) k)) (i 1) := by
  unfold Mix.back Mix.pull Mix.power
  pointwise [back]
  simp only [Fin.sum_univ_one]

/-- The reference's gradient at the attention's output. -/
def wholeAttn (s : FVec Ideal S4096x512 .f32) (d : FVec Ideal S4096x1024 .f32) (w : FVec Ideal S1024x1024 .f32) (ga : FVec Ideal S512 .f32) : FVec Ideal S4096x512 .f32 := back s (cotLo d w ga)

theorem wholeAttn_at (s : FVec Ideal S4096x512 .f32) (d : FVec Ideal S4096x1024 .f32) (w : FVec Ideal S1024x1024 .f32) (ga : FVec Ideal S512 .f32) (i : S4096x512.Idx) :
    wholeAttn s d w ga i = Mix.attn (fun k => s (ix2 (i 0) k)) (fun l => d (ix2 (i 0) l)) (fun k l => w (ix2 k l)) (fun k => ga (ix1 k)) (i 1) := by
  unfold wholeAttn
  rw [back_at]
  simp only [cotLo_at]
  rfl

/-- The reference's gradient at the gated unit's output. -/
def unit (y g : FVec Ideal S4096x512 .f32) (d : FVec Ideal S4096x1024 .f32) (w : FVec Ideal S1024x1024 .f32) (gs : FVec Ideal S512 .f32) : FVec Ideal S4096x512 .f32 := back (gated y g) (cotHi d w gs)

theorem unit_at (y g : FVec Ideal S4096x512 .f32) (d : FVec Ideal S4096x1024 .f32) (w : FVec Ideal S1024x1024 .f32) (gs : FVec Ideal S512 .f32) (i : S4096x512.Idx) :
    unit y g d w gs i = Mix.unit (fun k => y (ix2 (i 0) k)) (fun k => g (ix2 (i 0) k)) (fun l => d (ix2 (i 0) l)) (fun k l => w (ix2 k l)) (fun k => gs (ix1 k)) (i 1) := by
  unfold unit
  rw [back_at]
  simp only [cotHi_at, gated_at]
  rfl

/-- The reference's gate. -/
def gate (g : FVec Ideal S4096x512 .f32) : FVec Ideal S4096x512 .f32 := Host.divf (broadcastInDim S4096x512 ![] bcast_S_S4096x512 (constant (F := Ideal) S_ .f32 0x3F800000#32)) (addf (broadcastInDim S4096x512 ![] bcast_S_S4096x512 (constant (F := Ideal) S_ .f32 0x3F800000#32)) (Host.exp (Host.negf g)))

theorem gate_at (g : FVec Ideal S4096x512 .f32) (i : S4096x512.Idx) : gate g i = Ideal.logistic (g i) := by
  unfold Ideal.logistic
  pointwise [gate]

/-- The reference's gradient at the activation. -/
def wholeAct (y g : FVec Ideal S4096x512 .f32) (d : FVec Ideal S4096x1024 .f32) (w : FVec Ideal S1024x1024 .f32) (gs : FVec Ideal S512 .f32) : FVec Ideal S4096x512 .f32 := mulf (unit y g d w gs) (gate g)

theorem wholeAct_at (y g : FVec Ideal S4096x512 .f32) (d : FVec Ideal S4096x1024 .f32) (w : FVec Ideal S1024x1024 .f32) (gs : FVec Ideal S512 .f32) (i : S4096x512.Idx) :
    wholeAct y g d w gs i = Mix.atAct (fun k => y (ix2 (i 0) k)) (fun k => g (ix2 (i 0) k)) (fun l => d (ix2 (i 0) l)) (fun k l => w (ix2 k l)) (fun k => gs (ix1 k)) (i 1) := by
  unfold Mix.atAct
  rw [← unit_at]
  pointwise [wholeAct, gate_at]

/-- The reference's gradient at the gate's input. -/
def wholeGate (y g : FVec Ideal S4096x512 .f32) (d : FVec Ideal S4096x1024 .f32) (w : FVec Ideal S1024x1024 .f32) (gs : FVec Ideal S512 .f32) : FVec Ideal S4096x512 .bf16 :=
  truncf .bf16 (mulf (mulf (act y) (unit y g d w gs)) (mulf (gate g) (subf (broadcastInDim S4096x512 ![] bcast_S_S4096x512 (constant (F := Ideal) S_ .f32 0x3F800000#32)) (gate g)))) bitsLt_bf16_f32

theorem wholeGate_at (y g : FVec Ideal S4096x512 .f32) (d : FVec Ideal S4096x1024 .f32) (w : FVec Ideal S1024x1024 .f32) (gs : FVec Ideal S512 .f32) (i : S4096x512.Idx) :
    wholeGate y g d w gs i = Mix.atGate (fun k => y (ix2 (i 0) k)) (fun k => g (ix2 (i 0) k)) (fun l => d (ix2 (i 0) l)) (fun k l => w (ix2 k l)) (fun k => gs (ix1 k)) (i 1) := by
  unfold Mix.atGate
  rw [← unit_at]
  pointwise [wholeGate, act_at, gate_at]

/-- The reference's gradient of a gain, of the gradient `a` above it. -/
def gainOf (x a : FVec Ideal S4096x512 .f32) : FVec Ideal S512 .f32 :=
  Host.reduceAdd (shapeCast _ (Host.reduceAdd (mulf (mulf x (broadcastInDim S4096x512 ![0, 1] bcast_S4096x1_S4096x512_0_1 (Host.rsqrt (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))))) a) (constant (F := Ideal) S_ .f32 0x00000000#32) reducesTo_S4096x512_S512_d0 h_S_) shapeCasts_S512_S1x512) (constant (F := Ideal) S_ .f32 0x00000000#32) reducesTo_S1x512_S512_d0 h_S_

theorem gainOf_at (x a : FVec Ideal S4096x512 .f32) (i : S512.Idx) : gainOf x a i = ∑ p : Fin 4096, part (fun k => x (ix2 p k)) (a (ix2 p (i 0))) (i 0) := by
  unfold part Mix.power
  pointwise [gainOf]
  simp only [Fin.sum_univ_one]

/-- A row's term of the attention's gain. -/
def termAttn (s : FVec Ideal S4096x512 .f32) (d : FVec Ideal S4096x1024 .f32) (w : FVec Ideal S1024x1024 .f32) (j : Fin 512) (p : Fin 4096) : EReal :=
  part (fun k => s (ix2 p k)) (∑ l : Fin 1024, d (ix2 p l) * w (ix2 (Mix.lo j) l)) j

/-- The reference's gradient of the attention's gain. -/
def gainAttn (s : FVec Ideal S4096x512 .f32) (d : FVec Ideal S4096x1024 .f32) (w : FVec Ideal S1024x1024 .f32) : FVec Ideal S512 .f32 :=
  gainOf s (extractStridedSlice S4096x512 ![0, 0] (dm d w) slices_S4096x1024_S4096x512_0_0)

theorem gainAttn_at (s : FVec Ideal S4096x512 .f32) (d : FVec Ideal S4096x1024 .f32) (w : FVec Ideal S1024x1024 .f32) (i : S512.Idx) :
    gainAttn s d w i = ∑ p : Fin 4096, termAttn s d w (i 0) p := by
  unfold gainAttn
  rw [gainOf_at]
  refine Finset.sum_congr rfl fun p _ => ?_
  rw [Mix.slice_lo (dm d w) slices_S4096x1024_S4096x512_0_0 (ix2 p (i 0)), dm_at]
  rfl

/-- A row's term of the gated unit's gain. -/
def termUnit (y g : FVec Ideal S4096x512 .f32) (d : FVec Ideal S4096x1024 .f32) (w : FVec Ideal S1024x1024 .f32) (j : Fin 512) (p : Fin 4096) : EReal :=
  part (fun k => Mix.gated (y (ix2 p k)) (g (ix2 p k))) (∑ l : Fin 1024, d (ix2 p l) * w (ix2 (Mix.hi j) l)) j

/-- The reference's gradient of the gated unit's gain. -/
def gainUnit (y g : FVec Ideal S4096x512 .f32) (d : FVec Ideal S4096x1024 .f32) (w : FVec Ideal S1024x1024 .f32) : FVec Ideal S512 .f32 :=
  gainOf (gated y g) (extractStridedSlice S4096x512 ![0, 512] (dm d w) slices_S4096x1024_S4096x512_0_512)

theorem gainUnit_at (y g : FVec Ideal S4096x512 .f32) (d : FVec Ideal S4096x1024 .f32) (w : FVec Ideal S1024x1024 .f32) (i : S512.Idx) :
    gainUnit y g d w i = ∑ p : Fin 4096, termUnit y g d w (i 0) p := by
  unfold gainUnit
  rw [gainOf_at]
  refine Finset.sum_congr rfl fun p _ => ?_
  rw [Mix.slice_hi (dm d w) slices_S4096x1024_S4096x512_0_512 (ix2 p (i 0)), dm_at]
  simp only [gated_at]
  rfl

/-- A row's term of the bias. -/
def termBias (y g : FVec Ideal S4096x512 .f32) (d : FVec Ideal S4096x1024 .f32) (w : FVec Ideal S1024x1024 .f32) (gs : FVec Ideal S512 .f32) (j : Fin 512) (p : Fin 4096) : EReal :=
  Mix.atGate (fun k => y (ix2 p k)) (fun k => g (ix2 p k)) (fun l => d (ix2 p l)) (fun k l => w (ix2 k l)) (fun k => gs (ix1 k)) j

/-- The reference's gradient of the gate's bias: the gradient at the gate's input, summed before it is narrowed. -/
def bias (y g : FVec Ideal S4096x512 .f32) (d : FVec Ideal S4096x1024 .f32) (w : FVec Ideal S1024x1024 .f32) (gs : FVec Ideal S512 .f32) : FVec Ideal S512 .f32 :=
  Host.reduceAdd (mulf (mulf (act y) (unit y g d w gs)) (mulf (gate g) (subf (broadcastInDim S4096x512 ![] bcast_S_S4096x512 (constant (F := Ideal) S_ .f32 0x3F800000#32)) (gate g)))) (constant (F := Ideal) S_ .f32 0x00000000#32) reducesTo_S4096x512_S512_d0 h_S_

theorem bias_at (y g : FVec Ideal S4096x512 .f32) (d : FVec Ideal S4096x1024 .f32) (w : FVec Ideal S1024x1024 .f32) (gs : FVec Ideal S512 .f32) (i : S512.Idx) :
    bias y g d w gs i = ∑ p : Fin 4096, termBias y g d w gs (i 0) p := by
  have h : bias y g d w gs i = ∑ p : Fin 4096, wholeGate y g d w gs (ix2 p (i 0)) := by
    pointwise [bias, wholeGate]
  rw [h]
  refine Finset.sum_congr rfl fun p _ => ?_
  rw [wholeGate_at]
  rfl

end Reference

open Cert.Kernel20Ideal Cert.Kernel20Ideal.Gen

/-- The gradient at the projection's input in a block. -/
theorem dm_block (d : FVec Ideal S512x1024 .f32) (w : FVec Ideal S1024x1024 .bf16) (i : S512x1024.Idx) :
    k0_pay2 (F := Ideal) d w i = (∑ l : Fin 1024, d (ix2 (i 0) l) * w (ix2 (i 1) l) : EReal) := by
  pointwise [k0_pay2]

theorem lo_block (v : FVec Ideal S512x1024 .f32) (i : S512x512.Idx) : k0_pay14 (F := Ideal) v i = v (ix2 (i 0) (Mix.lo (i 1))) :=
  Mix.slice_lo v (by decide) i

theorem hi_block (v : FVec Ideal S512x1024 .f32) (i : S512x512.Idx) : k0_pay15 (F := Ideal) v i = v (ix2 (i 0) (Mix.hi (i 1))) :=
  Mix.slice_hi v (by decide) i

theorem act_block (y : FVec Ideal S512x512 .f32) (i : S512x512.Idx) : k0_pay5 (F := Ideal) y i = Gelu.gelu (y i) := by
  unfold Gelu.gelu Gelu.bend
  pointwise [k0_pay5]

theorem gated_block (g a : FVec Ideal S512x512 .f32) (i : S512x512.Idx) : k0_pay11 (F := Ideal) g a i = (a i * Ideal.logistic (g i) : EReal) := by
  pointwise [k0_pay11, k0_pay10]

/-- The normalisation's gradient of a block of the attention's output. -/
theorem attn_block (v : FVec Ideal S512x512 .f32) (s : FVec Ideal S512x512 .f32) (ga : FVec Ideal S1x512 .f32) (i : S512x512.Idx) :
    k0_pay21 (F := Ideal) s (k0_pay3 ga) (k0_pay7 s) (k0_pay9 (k0_pay8 s) (Scalar.ofBits .f32 0xBF000000#32)) v i
      = Mix.back (fun k => s (ix2 (i 0) k)) (fun k => v (ix2 (i 0) k) * ga (ix2 0 k)) (i 1) := by
  unfold Mix.back Mix.pull Mix.power
  pointwise [k0_pay21, k0_pay3, k0_pay6, k0_pay7, k0_pay8, k0_pay9]
  simp only [Fin.sum_univ_one]

/-- The normalisation's gradient of a block of the gated unit's output. -/
theorem unit_block (v : FVec Ideal S512x1024 .f32) (g a : FVec Ideal S512x512 .f32) (gs : FVec Ideal S1x512 .f32) (i : S512x512.Idx) :
    k0_pay17 (F := Ideal) v g (k0_pay4 gs) a i
      = Mix.back (fun k => a (ix2 (i 0) k) * Ideal.logistic (g (ix2 (i 0) k))) (fun k => v (ix2 (i 0) (Mix.hi k)) * gs (ix2 0 k)) (i 1) := by
  unfold Mix.back Mix.pull Mix.power
  pointwise [k0_pay17, k0_pay4, k0_pay12, k0_pay13, gated_block, hi_block]
  simp only [Fin.sum_univ_one]

/-- The same, of the loaded blocks. -/
theorem unit_at_block (d : FVec Ideal S512x1024 .f32) (w : FVec Ideal S1024x1024 .bf16) (s y g : FVec Ideal S512x512 .f32) (ga gs : FVec Ideal S1x512 .f32) (i : S512x512.Idx) :
    k0_pay17 (F := Ideal) (k0_pay2 d w) g (k0_pay4 gs) (k0_pay5 y) i = Mix.unit (fun k => y (ix2 (i 0) k)) (fun k => g (ix2 (i 0) k)) (fun l => d (ix2 (i 0) l)) (fun k l => w (ix2 k l)) (fun k => gs (ix2 0 k)) (i 1) := by
  rw [unit_block]
  simp only [act_block, dm_block]
  rfl

/-- A whole buffer's load is the buffer. -/
theorem loads : (∀ v : FVec Ideal S512x1024 .f32, View.ld (Val := Elt Ideal) (e' := .f32) v r0_0 = v)
    ∧ (∀ v : FVec Ideal S1024x1024 .bf16, View.ld (Val := Elt Ideal) (e' := .bf16) v r0_1 = v)
    ∧ (∀ v : FVec Ideal S512x512 .f32, View.ld (Val := Elt Ideal) (e' := .f32) v r0_2 = v)
    ∧ (∀ v : FVec Ideal S1x512 .f32, View.ld (Val := Elt Ideal) (e' := .f32) v r0_3 = v) :=
  ⟨fun v => View.ld_unit_zero (by decide) _ _, fun v => View.ld_unit_zero (by decide) _ _, fun v => View.ld_unit_zero (by decide) _ _, fun v => View.ld_unit_zero (by decide) _ _⟩

/-- What the call leaves in a block of the gradient at the attention's output. -/
theorem blockAttn_at (d : FVec Ideal S512x1024 .f32) (w : FVec Ideal S1024x1024 .bf16) (s y g : FVec Ideal S512x512 .f32) (ga gs : FVec Ideal S1x512 .f32) (i : S512x512.Idx) :
    out0_7 (F := Ideal) d w s y g ga gs i = Mix.attn (fun k => s (ix2 (i 0) k)) (fun l => d (ix2 (i 0) l)) (fun k l => w (ix2 k l)) (fun k => ga (ix2 0 k)) (i 1) := by
  obtain ⟨h0, h1, h2, h3⟩ := loads
  unfold out0_7 k0_pay29 k0_pay26
  rw [View.canon_unit_zero (by decide), h0, h1, h2, h3, attn_block]
  simp only [lo_block, dm_block]
  rfl

/-- What the call leaves in a block of the gradient at the gate's input. -/
theorem blockGate_at (d : FVec Ideal S512x1024 .f32) (w : FVec Ideal S1024x1024 .bf16) (s y g : FVec Ideal S512x512 .f32) (ga gs : FVec Ideal S1x512 .f32) (i : S512x512.Idx) :
    out0_8 (F := Ideal) d w s y g ga gs i = Mix.atGate (fun k => y (ix2 (i 0) k)) (fun k => g (ix2 (i 0) k)) (fun l => d (ix2 (i 0) l)) (fun k l => w (ix2 k l)) (fun k => gs (ix2 0 k)) (i 1) := by
  obtain ⟨h0, h1, h2, h3⟩ := loads
  unfold out0_8 k0_pay30 k0_pay28 k0_pay27 k0_pay26 Mix.atGate
  rw [View.canon_unit_zero (by decide), h0, h1, h2, h2, h3, ← unit_at_block d w s y g ga gs]
  pointwise [k0_pay23, k0_pay19, k0_pay10, act_block]

/-- What the call leaves in a block of the gradient at the activation. -/
theorem blockAct_at (d : FVec Ideal S512x1024 .f32) (w : FVec Ideal S1024x1024 .bf16) (s y g : FVec Ideal S512x512 .f32) (ga gs : FVec Ideal S1x512 .f32) (i : S512x512.Idx) :
    out0_9 (F := Ideal) d w s y g ga gs i = Mix.atAct (fun k => y (ix2 (i 0) k)) (fun k => g (ix2 (i 0) k)) (fun l => d (ix2 (i 0) l)) (fun k l => w (ix2 k l)) (fun k => gs (ix2 0 k)) (i 1) := by
  obtain ⟨h0, h1, h2, h3⟩ := loads
  unfold out0_9 k0_pay28 k0_pay27 k0_pay26 Mix.atAct
  rw [View.canon_unit_zero (by decide), h0, h1, h2, h2, h3, ← unit_at_block d w s y g ga gs]
  pointwise [k0_pay18, k0_pay10]

/-- The unrounded gradient at the gate's input in a block. -/
theorem payGate_at (d : FVec Ideal S512x1024 .f32) (w : FVec Ideal S1024x1024 .bf16) (s y g : FVec Ideal S512x512 .f32) (ga gs : FVec Ideal S1x512 .f32) (i : S512x512.Idx) :
    k0_pay30 (F := Ideal) d w s y g ga gs i = Mix.atGate (fun k => y (ix2 (i 0) k)) (fun k => g (ix2 (i 0) k)) (fun l => d (ix2 (i 0) l)) (fun k l => w (ix2 k l)) (fun k => gs (ix2 0 k)) (i 1) := by
  obtain ⟨h0, h1, h2, h3⟩ := loads
  unfold k0_pay30 k0_pay28 k0_pay27 k0_pay26 Mix.atGate
  rw [h0, h1, h2, h2, h3, ← unit_at_block d w s y g ga gs]
  pointwise [k0_pay19, k0_pay10, act_block]

/-- The sums in a block: the first row holds the tile's. -/
theorem first_at (v : FVec Ideal S1x512 .f32) (i : S8x512.Idx) : k0_pay1 (F := Ideal) v i = if (i 0).val = 0 then v (ix2 0 (i 1)) else 0 := by
  have hi : (i 0).val < 8 := (i 0).isLt
  pointwise [k0_pay1]
  rw [Tiles.first_word _ hi]

theorem first_at' (v : FVec Ideal S1x512 .f32) (i : S8x512.Idx) : k0_pay24 (F := Ideal) v i = (if (i 0).val = 0 then v (ix2 0 (i 1)) else 0)
    ∧ k0_pay25 (F := Ideal) v i = (if (i 0).val = 0 then v (ix2 0 (i 1)) else 0) :=
  ⟨first_at v i, first_at v i⟩

theorem tileAttn_at (d : FVec Ideal S512x1024 .f32) (w : FVec Ideal S1024x1024 .bf16) (s y g : FVec Ideal S512x512 .f32) (ga gs : FVec Ideal S1x512 .f32) (i : S8x512.Idx) :
    out0_10 (F := Ideal) d w s y g ga gs i = if (i 0).val = 0 then ∑ p : Fin 512, part (fun k => s (ix2 p k)) (∑ l : Fin 1024, d (ix2 p l) * w (ix2 (Mix.lo (i 1)) l)) (i 1) else 0 := by
  obtain ⟨h0, h1, h2, h3⟩ := loads
  unfold out0_10 k0_pay29 k0_pay26
  rw [View.canon_unit_zero (by decide), h0, h1, h2, (first_at' _ i).1]
  unfold part Mix.power
  congr 1
  pointwise [k0_pay20, k0_pay6, k0_pay7, lo_block, dm_block]

theorem tileUnit_at (d : FVec Ideal S512x1024 .f32) (w : FVec Ideal S1024x1024 .bf16) (s y g : FVec Ideal S512x512 .f32) (ga gs : FVec Ideal S1x512 .f32) (i : S8x512.Idx) :
    out0_11 (F := Ideal) d w s y g ga gs i = if (i 0).val = 0 then ∑ p : Fin 512, part (fun k => Mix.gated (y (ix2 p k)) (g (ix2 p k))) (∑ l : Fin 1024, d (ix2 p l) * w (ix2 (Mix.hi (i 1)) l)) (i 1) else 0 := by
  obtain ⟨h0, h1, h2, h3⟩ := loads
  unfold out0_11 k0_pay28 k0_pay26
  rw [View.canon_unit_zero (by decide), h0, h1, h2, h2, (first_at' _ i).2]
  unfold part Mix.power Mix.gated
  congr 1
  pointwise [k0_pay16, k0_pay12, k0_pay13, gated_block, act_block, hi_block, dm_block]

theorem tileBias_at (d : FVec Ideal S512x1024 .f32) (w : FVec Ideal S1024x1024 .bf16) (s y g : FVec Ideal S512x512 .f32) (ga gs : FVec Ideal S1x512 .f32) (i : S8x512.Idx) :
    out0_12 (F := Ideal) d w s y g ga gs i = if (i 0).val = 0 then ∑ p : Fin 512, Mix.atGate (fun k => y (ix2 p k)) (fun k => g (ix2 p k)) (fun l => d (ix2 p l)) (fun k l => w (ix2 k l)) (fun k => gs (ix2 0 k)) (i 1) else 0 := by
  unfold out0_12
  rw [View.canon_unit_zero (by decide), first_at]
  have h : k0_pay22 (F := Ideal) (k0_pay30 d w s y g ga gs) (ix2 0 (i 1)) = ∑ p : Fin 512, k0_pay30 d w s y g ga gs (ix2 p (i 1)) := by
    pointwise [k0_pay22]
  rw [h]
  simp only [payGate_at]
  rfl

attribute [local irreducible] Mix.attn Mix.atAct Mix.atGate part

/-- The gains, as the rows that the host lines leave for the call. -/
theorem arr_ga (m : (ℓ : Loc nD τ sig) → Buf (Elt Ideal) ℓ) (c : Dev nD) : V m c main_v1 = broadcastInDim S1x512 ![1] bcast_S512_S1x512_1 (m ((c.tc : Thread nD τ).loc main_arg3)) := by
  entry_read
  rfl

theorem arr_gs (m : (ℓ : Loc nD τ sig) → Buf (Elt Ideal) ℓ) (c : Dev nD) : V m c main_v2 = broadcastInDim S1x512 ![1] bcast_S512_S1x512_1 (m ((c.tc : Thread nD τ).loc main_arg4)) := by
  entry_read
  rfl

/-- Every window's block index. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The reference's gradient at the attention's output, of the launch's arguments. -/
def outAttn (m : (ℓ : Loc nD τ sig) → Buf (Elt Ideal) ℓ) (c : Dev nD) : Buf (Elt Ideal) ((c.tc : Thread nD τ).loc main_v3_0) := wholeAttn (m ((c.tc : Thread nD τ).loc main_arg0)) (m ((c.tc : Thread nD τ).loc main_arg6)) (m ((c.tc : Thread nD τ).loc main_arg5)) (m ((c.tc : Thread nD τ).loc main_arg3))

/-- The blocks cover it, and each is the reference's. -/
theorem outAttn_eq (m : (ℓ : Loc nD τ sig) → Buf (Elt Ideal) ℓ) (c : Dev nD) : (dats m 0 c).arrAt 7 cfg0.N = outAttn m c := by
  refine (dats m 0 c).arrAt_eq_of_covers 7 _ (by decide +kernel) fun t hf y => ?_
  blk_simp
  unfold outAttn
  rw [after0_7, blockAttn_at, wholeAttn_at]
  congr 1
  · funext k; blk_point [iblk, V, idx t]
  · funext k; blk_point [iblk, V, idx t]
  · funext k l; blk_point [iblk, V, idx t]
  · funext k
    refine (congrFun (arr_ga m c) _).trans ?_
    pointwise
    blk_point [idx t]
  · refine Fin.ext ?_
    blk_simp
    blk_ext [idx t]

/-- The reference's gradient at the gate's input, of the launch's arguments. -/
def outGate (m : (ℓ : Loc nD τ sig) → Buf (Elt Ideal) ℓ) (c : Dev nD) : Buf (Elt Ideal) ((c.tc : Thread nD τ).loc main_v3_1) := wholeGate (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4))

/-- The blocks cover it, and each is the reference's. -/
theorem outGate_eq (m : (ℓ : Loc nD τ sig) → Buf (Elt Ideal) ℓ) (c : Dev nD) : (dats m 0 c).arrAt 8 cfg0.N = outGate m c := by
  refine (dats m 0 c).arrAt_eq_of_covers 8 _ (by decide +kernel) fun t hf y => ?_
  blk_simp
  unfold outGate
  rw [after0_8, blockGate_at, wholeGate_at]
  congr 1
  · funext k; blk_point [iblk, V, idx t]
  · funext k; blk_point [iblk, V, idx t]
  · funext k; blk_point [iblk, V, idx t]
  · funext k l; blk_point [iblk, V, idx t]
  · funext k
    refine (congrFun (arr_gs m c) _).trans ?_
    pointwise
    blk_point [idx t]
  · refine Fin.ext ?_
    blk_simp
    blk_ext [idx t]

/-- The reference's gradient at the activation, of the launch's arguments. -/
def outAct (m : (ℓ : Loc nD τ sig) → Buf (Elt Ideal) ℓ) (c : Dev nD) : Buf (Elt Ideal) ((c.tc : Thread nD τ).loc main_v3_2) := wholeAct (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4))

/-- The blocks cover it, and each is the reference's. -/
theorem outAct_eq (m : (ℓ : Loc nD τ sig) → Buf (Elt Ideal) ℓ) (c : Dev nD) : (dats m 0 c).arrAt 9 cfg0.N = outAct m c := by
  refine (dats m 0 c).arrAt_eq_of_covers 9 _ (by decide +kernel) fun t hf y => ?_
  blk_simp
  unfold outAct
  rw [after0_9, blockAct_at, wholeAct_at]
  congr 1
  · funext k; blk_point [iblk, V, idx t]
  · funext k; blk_point [iblk, V, idx t]
  · funext k; blk_point [iblk, V, idx t]
  · funext k l; blk_point [iblk, V, idx t]
  · funext k
    refine (congrFun (arr_gs m c) _).trans ?_
    pointwise
    blk_point [idx t]
  · refine Fin.ext ?_
    blk_simp
    blk_ext [idx t]

theorem idxs : ∀ t : Fin cfg0.N, win0_10.index t = ![t.val, 0] ∧ win0_11.index t = ![t.val, 0] ∧ win0_12.index t = ![t.val, 0] :=
  (by decide +kernel : ∀ t : Fin grid0.N, _)

/-- An array of tiles' sums. -/
def sums (f : Fin 512 → Fin 4096 → EReal) : FVec Ideal S64x512 .f32 := fun i => Tiles.tile 512 (f (i 1)) (i 0).val

/-- The host's sum of the tiles is the sum of the rows. -/
theorem add_up (f : Fin 512 → Fin 4096 → EReal) (i : S512.Idx) :
    Host.reduceAdd (sums f) (constant (F := Ideal) S_ .f32 0x00000000#32) reducesTo_S64x512_S512_d0 h_S_ i = ∑ p, f (i 0) p := by
  have h : Host.reduceAdd (sums f) (constant (F := Ideal) S_ .f32 0x00000000#32) reducesTo_S64x512_S512_d0 h_S_ i = (∑ p : Fin 64, sums f (ix2 p (i 0)) : EReal) := by
    pointwise []
  exact h.trans (Tiles.sum_tile 512 8 rfl rfl (f (i 0)))

theorem sumsAttn_eq (m : (ℓ : Loc nD τ sig) → Buf (Elt Ideal) ℓ) (c : Dev nD) : (dats m 0 c).arrAt 10 cfg0.N = sums (termAttn (m ((c.tc : Thread nD τ).loc main_arg0)) (m ((c.tc : Thread nD τ).loc main_arg6)) (m ((c.tc : Thread nD τ).loc main_arg5))) := by
  refine (dats m 0 c).arrAt_eq_of_covers 10 _ (by decide +kernel) fun t hf y => ?_
  blk_simp
  unfold sums
  have hy : (y 0).val < 8 := (y 0).isLt
  have ht : t.val < 8 := t.isLt
  rw [after0_10, tileAttn_at]
  refine (Tiles.tile_row 512 t.val (y 0).val hy (termAttn (m ((c.tc : Thread nD τ).loc main_arg0)) (m ((c.tc : Thread nD τ).loc main_arg6)) (m ((c.tc : Thread nD τ).loc main_arg5)) (y 1)) _ (by omega) fun r => ?_).trans ?_
  · unfold termAttn
    refine part_eq (y 1) (fun k => ?_) ?_
    · blk_point [iblk, V, idx t]
    · refine Finset.sum_congr rfl fun l _ => congrArg₂ (fun a b : EReal => a * b) ?_ ?_
      · blk_point [iblk, V, idx t]
      · blk_point [iblk, V, idx t]
  · congr 1
    · congr 1
      refine Fin.ext ?_
      blk_simp
      blk_ext [idxs t]
    · rw [Nat.mul_comm 8]
      blk_simp
      blk_ext [idxs t]

theorem sumsUnit_eq (m : (ℓ : Loc nD τ sig) → Buf (Elt Ideal) ℓ) (c : Dev nD) : (dats m 0 c).arrAt 11 cfg0.N = sums (termUnit (m ((c.tc : Thread nD τ).loc main_arg1)) (m ((c.tc : Thread nD τ).loc main_arg2)) (m ((c.tc : Thread nD τ).loc main_arg6)) (m ((c.tc : Thread nD τ).loc main_arg5))) := by
  refine (dats m 0 c).arrAt_eq_of_covers 11 _ (by decide +kernel) fun t hf y => ?_
  blk_simp
  unfold sums
  have hy : (y 0).val < 8 := (y 0).isLt
  have ht : t.val < 8 := t.isLt
  rw [after0_11, tileUnit_at]
  refine (Tiles.tile_row 512 t.val (y 0).val hy (termUnit (m ((c.tc : Thread nD τ).loc main_arg1)) (m ((c.tc : Thread nD τ).loc main_arg2)) (m ((c.tc : Thread nD τ).loc main_arg6)) (m ((c.tc : Thread nD τ).loc main_arg5)) (y 1)) _ (by omega) fun r => ?_).trans ?_
  · unfold termUnit
    refine part_eq (y 1) (fun k => congrArg₂ Mix.gated ?_ ?_) ?_
    · blk_point [iblk, V, idx t]
    · blk_point [iblk, V, idx t]
    · refine Finset.sum_congr rfl fun l _ => congrArg₂ (fun a b : EReal => a * b) ?_ ?_
      · blk_point [iblk, V, idx t]
      · blk_point [iblk, V, idx t]
  · congr 1
    · congr 1
      refine Fin.ext ?_
      blk_simp
      blk_ext [idxs t]
    · rw [Nat.mul_comm 8]
      blk_simp
      blk_ext [idxs t]

theorem sumsBias_eq (m : (ℓ : Loc nD τ sig) → Buf (Elt Ideal) ℓ) (c : Dev nD) : (dats m 0 c).arrAt 12 cfg0.N = sums (termBias (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4))) := by
  refine (dats m 0 c).arrAt_eq_of_covers 12 _ (by decide +kernel) fun t hf y => ?_
  blk_simp
  unfold sums
  have hy : (y 0).val < 8 := (y 0).isLt
  have ht : t.val < 8 := t.isLt
  rw [after0_12, tileBias_at]
  refine (Tiles.tile_row 512 t.val (y 0).val hy (termBias (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4)) (y 1)) _ (by omega) fun r => ?_).trans ?_
  · unfold termBias
    refine atGate_eq (y 1) (fun k => ?_) (fun k => ?_) (fun k => ?_) (fun k l => ?_) (fun k => ?_)
    · blk_point [iblk, V, idx t]
    · blk_point [iblk, V, idx t]
    · blk_point [iblk, V, idx t]
    · blk_point [iblk, V, idx t]
    · refine (congrFun (arr_gs m c) _).trans ?_
      pointwise
      blk_point [idx t]
  · congr 1
    · congr 1
      refine Fin.ext ?_
      blk_simp
      blk_ext [idxs t]
    · rw [Nat.mul_comm 8]
      blk_simp
      blk_ext [idxs t]

/-- The host's sums of the tiles. -/
theorem tail_eq (σ : Valuation τ sig (Elt Ideal)) :
    StableHlo.after (τ := τ) (sig := sig) (Val := Elt Ideal) [hostOps1].flatten σ (Proc.devRef .tc main_v4) = Host.reduceAdd (σ (Proc.devRef .tc main_v3_3)) (constant (F := Ideal) S_ .f32 0x00000000#32) reducesTo_S64x512_S512_d0 h_S_
    ∧ StableHlo.after (τ := τ) (sig := sig) (Val := Elt Ideal) [hostOps1].flatten σ (Proc.devRef .tc main_v5) = Host.reduceAdd (σ (Proc.devRef .tc main_v3_4)) (constant (F := Ideal) S_ .f32 0x00000000#32) reducesTo_S64x512_S512_d0 h_S_
    ∧ StableHlo.after (τ := τ) (sig := sig) (Val := Elt Ideal) [hostOps1].flatten σ (Proc.devRef .tc main_v6) = Host.reduceAdd (σ (Proc.devRef .tc main_v3_5)) (constant (F := Ideal) S_ .f32 0x00000000#32) reducesTo_S64x512_S512_d0 h_S_ := by
  refine ⟨?_, ?_, ?_⟩
  · show StableHlo.after (τ := τ) (sig := sig) (Val := Elt Ideal) hostOps1 σ (Proc.devRef .tc main_v4) = _
    entry_read
    rfl
  · show StableHlo.after (τ := τ) (sig := sig) (Val := Elt Ideal) hostOps1 σ (Proc.devRef .tc main_v5) = _
    entry_read
    rfl
  · show StableHlo.after (τ := τ) (sig := sig) (Val := Elt Ideal) hostOps1 σ (Proc.devRef .tc main_v6) = _
    entry_read
    rfl

/-- The reference's gradient of the attention's gain, of the launch's arguments. -/
def outGainAttn (m : (ℓ : Loc nD τ sig) → Buf (Elt Ideal) ℓ) (c : Dev nD) : Buf (Elt Ideal) ((c.tc : Thread nD τ).loc main_v4) := gainAttn (m ((c.tc : Thread nD τ).loc main_arg0)) (m ((c.tc : Thread nD τ).loc main_arg6)) (m ((c.tc : Thread nD τ).loc main_arg5))

theorem outGainAttn_eq (m : (ℓ : Loc nD τ sig) → Buf (Elt Ideal) ℓ) (c : Dev nD) : Pipeline.afterTail₀ cfgs (dats m) 0 (V0 m) [hostOps1] c main_v4 = outGainAttn m c := by
  unfold Pipeline.afterTail₀
  rw [(tail_eq _).1]
  have H := sumsAttn_eq m c
  rw [← Pipeline.withArrays_arr (cfgs 0).spec launch0.win.arr_inj c (V0 m c) (fun w => (dats m 0 c).arrAt w (cfgs 0).N) 10] at H
  refine (congrArg (fun v : FVec Ideal S64x512 .f32 => Host.reduceAdd v (constant (F := Ideal) S_ .f32 0x00000000#32) reducesTo_S64x512_S512_d0 h_S_) H).trans (funext fun i => ?_)
  exact (add_up (termAttn (m ((c.tc : Thread nD τ).loc main_arg0)) (m ((c.tc : Thread nD τ).loc main_arg6)) (m ((c.tc : Thread nD τ).loc main_arg5))) i).trans (gainAttn_at _ _ _ i).symm

/-- The reference's gradient of the gated unit's gain, of the launch's arguments. -/
def outGainUnit (m : (ℓ : Loc nD τ sig) → Buf (Elt Ideal) ℓ) (c : Dev nD) : Buf (Elt Ideal) ((c.tc : Thread nD τ).loc main_v5) := gainUnit (m ((c.tc : Thread nD τ).loc main_arg1)) (m ((c.tc : Thread nD τ).loc main_arg2)) (m ((c.tc : Thread nD τ).loc main_arg6)) (m ((c.tc : Thread nD τ).loc main_arg5))

theorem outGainUnit_eq (m : (ℓ : Loc nD τ sig) → Buf (Elt Ideal) ℓ) (c : Dev nD) : Pipeline.afterTail₀ cfgs (dats m) 0 (V0 m) [hostOps1] c main_v5 = outGainUnit m c := by
  unfold Pipeline.afterTail₀
  rw [(tail_eq _).2.1]
  have H := sumsUnit_eq m c
  rw [← Pipeline.withArrays_arr (cfgs 0).spec launch0.win.arr_inj c (V0 m c) (fun w => (dats m 0 c).arrAt w (cfgs 0).N) 11] at H
  refine (congrArg (fun v : FVec Ideal S64x512 .f32 => Host.reduceAdd v (constant (F := Ideal) S_ .f32 0x00000000#32) reducesTo_S64x512_S512_d0 h_S_) H).trans (funext fun i => ?_)
  exact (add_up (termUnit (m ((c.tc : Thread nD τ).loc main_arg1)) (m ((c.tc : Thread nD τ).loc main_arg2)) (m ((c.tc : Thread nD τ).loc main_arg6)) (m ((c.tc : Thread nD τ).loc main_arg5))) i).trans (gainUnit_at _ _ _ _ i).symm

/-- The reference's gradient of the gate's bias, of the launch's arguments. -/
def outBias (m : (ℓ : Loc nD τ sig) → Buf (Elt Ideal) ℓ) (c : Dev nD) : Buf (Elt Ideal) ((c.tc : Thread nD τ).loc main_v6) := bias (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4))

theorem outBias_eq (m : (ℓ : Loc nD τ sig) → Buf (Elt Ideal) ℓ) (c : Dev nD) : Pipeline.afterTail₀ cfgs (dats m) 0 (V0 m) [hostOps1] c main_v6 = outBias m c := by
  unfold Pipeline.afterTail₀
  rw [(tail_eq _).2.2]
  have H := sumsBias_eq m c
  rw [← Pipeline.withArrays_arr (cfgs 0).spec launch0.win.arr_inj c (V0 m c) (fun w => (dats m 0 c).arrAt w (cfgs 0).N) 12] at H
  refine (congrArg (fun v : FVec Ideal S64x512 .f32 => Host.reduceAdd v (constant (F := Ideal) S_ .f32 0x00000000#32) reducesTo_S64x512_S512_d0 h_S_) H).trans (funext fun i => ?_)
  exact (add_up (termBias (m ((c.tc : Thread nD τ).loc main_arg1)) (m ((c.tc : Thread nD τ).loc main_arg2)) (m ((c.tc : Thread nD τ).loc main_arg6)) (m ((c.tc : Thread nD τ).loc main_arg5)) (m ((c.tc : Thread nD τ).loc main_arg4))) i).trans (bias_at _ _ _ _ _ i).symm

/-- The claim. -/
theorem algebraic : Cert.algebraic_Kernel20Ideal_Reference20Ideal := fun m g m' g' _ e => by
  refine ⟨fun c => outAttn m c, fun c => outGate m c, fun c => outAct m c, fun c => outGainAttn m c, fun c => outGainUnit m c, fun c => outBias m c, (θ_run defs _ _).mono (fun r h c => ⟨((h.1 c).1 7).trans (outAttn_eq m c), ((h.1 c).1 8).trans (outGate_eq m c), ((h.1 c).1 9).trans (outAct_eq m c), ((h.1 c).2 main_v4 (Pipeline.mem_restRefs_of main_v4 (by decide) (by decide))).trans (outGainAttn_eq m c), ((h.1 c).2 main_v5 (Pipeline.mem_restRefs_of main_v5 (by decide) (by decide))).trans (outGainUnit_eq m c), ((h.1 c).2 main_v6 (Pipeline.mem_restRefs_of main_v6 (by decide) (by decide))).trans (outBias_eq m c), h.2 c⟩) (θ_run_and (run_main m g) (unchanged m g)), ?_⟩
  refine (θ_run Cert.Reference20Ideal.defs _ _).mono (fun r k c => ?_) (Cert.Reference20Ideal.Value.run m' g')
  obtain ⟨e0, e1, e2, e3, e4, e5, e6⟩ := e c
  refine ⟨((k c).1).trans ?_, ((k c).2.1).trans ?_, ((k c).2.2.1).trans ?_, ((k c).2.2.2.1).trans ?_, ((k c).2.2.2.2.1).trans ?_, ((k c).2.2.2.2.2.1).trans ?_, (k c).2.2.2.2.2.2⟩
  · unfold Cert.Reference20Ideal.Value.res_main_v102 outAttn
    rw [e0, e3, e5, e6]
    rfl
  · unfold Cert.Reference20Ideal.Value.res_main_v103 outGate
    rw [e1, e2, e4, e5, e6]
    rfl
  · unfold Cert.Reference20Ideal.Value.res_main_v81 outAct
    rw [e1, e2, e4, e5, e6]
    rfl
  · unfold outGainAttn
    rw [e0, e5, e6]
    rfl
  · unfold outGainUnit
    rw [e1, e2, e5, e6]
    rfl
  · unfold Cert.Reference20Ideal.Value.res_main_v104 outBias
    rw [e1, e2, e4, e5, e6]
    rfl

end Cert.Proof.MixBack

end
-- ==== Proof.MixNorm.lean ====
/- The call of the mixers' normalisation: at exact real arithmetic its result is the reference's. -/
module

public import proofs.«01_k».proof.Defs
public import proofs.«01_k».proof.Proof.Gen.Kernel21Ideal.Value
public import proofs.«01_k».proof.Proof.Gen.Reference21Ideal.Run
public import proofs.«01_k».proof.Proof.Mix
public import Idealize.ShloMosaic.Lib.Pipeline.ValueKit
public import Idealize.ShloMosaic.Lib.Claim

@[expose] public section

set_option maxRecDepth 16384

noncomputable section

namespace Cert.Proof.MixNorm

open Idealize.ShloMosaic Idealize.ShloMosaic.TcCoe Idealize.SL.Sem

section Reference

open Cert.Reference21Ideal Cert.Reference21Ideal.Gen

/-- The activation of an array, as the reference prints it. -/
def act (x : FVec Ideal S4096x512 .f32) : FVec Ideal S4096x512 .f32 :=
  mulf x (mulf (broadcastInDim S4096x512 ![] bcast_S_S4096x512 (constant (F := Ideal) S_ .f32 0x3F000000#32)) (addf (broadcastInDim S4096x512 ![] bcast_S_S4096x512 (constant (F := Ideal) S_ .f32 0x3F800000#32)) (Host.tanh (mulf (broadcastInDim S4096x512 ![] bcast_S_S4096x512 (constant (F := Ideal) S_ .f32 0x3F4C422A#32)) (addf x (mulf (broadcastInDim S4096x512 ![] bcast_S_S4096x512 (constant (F := Ideal) S_ .f32 0x3D372713#32)) (mulf (mulf x x) x)))))))

theorem act_at (x : FVec Ideal S4096x512 .f32) (i : S4096x512.Idx) : act x i = Gelu.gelu (x i) := by
  unfold Gelu.gelu Gelu.bend
  pointwise [act]

/-- The reference's gated unit's output. -/
def gated (y g : FVec Ideal S4096x512 .f32) : FVec Ideal S4096x512 .f32 :=
  mulf (act y) (Host.divf (broadcastInDim S4096x512 ![] bcast_S_S4096x512 (constant (F := Ideal) S_ .f32 0x3F800000#32)) (addf (broadcastInDim S4096x512 ![] bcast_S_S4096x512 (constant (F := Ideal) S_ .f32 0x3F800000#32)) (Host.exp (Host.negf g))))

theorem gated_at (y g : FVec Ideal S4096x512 .f32) (i : S4096x512.Idx) : gated y g i = Mix.gated (y i) (g i) := by
  unfold Mix.gated Ideal.logistic
  pointwise [gated, act_at]

/-- The reference's normalisation of an array. -/
def norm (x : FVec Ideal S4096x512 .f32) (g : FVec Ideal S512 .f32) : FVec Ideal S4096x512 .f32 :=
  (mulf (mulf x (broadcastInDim S4096x512 ![0, 1] bcast_S4096x1_S4096x512_0_1 (Host.rsqrt (addf (Host.divf (broadcastInDim S4096x1 ![0] bcast_S4096_S4096x1_0 (Host.reduceAdd (mulf x x) (constant (F := Ideal) S_ .f32 0x00000000#32) reducesTo_S4096x512_S4096_d1 h_S_)) (broadcastInDim S4096x1 ![] bcast_S_S4096x1 (constant (F := Ideal) S_ .f32 0x44000000#32))) (broadcastInDim S4096x1 ![] bcast_S_S4096x1 (constant (F := Ideal) S_ .f32 0x358637BD#32)))))) (broadcastInDim S4096x512 ![0, 1] bcast_S1x512_S4096x512_0_1 (broadcastInDim S1x512 ![1] bcast_S512_S1x512_1 g)))

theorem norm_at (x : FVec Ideal S4096x512 .f32) (g : FVec Ideal S512 .f32) (i : S4096x512.Idx) :
    norm x g i = Mix.row (fun k => x (ix2 (i 0) k)) (fun k => g (ix1 k)) (i 1) := by
  unfold Mix.row Mix.power
  pointwise [norm]

/-- What the reference computes of the arguments. -/
def whole (s y g : FVec Ideal S4096x512 .f32) (ga gs : FVec Ideal S512 .f32) : FVec Ideal S4096x1024 .bf16 :=
  truncf .bf16 (concatenate S4096x1024 1 [⟨S4096x512, norm s ga⟩, ⟨S4096x512, norm (gated y g) gs⟩] concatenates_S4096x512_S4096x512_S4096x1024_d1) bitsLt_bf16_f32

/-- A result's entry: the attention's half or the gated unit's. -/
def entry (S Y G GA GS : Fin 512 → EReal) (j : Fin 1024) : EReal :=
  if q : j.val < 512 then Mix.row S GA ⟨j.val, q⟩ else Mix.row (fun k => Mix.gated (Y k) (G k)) GS ⟨j.val - 512, by omega⟩

theorem whole_at (s y g : FVec Ideal S4096x512 .f32) (ga gs : FVec Ideal S512 .f32) (i : S4096x1024.Idx) :
    whole s y g ga gs i = entry (fun k => s (ix2 (i 0) k)) (fun k => y (ix2 (i 0) k)) (fun k => g (ix2 (i 0) k)) (fun k => ga (ix1 k)) (fun k => gs (ix1 k)) (i 1) := by
  refine (Mix.beside (norm s ga) (norm (gated y g) gs) concatenates_S4096x512_S4096x512_S4096x1024_d1 i).trans ?_
  unfold entry
  split
  · rw [norm_at]; rfl
  · rw [norm_at]; simp only [gated_at]; rfl

end Reference

open Cert.Kernel21Ideal Cert.Kernel21Ideal.Gen

/-- The gated unit's output in a block. -/
theorem gated_block (y g : FVec Ideal S512x512 .f32) (i : S512x512.Idx) : k0_pay3 (F := Ideal) y g i = Mix.gated (y i) (g i) := by
  unfold Mix.gated Gelu.gelu Gelu.bend
  pointwise [k0_pay3]

theorem attn_block (s : FVec Ideal S512x512 .f32) (ga : FVec Ideal S1x512 .f32) (i : S512x512.Idx) :
    k0_pay4 (F := Ideal) s ga i = Mix.row (fun k => s (ix2 (i 0) k)) (fun k => ga (ix2 0 k)) (i 1) := by
  unfold Mix.row Mix.power
  pointwise [k0_pay4]

/-- The gated unit's half of a block. -/
def half (y g : FVec Ideal S512x512 .f32) (gs : FVec Ideal S1x512 .f32) : FVec Ideal S512x512 .f32 :=
  mulf (mulf (k0_pay3 y g) (broadcastTo S512x512 (rsqrt (addf (k0_pay5 y g) (broadcast S512x1 (Scalar.ofBits (F := Ideal) .f32 0x358637BD#32)))) broadcasts_S512x1_S512x512)) (broadcastTo S512x512 (k0_pay2 gs) broadcasts_S1x512_S512x512)

theorem half_at (y g : FVec Ideal S512x512 .f32) (gs : FVec Ideal S1x512 .f32) (i : S512x512.Idx) :
    half y g gs i = Mix.row (fun k => Mix.gated (y (ix2 (i 0) k)) (g (ix2 (i 0) k))) (fun k => gs (ix2 0 k)) (i 1) := by
  unfold Mix.row Mix.power
  pointwise [half, k0_pay2, k0_pay5, gated_block]

/-- What the call leaves in a block. -/
theorem block_at (s y g : FVec Ideal S512x512 .f32) (ga gs : FVec Ideal S1x512 .f32) (i : S512x1024.Idx) :
    out0_5 (F := Ideal) s y g ga gs i = entry (fun k => s (ix2 (i 0) k)) (fun k => y (ix2 (i 0) k)) (fun k => g (ix2 (i 0) k)) (fun k => ga (ix2 0 k)) (fun k => gs (ix2 0 k)) (i 1) := by
  unfold out0_5
  have h0 : ∀ v : FVec Ideal S512x512 .f32, View.ld (Val := Elt Ideal) (e' := .f32) v r0_0 = v := fun v => View.ld_unit_zero (by decide) _ _
  have h1 : ∀ v : FVec Ideal S1x512 .f32, View.ld (Val := Elt Ideal) (e' := .f32) v r0_1 = v := fun v => View.ld_unit_zero (by decide) _ _
  rw [View.canon_unit_zero (by decide), h0, h0, h0, h1, h1]
  refine (Mix.beside (k0_pay4 (F := Ideal) s ga) (half y g gs) concatenates_S512x512_S512x512_S512x1024_d1 i).trans ?_
  unfold entry
  split
  · rw [attn_block]; rfl
  · rw [half_at]; rfl

attribute [irreducible] entry

/-- Every window's block index. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v2) := whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The blocks cover the result, and each is the reference's. -/
theorem out_eq (m : (ℓ : Loc nD τ sig) → Buf (Elt Ideal) ℓ) (c : Dev nD) : (dats m 0 c).arrAt 5 cfg0.N = out m c := by
  refine (dats m 0 c).arrAt_eq_of_covers 5 _ (by decide +kernel) fun t hf y => ?_
  blk_simp
  unfold out
  rw [after0_5, block_at, whole_at]
  congr 1
  · funext k; blk_point [iblk, V, idx t]
  · funext k; blk_point [iblk, V, idx t]
  · funext k; blk_point [iblk, V, idx t]
  · funext k; blk_point [iblk, V, idx t]
  · funext k; blk_point [iblk, V, idx t]
  · refine Fin.ext ?_
    blk_simp
    blk_ext [idx t]

/-- The claim. -/
theorem algebraic : Cert.algebraic_Kernel21Ideal_Reference21Ideal := fun m g m' g' _ e => by
  refine ⟨fun c => out m c, (θ_run defs _ _).mono (fun r h c => ⟨((h c).1).trans (out_eq m c), (h c).2⟩) (Cert.Kernel21Ideal.Value.run_blocks m g), ?_⟩
  refine (θ_run Cert.Reference21Ideal.defs _ _).mono (fun r k c => ?_) (Cert.Reference21Ideal.Value.run m' g')
  obtain ⟨e0, e1, e2, e3, e4⟩ := e c
  refine ⟨((k c).1).trans ?_, (k c).2⟩
  · unfold out
    rw [e0, e1, e2, e3, e4]
    rfl

end Cert.Proof.MixNorm

end
-- ==== Proof.NormFirst.lean ====
/- The call of the first normalisation: at exact real arithmetic its result is the reference's. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Claim

@[expose] public section

set_option maxRecDepth 16384

noncomputable section

namespace Cert.Proof.NormFirst

open Idealize.ShloMosaic Idealize.ShloMosaic.TcCoe Idealize.SL.Sem

/-- A row's entry of the normalisation. -/
def row (X G : Fin 1024 → EReal) (j : Fin 1024) : EReal :=
  X j * Ideal.rsqrt (Ideal.div (∑ k, X k * X k) (Ideal.ofBits .f32 0x44800000#32) + Ideal.ofBits .f32 0x358637BD#32) * G j

section Reference

open Cert.Reference22Ideal Cert.Reference22Ideal.Gen

/-- What the reference computes of the arguments. -/
def whole (h : FVec Ideal S4096x1024 .f32) (g : FVec Ideal S1024 .f32) : FVec Ideal S4096x1024 .bf16 :=
  truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 g))) bitsLt_bf16_f32

theorem whole_at (h : FVec Ideal S4096x1024 .f32) (g : FVec Ideal S1024 .f32) (i : S4096x1024.Idx) :
    whole h g i = row (fun k => h (ix2 (i 0) k)) (fun k => g (ix1 k)) (i 1) := by
  unfold row
  pointwise [whole]

end Reference

open Cert.Kernel22Ideal Cert.Kernel22Ideal.Gen

/-- What the call leaves in a block. -/
theorem block_at (x : FVec Ideal S512x1024 .f32) (g : FVec Ideal S1x1024 .f32) (y : S512x1024.Idx) :
    out0_2 (F := Ideal) x g y = row (fun k => x (ix2 (y 0) k)) (fun k => g (ix2 0 k)) (y 1) := by
  unfold out0_2
  rw [View.canon_unit_zero (by decide)]
  unfold row
  pointwise [k0_pay1]

/-- Every window's block index. -/
theorem idx : ∀ t : Fin cfg0.N, win0_0.index t = ![t.val, 0] ∧ win0_1.index t = ![0, 0] ∧ win0_2.index t = ![t.val, 0] :=
  (by decide +kernel : ∀ t : Fin grid0.N, _)

/-- The reference's result of the launch's arguments. -/
def out (m : (ℓ : Loc nD τ sig) → Buf (Elt Ideal) ℓ) (c : Dev nD) : Buf (Elt Ideal) ((c.tc : Thread nD τ).loc main_v1) := whole (m ((c.tc : Thread nD τ).loc main_arg0)) (m ((c.tc : Thread nD τ).loc main_arg1))

/-- The blocks cover the result, and each is the reference's. -/
theorem out_eq (m : (ℓ : Loc nD τ sig) → Buf (Elt Ideal) ℓ) (c : Dev nD) : (dats m 0 c).arrAt 2 cfg0.N = out m c := by
  refine (dats m 0 c).arrAt_eq_of_covers 2 _ (by decide +kernel) fun t hf y => ?_
  blk_simp
  unfold out
  rw [after0_2, block_at, whole_at]
  blk_point [iblk, V, idx t]

/-- The claim. -/
theorem algebraic : Cert.algebraic_Kernel22Ideal_Reference22Ideal := fun m g m' g' _ e => by
  refine ⟨fun c => out m c, (θ_run defs _ _).mono (fun r h c => ⟨((h c).1).trans (out_eq m c), (h c).2⟩) (Cert.Kernel22Ideal.Value.run_blocks m g), ?_⟩
  refine (θ_run Cert.Reference22Ideal.defs _ _).mono (fun r k c => ?_) (Cert.Reference22Ideal.Value.run m' g')
  obtain ⟨e0, e1⟩ := e c
  refine ⟨((k c).1).trans ?_, (k c).2⟩
  · unfold out
    rw [e0, e1]
    rfl

end Cert.Proof.NormFirst

end
-- ==== Proof.lean ====
/- The certificate: the stick-breaking attention's backward call (`Kernel`) and forward call (`Kernel2`), and the calls of the projections,
   the normalisations, the two-layer network, the gated unit and the weights' update (`Kernel3` to `Kernel22`). -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel8.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Kernel9.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Kernel10.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Kernel11.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Kernel12.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Kernel13.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Kernel14.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Kernel15.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Kernel16.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Kernel17.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Kernel18.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Kernel19.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Frame
public import proofs.«01_k».proof.Proof.Gen.Kernel20.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Kernel21.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Kernel22.Frame
public import proofs.«01_k».proof.Proof.Gen.Reference22Ideal
public import proofs.«01_k».proof.Proof.Gen.Reference22Ideal.Run
public import proofs.«01_k».proof.Proof.Gen.Pre_finite
public import proofs.«01_k».proof.Proof.BwdFrame
public import proofs.«01_k».proof.Proof.FrameBits
public import proofs.«01_k».proof.Proof.BwdClaim
public import proofs.«01_k».proof.Proof.MlpIn
public import proofs.«01_k».proof.Proof.MlpOutW
public import proofs.«01_k».proof.Proof.MlpAct
public import proofs.«01_k».proof.Proof.MlpInW
public import proofs.«01_k».proof.Proof.ProjIn
public import proofs.«01_k».proof.Proof.ProjOut
public import proofs.«01_k».proof.Proof.NormIn
public import proofs.«01_k».proof.Proof.NormMlp
public import proofs.«01_k».proof.Proof.MlpLoss
public import proofs.«01_k».proof.Proof.UpdateIn
public import proofs.«01_k».proof.Proof.UpdateGlu
public import proofs.«01_k».proof.Proof.UpdateOut
public import proofs.«01_k».proof.Proof.UpdateMlp
public import proofs.«01_k».proof.Proof.GluW
public import proofs.«01_k».proof.Proof.GluGate
public import proofs.«01_k».proof.Proof.ProjNorm
public import proofs.«01_k».proof.Proof.GluIn
public import proofs.«01_k».proof.Proof.MixBack
public import proofs.«01_k».proof.Proof.MixNorm
public import proofs.«01_k».proof.Proof.NormFirst
public import Idealize.ShloMosaic.Lib.Quiescent
public import Idealize.ShloMosaic.Adequacy
public import Idealize.ShloMosaic.Init

@[expose] public section

noncomputable section

namespace Cert.Proof

open Idealize.ShloMosaic Idealize.SL.Sem

/-- The backward reference's frame: its run, and a host program has no counter. -/
theorem frame_reference : Cert.quiescent_ReferenceIdeal := fun m ρ _ =>
  (θ_run Cert.ReferenceIdeal.defs _ _).mono (fun r h => ⟨fun c => (h c).2.2.2, sem_eq_zero_of_no_sems (by decide) _⟩) (Cert.ReferenceIdeal.Value.run m ρ)

/-- The forward reference's. -/
theorem frame_reference2 : Cert.quiescent_Reference2Ideal := fun m ρ _ =>
  (θ_run Cert.Reference2Ideal.defs _ _).mono (fun r h => ⟨fun c => (h c).2.2, sem_eq_zero_of_no_sems (by decide) _⟩) (Cert.Reference2Ideal.Value.run m ρ)

/-- The reference of call 3: the same. -/
theorem frame_reference3 : Cert.quiescent_Reference3Ideal := fun m ρ _ =>
  (θ_run Cert.Reference3Ideal.defs _ _).mono (fun r h => ⟨fun c => (h c).2, sem_eq_zero_of_no_sems (by decide) _⟩) (Cert.Reference3Ideal.Value.run m ρ)

/-- The reference of call 4: the same. -/
theorem frame_reference4 : Cert.quiescent_Reference4Ideal := fun m ρ _ =>
  (θ_run Cert.Reference4Ideal.defs _ _).mono (fun r h => ⟨fun c => (h c).2, sem_eq_zero_of_no_sems (by decide) _⟩) (Cert.Reference4Ideal.Value.run m ρ)

/-- The reference of call 5: the same. -/
theorem frame_reference5 : Cert.quiescent_Reference5Ideal := fun m ρ _ =>
  (θ_run Cert.Reference5Ideal.defs _ _).mono (fun r h => ⟨fun c => (h c).2, sem_eq_zero_of_no_sems (by decide) _⟩) (Cert.Reference5Ideal.Value.run m ρ)

/-- The reference of call 6: the same. -/
theorem frame_reference6 : Cert.quiescent_Reference6Ideal := fun m ρ _ =>
  (θ_run Cert.Reference6Ideal.defs _ _).mono (fun r h => ⟨fun c => (h c).2, sem_eq_zero_of_no_sems (by decide) _⟩) (Cert.Reference6Ideal.Value.run m ρ)

/-- The reference of call 7: the same. -/
theorem frame_reference7 : Cert.quiescent_Reference7Ideal := fun m ρ _ =>
  (θ_run Cert.Reference7Ideal.defs _ _).mono (fun r h => ⟨fun c => (h c).2, sem_eq_zero_of_no_sems (by decide) _⟩) (Cert.Reference7Ideal.Value.run m ρ)

/-- The reference of call 8: the same. -/
theorem frame_reference8 : Cert.quiescent_Reference8Ideal := fun m ρ _ =>
  (θ_run Cert.Reference8Ideal.defs _ _).mono (fun r h => ⟨fun c => (h c).2, sem_eq_zero_of_no_sems (by decide) _⟩) (Cert.Reference8Ideal.Value.run m ρ)

/-- The reference of call 9: the same. -/
theorem frame_reference9 : Cert.quiescent_Reference9Ideal := fun m ρ _ =>
  (θ_run Cert.Reference9Ideal.defs _ _).mono (fun r h => ⟨fun c => (h c).2.2, sem_eq_zero_of_no_sems (by decide) _⟩) (Cert.Reference9Ideal.Value.run m ρ)

/-- The reference of call 10: the same. -/
theorem frame_reference10 : Cert.quiescent_Reference10Ideal := fun m ρ _ =>
  (θ_run Cert.Reference10Ideal.defs _ _).mono (fun r h => ⟨fun c => (h c).2.2, sem_eq_zero_of_no_sems (by decide) _⟩) (Cert.Reference10Ideal.Value.run m ρ)

/-- The reference of call 11: the same. -/
theorem frame_reference11 : Cert.quiescent_Reference11Ideal := fun m ρ _ =>
  (θ_run Cert.Reference11Ideal.defs _ _).mono (fun r h => ⟨fun c => (h c).2.2.2, sem_eq_zero_of_no_sems (by decide) _⟩) (Cert.Reference11Ideal.Value.run m ρ)

/-- The reference of call 12: the same. -/
theorem frame_reference12 : Cert.quiescent_Reference12Ideal := fun m ρ _ =>
  (θ_run Cert.Reference12Ideal.defs _ _).mono (fun r h => ⟨fun c => (h c).2.2.2.2, sem_eq_zero_of_no_sems (by decide) _⟩) (Cert.Reference12Ideal.Value.run m ρ)

/-- The reference of call 13: the same. -/
theorem frame_reference13 : Cert.quiescent_Reference13Ideal := fun m ρ _ =>
  (θ_run Cert.Reference13Ideal.defs _ _).mono (fun r h => ⟨fun c => (h c).2.2.2.2, sem_eq_zero_of_no_sems (by decide) _⟩) (Cert.Reference13Ideal.Value.run m ρ)

/-- The reference of call 14: the same. -/
theorem frame_reference14 : Cert.quiescent_Reference14Ideal := fun m ρ _ =>
  (θ_run Cert.Reference14Ideal.defs _ _).mono (fun r h => ⟨fun c => (h c).2.2.2.2, sem_eq_zero_of_no_sems (by decide) _⟩) (Cert.Reference14Ideal.Value.run m ρ)

/-- The reference of call 15: the same. -/
theorem frame_reference15 : Cert.quiescent_Reference15Ideal := fun m ρ _ =>
  (θ_run Cert.Reference15Ideal.defs _ _).mono (fun r h => ⟨fun c => (h c).2.2.2.2, sem_eq_zero_of_no_sems (by decide) _⟩) (Cert.Reference15Ideal.Value.run m ρ)

/-- The reference of call 16: the same. -/
theorem frame_reference16 : Cert.quiescent_Reference16Ideal := fun m ρ _ =>
  (θ_run Cert.Reference16Ideal.defs _ _).mono (fun r h => ⟨fun c => (h c).2, sem_eq_zero_of_no_sems (by decide) _⟩) (Cert.Reference16Ideal.Value.run m ρ)

/-- The reference of call 17: the same. -/
theorem frame_reference17 : Cert.quiescent_Reference17Ideal := fun m ρ _ =>
  (θ_run Cert.Reference17Ideal.defs _ _).mono (fun r h => ⟨fun c => (h c).2, sem_eq_zero_of_no_sems (by decide) _⟩) (Cert.Reference17Ideal.Value.run m ρ)

/-- The reference of call 18: the same. -/
theorem frame_reference18 : Cert.quiescent_Reference18Ideal := fun m ρ _ =>
  (θ_run Cert.Reference18Ideal.defs _ _).mono (fun r h => ⟨fun c => (h c).2.2, sem_eq_zero_of_no_sems (by decide) _⟩) (Cert.Reference18Ideal.Value.run m ρ)

/-- The reference of call 19: the same. -/
theorem frame_reference19 : Cert.quiescent_Reference19Ideal := fun m ρ _ =>
  (θ_run Cert.Reference19Ideal.defs _ _).mono (fun r h => ⟨fun c => (h c).2, sem_eq_zero_of_no_sems (by decide) _⟩) (Cert.Reference19Ideal.Value.run m ρ)

/-- The reference of call 20: the same. -/
theorem frame_reference20 : Cert.quiescent_Reference20Ideal := fun m ρ _ =>
  (θ_run Cert.Reference20Ideal.defs _ _).mono (fun r h => ⟨fun c => (h c).2.2.2.2.2.2, sem_eq_zero_of_no_sems (by decide) _⟩) (Cert.Reference20Ideal.Value.run m ρ)

/-- The reference of call 21: the same. -/
theorem frame_reference21 : Cert.quiescent_Reference21Ideal := fun m ρ _ =>
  (θ_run Cert.Reference21Ideal.defs _ _).mono (fun r h => ⟨fun c => (h c).2, sem_eq_zero_of_no_sems (by decide) _⟩) (Cert.Reference21Ideal.Value.run m ρ)

/-- The reference of call 22: the same. -/
theorem frame_reference22 : Cert.quiescent_Reference22Ideal := fun m ρ _ =>
  (θ_run Cert.Reference22Ideal.defs _ _).mono (fun r h => ⟨fun c => (h c).2, sem_eq_zero_of_no_sems (by decide) _⟩) (Cert.Reference22Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_finite.Gen.facts,
  frame_kernel, fun m ρ _ => Bwd.frame_main m ρ, fun m ρ _ => Bwd.frame_main m ρ, frame_reference, fun m ρ _ => frame_reference m ρ trivial,
  frame_kernel2, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  trivial, Bwd.algebraic, trivial, trivial, MlpIn.algebraic, trivial, MlpOutW.algebraic, trivial, MlpAct.algebraic, trivial, MlpInW.algebraic, trivial, ProjIn.algebraic, trivial, ProjOut.algebraic, trivial, NormIn.algebraic, trivial, NormMlp.algebraic, trivial, MlpLoss.algebraic, trivial, UpdateIn.algebraic, trivial, UpdateGlu.algebraic, trivial, UpdateOut.algebraic, trivial, UpdateMlp.algebraic, trivial, GluW.algebraic, trivial, GluGate.algebraic, trivial, ProjNorm.algebraic, trivial, GluIn.algebraic, trivial, MixBack.algebraic, trivial, MixNorm.algebraic, trivial, NormFirst.algebraic⟩

end Cert.Proof

end
